-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_finite_rows [hPre_finite_rows : Cert.Pre_finite_rows.Facts] (m : (ℓ : Loc Cert.TopKIdeal.nD Cert.TopKIdeal.τ Cert.TopKIdeal.sig) → Buf (Elt Ideal) ℓ) : Prop :=
  ∀ c : Dev Cert.TopKIdeal.nD,
    (Cert.Pre_finite_rows.fn (F := Ideal) (m ((c.tc : Thread Cert.TopKIdeal.nD Cert.TopKIdeal.τ).loc Cert.TopKIdeal.main_arg0)) (m ((c.tc : Thread Cert.TopKIdeal.nD Cert.TopKIdeal.τ).loc Cert.TopKIdeal.main_arg1))).1 = (fun _ => 1#1)
    ∧ (Cert.Pre_finite_rows.fn (F := Ideal) (m ((c.tc : Thread Cert.TopKIdeal.nD Cert.TopKIdeal.τ).loc Cert.TopKIdeal.main_arg0)) (m ((c.tc : Thread Cert.TopKIdeal.nD Cert.TopKIdeal.τ).loc Cert.TopKIdeal.main_arg1))).2 = (fun _ => 1#1)

def Pre_TopKReferenceIdeal (m : (ℓ : Loc Cert.TopKReferenceIdeal.nD Cert.TopKReferenceIdeal.τ Cert.TopKReferenceIdeal.sig) → Buf (Elt Ideal) ℓ) : Prop :=
  True

def Pre_TopKReferenceIdeal_finite_rows [hPre_finite_rows : Cert.Pre_finite_rows.Facts] (m : (ℓ : Loc Cert.TopKReferenceIdeal.nD Cert.TopKReferenceIdeal.τ Cert.TopKReferenceIdeal.sig) → Buf (Elt Ideal) ℓ) : Prop :=
  ∀ c : Dev Cert.TopKReferenceIdeal.nD,
    (Cert.Pre_finite_rows.fn (F := Ideal) (m ((c.tc : Thread Cert.TopKReferenceIdeal.nD Cert.TopKReferenceIdeal.τ).loc Cert.TopKReferenceIdeal.main_arg0)) (m ((c.tc : Thread Cert.TopKReferenceIdeal.nD Cert.TopKReferenceIdeal.τ).loc Cert.TopKReferenceIdeal.main_arg1))).1 = (fun _ => 1#1)
    ∧ (Cert.Pre_finite_rows.fn (F := Ideal) (m ((c.tc : Thread Cert.TopKReferenceIdeal.nD Cert.TopKReferenceIdeal.τ).loc Cert.TopKReferenceIdeal.main_arg0)) (m ((c.tc : Thread Cert.TopKReferenceIdeal.nD Cert.TopKReferenceIdeal.τ).loc Cert.TopKReferenceIdeal.main_arg1))).2 = (fun _ => 1#1)

def Pre_Vote [hPre_rows_in_range : Cert.Pre_rows_in_range.Facts] (m : (ℓ : Loc Cert.Vote.nD Cert.Vote.τ Cert.Vote.sig) → Buf (Elt Bits) ℓ) : Prop :=
  ∀ c : Dev Cert.Vote.nD,
    (Cert.Pre_rows_in_range.fn (F := Bits) (m ((c.tc : Thread Cert.Vote.nD Cert.Vote.τ).loc Cert.Vote.main_arg0)) (m ((c.tc : Thread Cert.Vote.nD Cert.Vote.τ).loc Cert.Vote.main_arg1))) = (fun _ => 1#1)

def Pre_VoteReference (m : (ℓ : Loc Cert.VoteReference.nD Cert.VoteReference.τ Cert.VoteReference.sig) → Buf (Elt Bits) ℓ) : Prop :=
  True

def Pre_VoteReference_rows_in_range [hPre_rows_in_range : Cert.Pre_rows_in_range.Facts] (m : (ℓ : Loc Cert.VoteReference.nD Cert.VoteReference.τ Cert.VoteReference.sig) → Buf (Elt Bits) ℓ) : Prop :=
  ∀ c : Dev Cert.VoteReference.nD,
    (Cert.Pre_rows_in_range.fn (F := Bits) (m ((c.tc : Thread Cert.VoteReference.nD Cert.VoteReference.τ).loc Cert.VoteReference.main_arg0)) (m ((c.tc : Thread Cert.VoteReference.nD Cert.VoteReference.τ).loc Cert.VoteReference.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0)
      ∧ r.2.mem ((c.tc : Thread Cert.TopK.nD Cert.TopK.τ).loc Cert.TopK.main_arg1) = m ((c.tc : Thread Cert.TopK.nD Cert.TopK.τ).loc Cert.TopK.main_arg1))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ r.2.sem = fun _ => 0)

def quiescent_TopKIdeal_pre_finite_rows [hTopKIdeal : Cert.TopKIdeal.Facts] [hPre_finite_rows : Cert.Pre_finite_rows.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite_rows m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ r.2.sem = fun _ => 0)

def quiescent_TopKReferenceIdeal [hTopKReferenceIdeal : Cert.TopKReferenceIdeal.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0)
      ∧ r.2.mem ((c.tc : Thread Cert.TopKReferenceIdeal.nD Cert.TopKReferenceIdeal.τ).loc Cert.TopKReferenceIdeal.main_arg1) = m ((c.tc : Thread Cert.TopKReferenceIdeal.nD Cert.TopKReferenceIdeal.τ).loc Cert.TopKReferenceIdeal.main_arg1))
      ∧ r.2.sem = fun _ => 0)

def quiescent_TopKReferenceIdeal_pre_finite_rows [hTopKReferenceIdeal : Cert.TopKReferenceIdeal.Facts] [hPre_finite_rows : Cert.Pre_finite_rows.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal_finite_rows m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0)
      ∧ r.2.mem ((c.tc : Thread Cert.TopKReferenceIdeal.nD Cert.TopKReferenceIdeal.τ).loc Cert.TopKReferenceIdeal.main_arg1) = m ((c.tc : Thread Cert.TopKReferenceIdeal.nD Cert.TopKReferenceIdeal.τ).loc Cert.TopKReferenceIdeal.main_arg1))
      ∧ r.2.sem = fun _ => 0)

def quiescent_Vote [hVote : Cert.Vote.Facts] [hPre_rows_in_range : Cert.Pre_rows_in_range.Facts] : Prop :=
  ∀ (m : (ℓ : Loc Cert.Vote.nD Cert.Vote.τ Cert.Vote.sig) → Buf (Elt Bits) ℓ) (g : Dev Cert.Vote.nD → PrngReg), Pre_Vote m →
    θ_run (Cert.Vote.defs (F := Bits)) (Cert.Vote.threads (F := Bits)) ⟨m, fun _ => 0, g⟩ (fun r => (∀ c : Dev Cert.Vote.nD,
      r.2.mem ((c.tc : Thread Cert.Vote.nD Cert.Vote.τ).loc Cert.Vote.main_arg0) = m ((c.tc : Thread Cert.Vote.nD Cert.Vote.τ).loc Cert.Vote.main_arg0)
      ∧ r.2.mem ((c.tc : Thread Cert.Vote.nD Cert.Vote.τ).loc Cert.Vote.main_arg1) = m ((c.tc : Thread Cert.Vote.nD Cert.Vote.τ).loc Cert.Vote.main_arg1))
      ∧ r.2.sem = fun _ => 0)

def quiescent_VoteReference [hVoteReference : Cert.VoteReference.Facts] : Prop :=
  ∀ (m : (ℓ : Loc Cert.VoteReference.nD Cert.VoteReference.τ Cert.VoteReference.sig) → Buf (Elt Bits) ℓ) (g : Dev Cert.VoteReference.nD → PrngReg), Pre_VoteReference m →
    θ_run (Cert.VoteReference.defs (F := Bits)) (onTc (τ := Cert.VoteReference.τ) (Cert.VoteReference.main (F := Bits))) ⟨m, fun _ => 0, g⟩ (fun r => (∀ c : Dev Cert.VoteReference.nD,
      r.2.mem ((c.tc : Thread Cert.VoteReference.nD Cert.VoteReference.τ).loc Cert.VoteReference.main_arg0) = m ((c.tc : Thread Cert.VoteReference.nD Cert.VoteReference.τ).loc Cert.VoteReference.main_arg0)
      ∧ r.2.mem ((c.tc : Thread Cert.VoteReference.nD Cert.VoteReference.τ).loc Cert.VoteReference.main_arg1) = m ((c.tc : Thread Cert.VoteReference.nD Cert.VoteReference.τ).loc Cert.VoteReference.main_arg1))
      ∧ r.2.sem = fun _ => 0)

def quiescent_VoteReference_pre_rows_in_range [hVoteReference : Cert.VoteReference.Facts] [hPre_rows_in_range : Cert.Pre_rows_in_range.Facts] : Prop :=
  ∀ (m : (ℓ : Loc Cert.VoteReference.nD Cert.VoteReference.τ Cert.VoteReference.sig) → Buf (Elt Bits) ℓ) (g : Dev Cert.VoteReference.nD → PrngReg), Pre_VoteReference_rows_in_range m →
    θ_run (Cert.VoteReference.defs (F := Bits)) (onTc (τ := Cert.VoteReference.τ) (Cert.VoteReference.main (F := Bits))) ⟨m, fun _ => 0, g⟩ (fun r => (∀ c : Dev Cert.VoteReference.nD,
      r.2.mem ((c.tc : Thread Cert.VoteReference.nD Cert.VoteReference.τ).loc Cert.VoteReference.main_arg0) = m ((c.tc : Thread Cert.VoteReference.nD Cert.VoteReference.τ).loc Cert.VoteReference.main_arg0)
      ∧ r.2.mem ((c.tc : Thread Cert.VoteReference.nD Cert.VoteReference.τ).loc Cert.VoteReference.main_arg1) = m ((c.tc : Thread Cert.VoteReference.nD Cert.VoteReference.τ).loc Cert.VoteReference.main_arg1))
      ∧ r.2.sem = fun _ => 0)

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_TopK_TopKIdeal : Prop :=
  IdealRules.named_const.Statement Cert.TopKIdeal.κ "big" .f32 0x7F61B1E6#32 ⊤

def algebraic_TopKIdeal_TopKReferenceIdeal_pre_finite_rows [hTopKIdeal : Cert.TopKIdeal.Facts] [hTopKReferenceIdeal : Cert.TopKReferenceIdeal.Facts] [hPre_finite_rows : Cert.Pre_finite_rows.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKReferenceIdeal.nD Cert.TopKReferenceIdeal.τ Cert.TopKReferenceIdeal.sig) → Buf (Elt Ideal) ℓ) (g' : Dev Cert.TopKReferenceIdeal.nD → PrngReg), Pre_TopKIdeal_finite_rows m →
    (∀ c : Dev Cert.TopKIdeal.nD,
      m' ((c.tc : Thread Cert.TopKReferenceIdeal.nD Cert.TopKReferenceIdeal.τ).loc Cert.TopKReferenceIdeal.main_arg0) = m ((c.tc : Thread Cert.TopKIdeal.nD Cert.TopKIdeal.τ).loc Cert.TopKIdeal.main_arg0)
      ∧ m' ((c.tc : Thread Cert.TopKReferenceIdeal.nD Cert.TopKReferenceIdeal.τ).loc Cert.TopKReferenceIdeal.main_arg1) = m ((c.tc : Thread Cert.TopKIdeal.nD Cert.TopKIdeal.τ).loc Cert.TopKIdeal.main_arg1)) →
    ∃ (v0 : (c : Dev Cert.TopKIdeal.nD) → Buf (Elt Ideal) ((c.tc : Thread Cert.TopKIdeal.nD Cert.TopKIdeal.τ).loc Cert.TopKIdeal.main_v1)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v1) = v0 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
          ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ θ_run (Cert.TopKReferenceIdeal.defs (F := Ideal)) (onTc (τ := Cert.TopKReferenceIdeal.τ) (Cert.TopKReferenceIdeal.main (F := Ideal))) ⟨m', fun _ => 0, g'⟩ (fun r => ∀ c : Dev Cert.TopKReferenceIdeal.nD,
          r.2.mem ((c.tc : Thread Cert.TopKReferenceIdeal.nD Cert.TopKReferenceIdeal.τ).loc Cert.TopKReferenceIdeal.main_v19) = v0 c
          ∧ r.2.mem ((c.tc : Thread Cert.TopKReferenceIdeal.nD Cert.TopKReferenceIdeal.τ).loc Cert.TopKReferenceIdeal.main_arg0) = m' ((c.tc : Thread Cert.TopKReferenceIdeal.nD Cert.TopKReferenceIdeal.τ).loc Cert.TopKReferenceIdeal.main_arg0)
          ∧ r.2.mem ((c.tc : Thread Cert.TopKReferenceIdeal.nD Cert.TopKReferenceIdeal.τ).loc Cert.TopKReferenceIdeal.main_arg1) = m' ((c.tc : Thread Cert.TopKReferenceIdeal.nD Cert.TopKReferenceIdeal.τ).loc Cert.TopKReferenceIdeal.main_arg1))

def bitexact_Vote_VoteReference [hVote : Cert.Vote.Facts] [hVoteReference : Cert.VoteReference.Facts] [hPre_rows_in_range : Cert.Pre_rows_in_range.Facts] : Prop :=
  ∀ (m : (ℓ : Loc Cert.Vote.nD Cert.Vote.τ Cert.Vote.sig) → Buf (Elt Bits) ℓ) (g : Dev Cert.Vote.nD → PrngReg)
    (m' : (ℓ : Loc Cert.VoteReference.nD Cert.VoteReference.τ Cert.VoteReference.sig) → Buf (Elt Bits) ℓ) (g' : Dev Cert.VoteReference.nD → PrngReg), Pre_Vote m →
    (∀ c : Dev Cert.Vote.nD,
      m' ((c.tc : Thread Cert.VoteReference.nD Cert.VoteReference.τ).loc Cert.VoteReference.main_arg0) = m ((c.tc : Thread Cert.Vote.nD Cert.Vote.τ).loc Cert.Vote.main_arg0)
      ∧ m' ((c.tc : Thread Cert.VoteReference.nD Cert.VoteReference.τ).loc Cert.VoteReference.main_arg1) = m ((c.tc : Thread Cert.Vote.nD Cert.Vote.τ).loc Cert.Vote.main_arg1)) →
    ∃ (v0 : (c : Dev Cert.Vote.nD) → Buf (Elt Bits) ((c.tc : Thread Cert.Vote.nD Cert.Vote.τ).loc Cert.Vote.main_v0)),
      θ_run (Cert.Vote.defs (F := Bits)) (Cert.Vote.threads (F := Bits)) ⟨m, fun _ => 0, g⟩ (fun r => ∀ c : Dev Cert.Vote.nD,
          r.2.mem ((c.tc : Thread Cert.Vote.nD Cert.Vote.τ).loc Cert.Vote.main_v0) = v0 c
          ∧ r.2.mem ((c.tc : Thread Cert.Vote.nD Cert.Vote.τ).loc Cert.Vote.main_arg0) = m ((c.tc : Thread Cert.Vote.nD Cert.Vote.τ).loc Cert.Vote.main_arg0)
          ∧ r.2.mem ((c.tc : Thread Cert.Vote.nD Cert.Vote.τ).loc Cert.Vote.main_arg1) = m ((c.tc : Thread Cert.Vote.nD Cert.Vote.τ).loc Cert.Vote.main_arg1))
      ∧ θ_run (Cert.VoteReference.defs (F := Bits)) (onTc (τ := Cert.VoteReference.τ) (Cert.VoteReference.main (F := Bits))) ⟨m', fun _ => 0, g'⟩ (fun r => ∀ c : Dev Cert.VoteReference.nD,
          r.2.mem ((c.tc : Thread Cert.VoteReference.nD Cert.VoteReference.τ).loc Cert.VoteReference.main_v16) = v0 c
          ∧ r.2.mem ((c.tc : Thread Cert.VoteReference.nD Cert.VoteReference.τ).loc Cert.VoteReference.main_arg0) = m' ((c.tc : Thread Cert.VoteReference.nD Cert.VoteReference.τ).loc Cert.VoteReference.main_arg0)
          ∧ r.2.mem ((c.tc : Thread Cert.VoteReference.nD Cert.VoteReference.τ).loc Cert.VoteReference.main_arg1) = m' ((c.tc : Thread Cert.VoteReference.nD Cert.VoteReference.τ).loc Cert.VoteReference.main_arg1))

def Claim : Prop :=
  ∃ (hKernelIdeal : Cert.KernelIdeal.Facts) (hReferenceIdeal : Cert.ReferenceIdeal.Facts) (hTopK : Cert.TopK.Facts) (hTopKIdeal : Cert.TopKIdeal.Facts) (hTopKReferenceIdeal : Cert.TopKReferenceIdeal.Facts) (hVote : Cert.Vote.Facts) (hVoteReference : Cert.VoteReference.Facts) (hPre_finite_points : Cert.Pre_finite_points.Facts) (hPre_finite_rows : Cert.Pre_finite_rows.Facts) (hPre_rows_in_range : Cert.Pre_rows_in_range.Facts),
    quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ quiescent_TopK (hTopK := hTopK)
    ∧ quiescent_TopKIdeal (hTopKIdeal := hTopKIdeal)
    ∧ quiescent_TopKIdeal_pre_finite_rows (hTopKIdeal := hTopKIdeal) (hPre_finite_rows := hPre_finite_rows)
    ∧ quiescent_TopKReferenceIdeal (hTopKReferenceIdeal := hTopKReferenceIdeal)
    ∧ quiescent_TopKReferenceIdeal_pre_finite_rows (hTopKReferenceIdeal := hTopKReferenceIdeal) (hPre_finite_rows := hPre_finite_rows)
    ∧ quiescent_Vote (hVote := hVote) (hPre_rows_in_range := hPre_rows_in_range)
    ∧ quiescent_VoteReference (hVoteReference := hVoteReference)
    ∧ quiescent_VoteReference_pre_rows_in_range (hVoteReference := hVoteReference) (hPre_rows_in_range := hPre_rows_in_range)
    ∧ algebraic_KernelIdeal_ReferenceIdeal_pre_finite_points (hKernelIdeal := hKernelIdeal) (hReferenceIdeal := hReferenceIdeal) (hPre_finite_points := hPre_finite_points)
    ∧ preserves_TopK_TopKIdeal
    ∧ algebraic_TopKIdeal_TopKReferenceIdeal_pre_finite_rows (hTopKIdeal := hTopKIdeal) (hTopKReferenceIdeal := hTopKReferenceIdeal) (hPre_finite_rows := hPre_finite_rows)
    ∧ bitexact_Vote_VoteReference (hVote := hVote) (hVoteReference := hVoteReference) (hPre_rows_in_range := hPre_rows_in_range)
-- ==== Pre_finite_points.lean ====
abbrev S100000x32 : Shape := ⟨2, ![100000, 32]⟩
abbrev S1024x32 : Shape := ⟨2, ![1024, 32]⟩
abbrev S100000 : Shape := ⟨1, ![100000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S100000x32 .f32) (main_arg1 : FVec F S1024x32 .f32) (main_arg2 : IVec S100000 32) : IVec S_ 1 × IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  (main_v3, main_v7)
-- ==== Pre_finite_rows.lean ====
abbrev S100000x32 : Shape := ⟨2, ![100000, 32]⟩
abbrev S1024x32 : Shape := ⟨2, ![1024, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S100000x32 .f32) (main_arg1 : FVec F S1024x32 .f32) : IVec S_ 1 × IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  (main_v3, main_v7)
-- ==== Pre_rows_in_range.lean ====
abbrev S8x1024 : Shape := ⟨2, ![8, 1024]⟩
abbrev S100000 : Shape := ⟨1, ![100000]⟩
abbrev S5x1024 : Shape := ⟨2, ![5, 1024]⟩
abbrev S_ : Shape := ⟨0, ![]⟩

class Facts : Prop where
  slices_S8x1024_S5x1024_0_0 : S8x1024.Slices ![0, 0] S5x1024
  bcast_S_S5x1024 : S_.BroadcastsInDim S5x1024 (![] : Fin 0 → Fin S5x1024.rank)

variable [Facts]

def fn {F : FTy → Type} [FloatOps F] (main_arg0 : IVec S8x1024 32) (main_arg1 : IVec S100000 32) : IVec S5x1024 1 :=
  let main_v0 : IVec S5x1024 32 := (extractStridedSlice S5x1024 ![0, 0] · slices_S8x1024_S5x1024_0_0) main_arg0
  let main_c : IVec S_ 32 := constantI S_ 32 0#32
  let main_v1 : IVec S5x1024 32 := broadcastInDim S5x1024 ![] bcast_S_S5x1024 main_c
  let main_v2 : IVec S5x1024 1 := cmpi .sge main_v0 main_v1
  let main_v3 : IVec S5x1024 32 := (extractStridedSlice S5x1024 ![0, 0] · slices_S8x1024_S5x1024_0_0) main_arg0
  let main_c_0 : IVec S_ 32 := constantI S_ 32 100000#32
  let main_v4 : IVec S5x1024 32 := broadcastInDim S5x1024 ![] bcast_S_S5x1024 main_c_0
  let main_v5 : IVec S5x1024 1 := cmpi .slt main_v3 main_v4
  let main_v6 : IVec S5x1024 1 := andi main_v2 main_v5
  main_v6
-- ==== KernelIdeal.lean ====
abbrev S100000x32 : Shape := ⟨2, ![100000, 32]⟩
abbrev S1024x32 : Shape := ⟨2, ![1024, 32]⟩
abbrev S100000 : Shape := ⟨1, ![100000]⟩
abbrev S32x1024 : Shape := ⟨2, ![32, 1024]⟩
abbrev S8x1024 : Shape := ⟨2, ![8, 1024]⟩
abbrev S2000x32 : Shape := ⟨2, ![2000, 32]⟩
abbrev S2000 : Shape := ⟨1, ![2000]⟩
abbrev S2000x1 : Shape := ⟨2, ![2000, 1]⟩
abbrev S1024 : Shape := ⟨1, ![1024]⟩
abbrev S1x1024 : Shape := ⟨2, ![1, 1024]⟩
abbrev S2000x1024 : Shape := ⟨2, ![2000, 1024]⟩
abbrev S5x32 : Shape := ⟨2, ![5, 32]⟩
abbrev S32 : Shape := ⟨1, ![32]⟩
abbrev S_ : Shape := ⟨0, ![]⟩
abbrev S1x32 : Shape := ⟨2, ![1, 32]⟩
abbrev S16 : Shape := ⟨1, ![16]⟩
abbrev S1x16 : Shape := ⟨2, ![1, 16]⟩

abbrev nBuf : Table → Nat
  | .hbm => 6
  | .local .tc .vmem => 6
  | .local .scVector .vmem => 3
  | _ => 0

abbrev bufTy : (tb : Table) → Fin (nBuf tb) → BufTy
  | .hbm, ⟨0, _⟩ => ⟨S100000x32, .f32⟩
  | .hbm, ⟨1, _⟩ => ⟨S1024x32, .f32⟩
  | .hbm, ⟨2, _⟩ => ⟨S100000, .i32⟩
  | .hbm, ⟨3, _⟩ => ⟨S32x1024, .f32⟩
  | .hbm, ⟨4, _⟩ => ⟨S8x1024, .i32⟩
  | .hbm, ⟨5, _⟩ => ⟨S1024, .i32⟩
  | .local .tc .vmem, ⟨0, _⟩ => ⟨S2000x32, .f32⟩
  | .local .tc .vmem, ⟨1, _⟩ => ⟨S2000x32, .f32⟩
  | .local .tc .vmem, ⟨2, _⟩ => ⟨S32x1024, .f32⟩
  | .local .tc .vmem, ⟨3, _⟩ => ⟨S8x1024, .i32⟩
  | .local .tc .vmem, ⟨4, _⟩ => ⟨S8x1024, .f32⟩
  | .local .tc .vmem, ⟨5, _⟩ => ⟨S8x1024, .i32⟩
  | .local .scVector .vmem, ⟨0, _⟩ => ⟨S5x32, .i32⟩
  | .local .scVector .vmem, ⟨1, _⟩ => ⟨S5x32, .i32⟩
  | .local .scVector .vmem, ⟨2, _⟩ => ⟨S32, .i32⟩
  | _, _ => ⟨S100000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "big" => some ⊤
  | _ => none

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v180 : BitVec 1 := Scalar.cmpi .eq arg0 c49_i32
  let v181 : BitVec 32 := Scalar.extui v180
  let c0_i32_65 : BitVec 32 := 0#32
  let v182 : BitVec 1 := Scalar.cmpi .ne v181 c0_i32_65
  v182

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![0, v2.toNat]
def k1_off2 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![1, v2.toNat]
def k1_off3 (i : grid1.Coords) : Fin 2 → Nat :=
  let c2_i32_2 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![2, v2.toNat]
def k1_off4 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![3, v2.toNat]
def k1_off5 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![4, v2.toNat]
def k1_off6 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x32 : Shape := ⟨2, ![100000, 32]⟩
abbrev S1024x32 : Shape := ⟨2, ![1024, 32]⟩
abbrev S100000 : Shape := ⟨1, ![100000]⟩
abbrev S_ : Shape := ⟨0, ![]⟩
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩
abbrev S32x100000 : Shape := ⟨2, ![32, 100000]⟩
abbrev S1024x5 : Shape := ⟨2, ![1024, 5]⟩
abbrev S1024x5x1 : Shape := ⟨3, ![1024, 5, 1]⟩
abbrev S1 : Shape := ⟨1, ![1]⟩
abbrev S1x1x1 : Shape := ⟨3, ![1, 1, 1]⟩
abbrev S1024x1x5 : Shape := ⟨3, ![1024, 1, 5]⟩
abbrev S1024x5x5 : Shape := ⟨3, ![1024, 5, 5]⟩
abbrev S1024x1x1 : Shape := ⟨3, ![1024, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1024x32, .f32⟩
  | .hbm, ⟨2, _⟩ => ⟨S100000, .i32⟩
  | .hbm, ⟨3, _⟩ => ⟨S1024x32, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x32, .f32⟩
  | .hbm, ⟨8, _⟩ => ⟨S_, .f32⟩
  | .hbm, ⟨9, _⟩ => ⟨S100000, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S32x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S_, .f32⟩
  | .hbm, ⟨21, _⟩ => ⟨S1024x100000, .f32⟩
  | .hbm, ⟨22, _⟩ => ⟨S1024x100000, .f32⟩
  | .hbm, ⟨23, _⟩ => ⟨S1024x100000, .f32⟩
  | .hbm, ⟨24, _⟩ => ⟨S1024x100000, .f32⟩
  | .hbm, ⟨25, _⟩ => ⟨S1024x5, .f32⟩
  | .hbm, ⟨26, _⟩ => ⟨S1024x5, .i32⟩
  | .hbm, ⟨27, _⟩ => ⟨S_, .i32⟩
  | .hbm, ⟨28, _⟩ => ⟨S1024x5, .i32⟩
  | .hbm, ⟨29, _⟩ => ⟨S1024x5, .i1⟩
  | .hbm, ⟨30, _⟩ => ⟨S_, .i32⟩
  | .hbm, ⟨31, _⟩ => ⟨S1024x5, .i32⟩
  | .hbm, ⟨32, _⟩ => ⟨S1024x5, .i32⟩
  | .hbm, ⟨33, _⟩ => ⟨S1024x5, .i32⟩
  | .hbm, ⟨34, _⟩ => ⟨S1024x5x1, .i32⟩
  | .hbm, ⟨35, _⟩ => ⟨S1, .i32⟩
  | .hbm, ⟨36, _⟩ => ⟨S_, .i32⟩
  | .hbm, ⟨37, _⟩ => ⟨S1024x5x1, .i32⟩
  | .hbm, ⟨38, _⟩ => ⟨S1024x5x1, .i1⟩
  | .hbm, ⟨39, _⟩ => ⟨S1x1x1, .i32⟩
  | .hbm, ⟨40, _⟩ => ⟨S1024x5x1, .i32⟩
  | .hbm, ⟨41, _⟩ => ⟨S1024x5x1, .i1⟩
  | .hbm, ⟨42, _⟩ => ⟨S1024x5x1, .i1⟩
  | .hbm, ⟨43, _⟩ => ⟨S_, .i1⟩
  | .hbm, ⟨44, _⟩ => ⟨S1024x5, .i1⟩
  | .hbm, ⟨45, _⟩ => ⟨S1024x5, .i32⟩
  | .hbm, ⟨46, _⟩ => ⟨S_, .i32⟩
  | .hbm, ⟨47, _⟩ => ⟨S1024x5, .i32⟩
  | .hbm, ⟨48, _⟩ => ⟨S1024x5, .i32⟩
  | .hbm, ⟨49, _⟩ => ⟨S1024x5x1, .i32⟩
  | .hbm, ⟨50, _⟩ => ⟨S1024x1x5, .i32⟩
  | .hbm, ⟨51, _⟩ => ⟨S1024x5x5, .i32⟩
  | .hbm, ⟨52, _⟩ => ⟨S1024x5x5, .i32⟩
  | .hbm, ⟨53, _⟩ => ⟨S1024x5x5, .i1⟩
  | .hbm, ⟨54, _⟩ => ⟨S1024x5x5, .i32⟩
  | .hbm, ⟨55, _⟩ => ⟨S_, .i32⟩
  | .hbm, ⟨56, _⟩ => ⟨S1024x5, .i32⟩
  | .hbm, ⟨57, _⟩ => ⟨S_, .i32⟩
  | .hbm, ⟨58, _⟩ => ⟨S1024x5, .i32⟩
  | .hbm, ⟨59, _⟩ => ⟨S1024x5, .i32⟩
  | .hbm, ⟨60, _⟩ => ⟨S1024x5, .i32⟩
  | .hbm, ⟨61, _⟩ => ⟨S1024x5, .i32⟩
  | .hbm, ⟨62, _⟩ => ⟨S_, .i32⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024x1, .i32⟩
  | .hbm, ⟨67, _⟩ => ⟨S_, .i32⟩
  | .hbm, ⟨68, _⟩ => ⟨S1024x1, .i32⟩
  | .hbm, ⟨69, _⟩ => ⟨S1024x1, .i1⟩
  | .hbm, ⟨70, _⟩ => ⟨S_, .i32⟩
  | .hbm, ⟨71, _⟩ => ⟨S1024x1, .i32⟩
  | .hbm, ⟨72, _⟩ => ⟨S1024x1, .i32⟩
  | .hbm, ⟨73, _⟩ => ⟨S1024x1, .i32⟩
  | .hbm, ⟨74, _⟩ => ⟨S1024x1x1, .i32⟩
  | .hbm, ⟨75, _⟩ => ⟨S1, .i32⟩
  | .hbm, ⟨76, _⟩ => ⟨S_, .i32⟩
  | .hbm, ⟨77, _⟩ => ⟨S1024x1x1, .i32⟩
  | .hbm, ⟨78, _⟩ => ⟨S1024x1x1, .i1⟩
  | .hbm, ⟨79, _⟩ => ⟨S1x1x1, .i32⟩
  | .hbm, ⟨80, _⟩ => ⟨S1024x1x1, .i32⟩
  | .hbm, ⟨81, _⟩ => ⟨S1024x1x1, .i1⟩
  | .hbm, ⟨82, _⟩ => ⟨S1024x1x1, .i1⟩
  | .hbm, ⟨83, _⟩ => ⟨S_, .i1⟩
  | .hbm, ⟨84, _⟩ => ⟨S1024x1, .i1⟩
  | .hbm, ⟨85, _⟩ => ⟨S1024x1, .i32⟩
  | .hbm, ⟨86, _⟩ => ⟨S_, .i32⟩
  | .hbm, ⟨87, _⟩ => ⟨S1024x1, .i32⟩
  | .hbm, ⟨88, _⟩ => ⟨S1024x1, .i32⟩
  | .hbm, ⟨89, _⟩ => ⟨S1024, .i32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_c_4 : Ref sig .tc := ⟨.hbm, 46, rfl⟩
abbrev main_call0_v14 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c : Ref sig .tc := ⟨.hbm, 55, rfl⟩
abbrev main_v25 : Ref sig .tc := ⟨.hbm, 56, rfl⟩
abbrev main_c_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call1_v0 : Ref sig .tc := ⟨.hbm, 61, rfl⟩
abbrev main_call1_c : Ref sig .tc := ⟨.hbm, 62, rfl⟩
abbrev main_call1_c_0 : Ref sig .tc := ⟨.hbm, 63, rfl⟩
abbrev main_call1_v1_0 : Ref sig .tc := ⟨.hbm, 64, rfl⟩
abbrev main_v29 : Ref sig .tc := ⟨.hbm, 65, rfl⟩
abbrev main_v30 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_c_4 : Ref sig .tc := ⟨.hbm, 86, rfl⟩
abbrev main_call2_v14 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]
-- ==== TopK.lean ====
abbrev S100000x32 : Shape := ⟨2, ![100000, 32]⟩
abbrev S1024x32 : Shape := ⟨2, ![1024, 32]⟩
abbrev S32x1024 : Shape := ⟨2, ![32, 1024]⟩
abbrev S8x1024 : Shape := ⟨2, ![8, 1024]⟩
abbrev S2000x32 : Shape := ⟨2, ![2000, 32]⟩
abbrev S2000 : Shape := ⟨1, ![2000]⟩
abbrev S2000x1 : Shape := ⟨2, ![2000, 1]⟩
abbrev S1024 : Shape := ⟨1, ![1024]⟩
abbrev S1x1024 : Shape := ⟨2, ![1, 1024]⟩
abbrev S2000x1024 : Shape := ⟨2, ![2000, 1024]⟩

abbrev nBuf : Space → Nat
  | .hbm => 4
  | .vmem => 6
  | .smem => 0
  | _ => 0

abbrev bufTy : (tb : Table) → Fin (tcTables nBuf tb) → BufTy
  | .hbm, ⟨0, _⟩ => ⟨S100000x32, .f32⟩
  | .hbm, ⟨1, _⟩ => ⟨S1024x32, .f32⟩
  | .hbm, ⟨2, _⟩ => ⟨S32x1024, .f32⟩
  | .hbm, ⟨3, _⟩ => ⟨S8x1024, .i32⟩
  | .local _ .vmem, ⟨0, _⟩ => ⟨S2000x32, .f32⟩
  | .local _ .vmem, ⟨1, _⟩ => ⟨S2000x32, .f32⟩
  | .local _ .vmem, ⟨2, _⟩ => ⟨S32x1024, .f32⟩
  | .local _ .vmem, ⟨3, _⟩ => ⟨S8x1024, .i32⟩
  | .local _ .vmem, ⟨4, _⟩ => ⟨S8x1024, .f32⟩
  | .local _ .vmem, ⟨5, _⟩ => ⟨S8x1024, .i32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v180 : BitVec 1 := Scalar.cmpi .eq arg0 c49_i32
  let v181 : BitVec 32 := Scalar.extui v180
  let c0_i32_65 : BitVec 32 := 0#32
  let v182 : BitVec 1 := Scalar.cmpi .ne v181 c0_i32_65
  v182

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TopKIdeal.lean ====
variable {F : FTy → Type} [FloatOps F] [Named F]
def κ : String → Option EReal := fun
  | "big" => some ⊤
  | _ => none
-- ==== TopKReferenceIdeal.lean ====
abbrev S100000x32 : Shape := ⟨2, ![100000, 32]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S32x100000 : Shape := ⟨2, ![32, 100000]⟩
abbrev S1024x5 : Shape := ⟨2, ![1024, 5]⟩
abbrev S5x1024 : Shape := ⟨2, ![5, 1024]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1024x32, .f32⟩
  | .hbm, ⟨2, _⟩ => ⟨S1024x32, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x32, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S32x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S1024x100000, .f32⟩
  | .hbm, ⟨24, _⟩ => ⟨S1024x5, .f32⟩
  | .hbm, ⟨25, _⟩ => ⟨S1024x5, .i32⟩
  | .hbm, ⟨26, _⟩ => ⟨S5x1024, .i32⟩
  | .hbm, ⟨27, _⟩ => ⟨S_, .i32⟩
  | .hbm, ⟨28, _⟩ => ⟨S_, .i32⟩
  | .hbm, ⟨29, _⟩ => ⟨S8x1024, .i32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Vote.lean ====
abbrev S8x1024 : Shape := ⟨2, ![8, 1024]⟩
abbrev S100000 : Shape := ⟨1, ![100000]⟩
abbrev S1024 : Shape := ⟨1, ![1024]⟩
abbrev S5x32 : Shape := ⟨2, ![5, 32]⟩
abbrev S32 : Shape := ⟨1, ![32]⟩
abbrev S_ : Shape := ⟨0, ![]⟩
abbrev S1x32 : Shape := ⟨2, ![1, 32]⟩
abbrev S16 : Shape := ⟨1, ![16]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S8x1024, .i32⟩
  | .hbm, ⟨1, _⟩ => ⟨S100000, .i32⟩
  | .hbm, ⟨2, _⟩ => ⟨S1024, .i32⟩
  | .local .scVector .vmem, ⟨0, _⟩ => ⟨S5x32, .i32⟩
  | .local .scVector .vmem, ⟨1, _⟩ => ⟨S5x32, .i32⟩
  | .local .scVector .vmem, ⟨2, _⟩ => ⟨S32, .i32⟩
  | _, _ => ⟨S8x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![0, v2.toNat]
def k0_off2 (i : grid0.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![1, v2.toNat]
def k0_off3 (i : grid0.Coords) : Fin 2 → Nat :=
  let c2_i32_2 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![2, v2.toNat]
def k0_off4 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![3, v2.toNat]
def k0_off5 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![4, v2.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== VoteReference.lean ====
abbrev S8x1024 : Shape := ⟨2, ![8, 1024]⟩
abbrev S100000 : Shape := ⟨1, ![100000]⟩
abbrev S5x1024 : Shape := ⟨2, ![5, 1024]⟩
abbrev S1024x5 : Shape := ⟨2, ![1024, 5]⟩
abbrev S_ : Shape := ⟨0, ![]⟩
abbrev S1024x5x1 : Shape := ⟨3, ![1024, 5, 1]⟩
abbrev S1 : Shape := ⟨1, ![1]⟩
abbrev S1x1x1 : Shape := ⟨3, ![1, 1, 1]⟩
abbrev S1024x1x5 : Shape := ⟨3, ![1024, 1, 5]⟩
abbrev S1024x5x5 : Shape := ⟨3, ![1024, 5, 5]⟩
abbrev S1024 : Shape := ⟨1, ![1024]⟩
abbrev S1024x1 : Shape := ⟨2, ![1024, 1]⟩
abbrev S1024x1x1 : Shape := ⟨3, ![1024, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S100000, .i32⟩
  | .hbm, ⟨2, _⟩ => ⟨S5x1024, .i32⟩
  | .hbm, ⟨3, _⟩ => ⟨S1024x5, .i32⟩
  | .hbm, ⟨4, _⟩ => ⟨S_, .i32⟩
  | .hbm, ⟨5, _⟩ => ⟨S1024x5, .i32⟩
  | .hbm, ⟨6, _⟩ => ⟨S1024x5, .i1⟩
  | .hbm, ⟨7, _⟩ => ⟨S_, .i32⟩
  | .hbm, ⟨8, _⟩ => ⟨S1024x5, .i32⟩
  | .hbm, ⟨9, _⟩ => ⟨S1024x5, .i32⟩
  | .hbm, ⟨10, _⟩ => ⟨S1024x5, .i32⟩
  | .hbm, ⟨11, _⟩ => ⟨S1024x5x1, .i32⟩
  | .hbm, ⟨12, _⟩ => ⟨S1, .i32⟩
  | .hbm, ⟨13, _⟩ => ⟨S_, .i32⟩
  | .hbm, ⟨14, _⟩ => ⟨S1024x5x1, .i32⟩
  | .hbm, ⟨15, _⟩ => ⟨S1024x5x1, .i1⟩
  | .hbm, ⟨16, _⟩ => ⟨S1x1x1, .i32⟩
  | .hbm, ⟨17, _⟩ => ⟨S1024x5x1, .i32⟩
  | .hbm, ⟨18, _⟩ => ⟨S1024x5x1, .i1⟩
  | .hbm, ⟨19, _⟩ => ⟨S1024x5x1, .i1⟩
  | .hbm, ⟨20, _⟩ => ⟨S_, .i1⟩
  | .hbm, ⟨21, _⟩ => ⟨S1024x5, .i1⟩
  | .hbm, ⟨22, _⟩ => ⟨S1024x5, .i32⟩
  | .hbm, ⟨23, _⟩ => ⟨S_, .i32⟩
  | .hbm, ⟨24, _⟩ => ⟨S1024x5, .i32⟩
  | .hbm, ⟨25, _⟩ => ⟨S1024x5, .i32⟩
  | .hbm, ⟨26, _⟩ => ⟨S1024x5x1, .i32⟩
  | .hbm, ⟨27, _⟩ => ⟨S1024x1x5, .i32⟩
  | .hbm, ⟨28, _⟩ => ⟨S1024x5x5, .i32⟩
  | .hbm, ⟨29, _⟩ => ⟨S1024x5x5, .i32⟩
  | .hbm, ⟨30, _⟩ => ⟨S1024x5x5, .i1⟩
  | .hbm, ⟨31, _⟩ => ⟨S1024x5x5, .i32⟩
  | .hbm, ⟨32, _⟩ => ⟨S_, .i32⟩
  | .hbm, ⟨33, _⟩ => ⟨S1024x5, .i32⟩
  | .hbm, ⟨34, _⟩ => ⟨S_, .i32⟩
  | .hbm, ⟨35, _⟩ => ⟨S1024x5, .i32⟩
  | .hbm, ⟨36, _⟩ => ⟨S1024x5, .i32⟩
  | .hbm, ⟨37, _⟩ => ⟨S1024x5, .i32⟩
  | .hbm, ⟨38, _⟩ => ⟨S1024x5, .i32⟩
  | .hbm, ⟨39, _⟩ => ⟨S_, .i32⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S_, .i32⟩
  | .hbm, ⟨48, _⟩ => ⟨S1024x1, .i32⟩
  | .hbm, ⟨49, _⟩ => ⟨S1024x1, .i32⟩
  | .hbm, ⟨50, _⟩ => ⟨S1024x1, .i32⟩
  | .hbm, ⟨51, _⟩ => ⟨S1024x1x1, .i32⟩
  | .hbm, ⟨52, _⟩ => ⟨S1, .i32⟩
  | .hbm, ⟨53, _⟩ => ⟨S_, .i32⟩
  | .hbm, ⟨54, _⟩ => ⟨S1024x1x1, .i32⟩
  | .hbm, ⟨55, _⟩ => ⟨S1024x1x1, .i1⟩
  | .hbm, ⟨56, _⟩ => ⟨S1x1x1, .i32⟩
  | .hbm, ⟨57, _⟩ => ⟨S1024x1x1, .i32⟩
  | .hbm, ⟨58, _⟩ => ⟨S1024x1x1, .i1⟩
  | .hbm, ⟨59, _⟩ => ⟨S1024x1x1, .i1⟩
  | .hbm, ⟨60, _⟩ => ⟨S_, .i1⟩
  | .hbm, ⟨61, _⟩ => ⟨S1024x1, .i1⟩
  | .hbm, ⟨62, _⟩ => ⟨S1024x1, .i32⟩
  | .hbm, ⟨63, _⟩ => ⟨S_, .i32⟩
  | .hbm, ⟨64, _⟩ => ⟨S1024x1, .i32⟩
  | .hbm, ⟨65, _⟩ => ⟨S1024x1, .i32⟩
  | .hbm, ⟨66, _⟩ => ⟨S1024, .i32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_v0 : Ref sig .tc := ⟨.hbm, 38, rfl⟩
abbrev main_call1_c : Ref sig .tc := ⟨.hbm, 39, rfl⟩
abbrev main_call1_c_0 : Ref sig .tc := ⟨.hbm, 40, rfl⟩
abbrev main_call1_v1_0 : Ref sig .tc := ⟨.hbm, 41, rfl⟩
abbrev main_v13 : Ref sig .tc := ⟨.hbm, 42, rfl⟩
abbrev main_v14 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_c_4 : Ref sig .tc := ⟨.hbm, 63, rfl⟩
abbrev main_call2_v14 : Ref sig .tc := ⟨.hbm, 64, rfl⟩
abbrev main_v15 : Ref sig .tc := ⟨.hbm, 65, rfl⟩
abbrev main_v16 : Ref sig .tc := ⟨.hbm, 66, rfl⟩

abbrev nD : Nat := 1
abbrev τ : Topo := Topo.v7x

variable {F : FTy → Type} [FloatOps F]
-- ==== Proof.TopKFrames.lean ====
/-
  The nearest rows' programs end, and leave their arguments as they were.
-/
module

public import proofs.«01_k».proof.Defs
public import proofs.«01_k».proof.Proof.Gen.TopK.Frame
public import proofs.«01_k».proof.Proof.Gen.TopKIdeal.Frame
public import proofs.«01_k».proof.Proof.Gen.TopKReferenceIdeal.Run
public import proofs.«01_k».proof.Proof.Gen.Pre_finite_rows

@[expose] public section

noncomputable section

namespace Cert.Proof.Near

open Idealize.ShloMosaic Idealize.SL.Sem

theorem frame : Cert.quiescent_TopK := fun m ρ _ => Cert.TopK.Gen.frame (F := Bits) m ρ

theorem frame_ideal : Cert.quiescent_TopKIdeal := fun m ρ _ => Cert.TopKIdeal.Gen.frame (F := Ideal) m ρ

theorem frame_ideal_finite : Cert.quiescent_TopKIdeal_pre_finite_rows := fun m ρ _ => Cert.TopKIdeal.Gen.frame (F := Ideal) m ρ

/-- The reference has no semaphores, so its counters are zero in any state. -/
theorem sems_zero (s : MemSt Cert.TopKReferenceIdeal.nD Cert.TopKReferenceIdeal.τ Cert.TopKReferenceIdeal.sig (Elt Ideal)) :
    s.sem = fun _ => 0 := by
  funext g
  match g with
  | (_, .reg k) => exact k.elim0
  | (_, .dma k) => exact k.elim0

theorem frame_reference : Cert.quiescent_TopKReferenceIdeal := fun m ρ _ =>
  (θ_run Cert.TopKReferenceIdeal.defs _ _).mono (fun r h => ⟨fun c => (h c).2, sems_zero r.2⟩)
    (Cert.TopKReferenceIdeal.Value.run (F := Ideal) m ρ)

theorem frame_reference_finite : Cert.quiescent_TopKReferenceIdeal_pre_finite_rows := fun m ρ _ =>
  frame_reference m ρ trivial

theorem preserves : Cert.preserves_TopK_TopKIdeal :=
  IdealRules.named_const.statement Cert.TopKIdeal.κ "big" .f32 0x7F61B1E6#32 ⊤ rfl

end Cert.Proof.Near

end
-- ==== Proof.Nearest.lean ====
/-
The nearest rows of a finite set, in order: rows are numbered, `D` gives each row's distance, and a row comes before
another when its distance is less, or equal and its number less. Taking the first row away again and again gives the
nearest five. Two facts are proved of them. A set whose first five have been kept may lose the rest of its rows before
further rows join it, and the first five of the whole are not changed. And the stable sort of a row of distances
begins with them.
-/
module

public import Idealize.ShloMosaic.Lib.SortPrefix
public import Mathlib.Data.EReal.Basic
public import Mathlib.Data.Prod.Lex
public import Mathlib.Data.Finset.Max

@[expose] public section

noncomputable section

namespace Cert.Proof.Near

open Idealize.ShloMosaic

variable (D : ℕ → EReal)

/-- What rows are ordered by: the distance, then the number. -/
def key (p : ℕ) : EReal ×ₗ ℕ := toLex (D p, p)

theorem key_le {p q : ℕ} : key D p ≤ key D q ↔ D p < D q ∨ (D p = D q ∧ p ≤ q) := by
  unfold key; rw [Prod.Lex.le_iff]; rfl

theorem key_inj {p q : ℕ} (h : key D p = key D q) : p = q := congrArg (fun z => (ofLex z).2) h

/-- The first row of a set. -/
def best (s : Finset ℕ) : ℕ :=
  if h : s.Nonempty then (ofLex ((s.image (key D)).min' (h.image _))).2 else 0

variable {D} in
theorem best_spec {s : Finset ℕ} (h : s.Nonempty) : best D s ∈ s ∧ ∀ q ∈ s, key D (best D s) ≤ key D q := by
  obtain ⟨p, hp, e⟩ := Finset.mem_image.mp ((s.image (key D)).min'_mem (h.image _))
  have hb : best D s = p := by
    unfold best; rw [dif_pos h, ← e]; rfl
  refine ⟨hb ▸ hp, fun q hq => ?_⟩
  rw [hb, e]
  exact Finset.min'_le _ _ (Finset.mem_image_of_mem _ hq)

variable {D} in
theorem best_eq {s : Finset ℕ} {p : ℕ} (hp : p ∈ s) (h : ∀ q ∈ s, key D p ≤ key D q) : best D s = p :=
  key_inj D (le_antisymm ((best_spec ⟨p, hp⟩).2 p hp) (h _ (best_spec ⟨p, hp⟩).1))

/-- The first `k` rows of a set. -/
def chosen (s : Finset ℕ) : ℕ → Finset ℕ
  | 0 => ∅
  | k + 1 => insert (best D (s \ chosen s k)) (chosen s k)

/-- The row that comes `k`-th (from 0). -/
def pick (s : Finset ℕ) (k : ℕ) : ℕ := best D (s \ chosen D s k)

theorem chosen_succ (s : Finset ℕ) (k : ℕ) : chosen D s (k + 1) = insert (pick D s k) (chosen D s k) := rfl

theorem mem_chosen {s : Finset ℕ} {k p : ℕ} : p ∈ chosen D s k ↔ ∃ i < k, pick D s i = p := by
  induction k with
  | zero => simp [chosen]
  | succ k ih =>
    rw [chosen_succ, Finset.mem_insert, ih]
    constructor
    · rintro (rfl | ⟨i, hi, e⟩)
      · exact ⟨k, by omega, rfl⟩
      · exact ⟨i, by omega, e⟩
    · rintro ⟨i, hi, e⟩
      rcases Nat.lt_succ_iff_lt_or_eq.mp hi with h | rfl
      · exact .inr ⟨i, h, e⟩
      · exact .inl e.symm

variable {D}

theorem chosen_facts {s : Finset ℕ} {k : ℕ} (hk : k ≤ s.card) : chosen D s k ⊆ s ∧ (chosen D s k).card = k := by
  induction k with
  | zero => simp [chosen]
  | succ k ih =>
    obtain ⟨hs, hc⟩ := ih (by omega)
    have hne : (s \ chosen D s k).Nonempty := by
      rw [← Finset.card_pos, Finset.card_sdiff_of_subset hs]; omega
    obtain ⟨hm, -⟩ := best_spec (D := D) hne
    rw [Finset.mem_sdiff] at hm
    refine ⟨Finset.insert_subset hm.1 hs, ?_⟩
    unfold chosen
    rw [Finset.card_insert_of_notMem hm.2, hc]

theorem rest_nonempty {s : Finset ℕ} {k : ℕ} (hk : k < s.card) : (s \ chosen D s k).Nonempty := by
  obtain ⟨hs, hc⟩ := chosen_facts (D := D) hk.le
  rw [← Finset.card_pos, Finset.card_sdiff_of_subset hs]; omega

theorem pick_mem {s : Finset ℕ} {k : ℕ} (hk : k < s.card) : pick D s k ∈ s \ chosen D s k :=
  (best_spec (rest_nonempty hk)).1

theorem pick_le {s : Finset ℕ} {k : ℕ} {q : ℕ} (hq : q ∈ s \ chosen D s k) : key D (pick D s k) ≤ key D q :=
  (best_spec ⟨q, hq⟩).2 q hq

/-- Every row left out comes after every row chosen. -/
theorem chosen_le {s : Finset ℕ} {k q b : ℕ} (hq : q ∈ chosen D s k) (hb : b ∈ s) (hn : b ∉ chosen D s k) :
    key D q ≤ key D b := by
  obtain ⟨i, hi, rfl⟩ := (mem_chosen D).mp hq
  refine pick_le (Finset.mem_sdiff.mpr ⟨hb, fun hc => hn ?_⟩)
  obtain ⟨j, hj, e⟩ := (mem_chosen D).mp hc
  exact (mem_chosen D).mpr ⟨j, by omega, e⟩

/-- A set cut to its first five and joined by further rows has the first five of the whole. -/
theorem merge {s T : Finset ℕ} (hs : s = ∅ ∨ 5 ≤ s.card) (h5 : 5 ≤ (s ∪ T).card) {c : Finset ℕ}
    (hc : c = if s = ∅ then ∅ else chosen D s 5) (k : ℕ) (hk : k ≤ 5) :
    chosen D (c ∪ T) k = chosen D (s ∪ T) k ∧ (k < 5 → pick D (c ∪ T) k = pick D (s ∪ T) k) := by
  have hsub : c ⊆ s := by
    rcases hs with rfl | h
    · rw [hc, if_pos rfl]
    · rw [hc]; split
      · exact Finset.empty_subset _
      · exact (chosen_facts h).1
  have pickk : ∀ k < 5, chosen D (c ∪ T) k = chosen D (s ∪ T) k → pick D (c ∪ T) k = pick D (s ∪ T) k := by
    intro k hk e
    have hm := pick_mem (D := D) (s := s ∪ T) (k := k) (by omega)
    unfold pick at hm ⊢
    rw [e]
    refine best_eq ?_ fun q hq => (best_spec ⟨_, hm⟩).2 q ?_
    · generalize hb : best D ((s ∪ T) \ chosen D (s ∪ T) k) = b at hm
      rw [Finset.mem_sdiff, Finset.mem_union] at hm ⊢
      refine ⟨?_, hm.2⟩
      rcases hm.1 with h | h
      · rcases hs with rfl | h5s
        · exact absurd h (Finset.notMem_empty _)
        · have hne : s ≠ ∅ := fun e => by rw [e] at h; exact absurd h (Finset.notMem_empty _)
          rw [if_neg hne] at hc
          by_contra hn
          have hbc : b ∉ chosen D s 5 := fun h' => hn (.inl (hc ▸ h'))
          obtain ⟨hs5, hc5⟩ := chosen_facts (D := D) h5s
          obtain ⟨-, hck⟩ := chosen_facts (D := D) (s := s ∪ T) (k := k) (by omega)
          obtain ⟨q, hq, hqn⟩ : ∃ q ∈ chosen D s 5, q ∉ chosen D (s ∪ T) k :=
            Finset.exists_mem_notMem_of_card_lt_card (by omega)
          have h1 := chosen_le hq h hbc
          have h2 : key D b ≤ key D q := by
            have := pick_le (D := D) (s := s ∪ T) (k := k) (q := q)
              (Finset.mem_sdiff.mpr ⟨Finset.mem_union_left _ (hs5 hq), hqn⟩)
            unfold pick at this
            rwa [hb] at this
          exact hbc (key_inj D (le_antisymm h1 h2) ▸ hq)
      · exact .inr h
    · rw [Finset.mem_sdiff, Finset.mem_union] at hq ⊢
      exact ⟨hq.1.imp (fun h => hsub h) id, hq.2⟩
  induction k with
  | zero => exact ⟨rfl, fun h => pickk 0 h rfl⟩
  | succ k ih =>
    obtain ⟨e, ep⟩ := ih (by omega)
    have e' : chosen D (c ∪ T) (k + 1) = chosen D (s ∪ T) (k + 1) := by
      rw [chosen_succ, chosen_succ, e, ep (by omega)]
    exact ⟨e', fun h => pickk _ h e'⟩

/-- A stable sort of an ordered list by a test is its sort by the test with ties broken by position. -/
theorem stableSort_ties {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort of `n` distances begins with the nearest five rows. -/
theorem sorted_pick {n : ℕ} (hn : 5 ≤ n) (R : Fin n → Fin n → Bool)
    (hR : ∀ a b : Fin n, R a b = decide (D a.val < D b.val)) (i : Fin 5) :
    (sortedFrom R (i.castLE hn)).val = pick D (Finset.range n) i.val := by
  let B : Fin n → Fin n → Bool := fun k k' =>
    decide (D k.val < D k'.val) || (decide (D k.val = D k'.val) && decide (k < k'))
  have hB : StrictTotalBefore B := StrictTotalBefore.of_key_then_position (fun a b : EReal => decide (a < b))
    (fun k : Fin n => D k.val) (fun a => by simp) (fun a b c => by simpa using fun h1 h2 => lt_trans h1 h2)
    (fun a b => by simpa using lt_trichotomy a b)
  have hRB : sortedFrom R = sortedFrom B := by
    have : sortPositions n R = sortPositions n B :=
      stableSort_ties R B _ (List.pairwise_lt_finRange n) fun a b hab => by
        rw [hR]; simp [B, not_lt.mpr hab.le]
    funext k
    unfold sortedFrom
    rw [List.get_of_eq this]
    rfl
  have hcard : (Finset.range n).card = n := Finset.card_range n
  have hlt : ∀ j : Fin 5, pick D (Finset.range n) j.val < n := fun j =>
    Finset.mem_range.mp (Finset.mem_sdiff.mp (pick_mem (by omega))).1
  have hle : ∀ a b : Fin n, key D a.val ≤ key D b.val → B b a = false := fun a b h => by
    rw [key_le] at h
    have : ¬ (D b.val < D a.val ∨ (D b.val = D a.val ∧ b < a)) := by
      rintro (h' | ⟨h', h''⟩) <;> rcases h with h | ⟨h, h3⟩
      · exact absurd (lt_trans h h') (lt_irrefl _)
      · exact absurd (h ▸ h') (lt_irrefl _)
      · exact absurd (h' ▸ h) (lt_irrefl _)
      · exact absurd h'' (not_lt.mpr h3)
    simpa [B] using this
  rw [hRB]
  have := hB.sortedFrom_eq_of_prefix hn (fun j : Fin 5 => ⟨pick D (Finset.range n) j.val, hlt j⟩) ?_ ?_ ?_ i
  · rw [this]
  · have key1 : ∀ a b : Fin 5, a < b → pick D (Finset.range n) a.val ≠ pick D (Finset.range n) b.val := by
      intro a b hab e
      refine (Finset.mem_sdiff.mp (pick_mem (D := D) (s := Finset.range n) (k := b.val) (by omega))).2 ?_
      exact (mem_chosen D).mpr ⟨a.val, hab, e⟩
    intro a b hab
    have hab := Fin.ext_iff.mp hab
    rcases lt_trichotomy a b with h | h | h
    · exact absurd hab (key1 a b h)
    · exact h
    · exact absurd hab.symm (key1 b a h)
  · intro a b hab
    refine hle _ _ (pick_le ?_)
    have hb := Finset.mem_sdiff.mp (pick_mem (D := D) (s := Finset.range n) (k := b.val) (by omega))
    refine Finset.mem_sdiff.mpr ⟨hb.1, fun h => hb.2 ?_⟩
    obtain ⟨j, hj, e⟩ := (mem_chosen D).mp h
    exact (mem_chosen D).mpr ⟨j, by have : a.val < b.val := hab; omega, e⟩
  · intro a p hp
    refine hle _ _ (pick_le (Finset.mem_sdiff.mpr ⟨Finset.mem_range.mpr p.isLt, fun h => ?_⟩))
    obtain ⟨j, hj, e⟩ := (mem_chosen D).mp h
    exact hp ⟨j, by omega⟩ (Fin.ext e)

end Cert.Proof.Near
-- ==== Proof.Rounds.lean ====
/-
One round of the nearest-rows kernel, on whole arrays and down one column. A tile of candidate rows and the kept rows
each give, for every query, a distance and a row number per entry; a round takes the least distance over both, then
the least row number among the entries with that distance, and marks the entries of that row as taken by giving them
the distance "big", which at the ideal instance is ⊤. Down a column the entries not yet taken hold the rows of a set,
the round finds that set's first row, and the entries then hold the set without it.
-/
module

public import proofs.«01_k».proof.Proof.Nearest
public import Idealize.ShloMosaic.PureOps.Ideal.Laws
public import Idealize.ShloMosaic.PureOps.Reduce
public import Idealize.ShloMosaic.Lib.ValueIdxCore
public import Idealize.ShloMosaic.Lib.Pipeline.Value
public import Idealize.ShloMosaic.Lib.SortNet.Extract
public import Idealize.ShloMosaic.Lib.Pointwise.ElementwiseCore

@[expose] public section

noncomputable section

namespace Cert.Proof.Near

open Idealize.ShloMosaic Idealize.ShloMosaic.ValueIdx

/-- A block of `n` rows and a column per query. -/
abbrev Blk (n : ℕ) : Shape := ⟨2, ![n, 1024]⟩
/-- One value per query. -/
abbrev Row : Shape := ⟨1, ![1024]⟩

section Folds

variable {α : Type} [DecidableEq α]

theorem fold_min_le (f : α → EReal) (b : EReal) (s : Finset α) {a : α} (h : a ∈ s) : s.fold min b f ≤ f a :=
  (Finset.fold_min_le (f a)).mpr (.inr ⟨a, h, le_rfl⟩)

theorem fold_min_mem (f : α → EReal) (b : EReal) (s : Finset α) : s.fold min b f = b ∨ ∃ a ∈ s, s.fold min b f = f a := by
  induction s using Finset.induction_on with
  | empty => exact .inl rfl
  | insert a s ha ih =>
    rw [Finset.fold_insert ha]
    rcases min_choice (f a) (s.fold min b f) with h | h
    · exact .inr ⟨a, Finset.mem_insert_self _ _, h⟩
    · rw [h]
      exact ih.imp id fun ⟨c, hc, e⟩ => ⟨c, Finset.mem_insert_of_mem hc, e⟩

theorem minsi_choice {w : ℕ} (a b : BitVec w) : IntOp.minsi a b = a ∨ IntOp.minsi a b = b := by
  unfold IntOp.minsi; split
  · exact .inl rfl
  · exact .inr rfl

theorem fold_minsi_le (f : α → BitVec 32) (b : BitVec 32) (s : Finset α) {a : α} (h : a ∈ s) :
    (s.fold IntOp.minsi b f).toInt ≤ (f a).toInt := by
  induction s using Finset.induction_on with
  | empty => exact absurd h (Finset.notMem_empty _)
  | insert c s hc ih =>
    rw [Finset.fold_insert hc, SortNet.toInt_minsi]
    rcases Finset.mem_insert.mp h with rfl | h
    · exact min_le_left _ _
    · exact (min_le_right _ _).trans (ih h)

theorem fold_minsi_mem (f : α → BitVec 32) (b : BitVec 32) (s : Finset α) :
    s.fold IntOp.minsi b f = b ∨ ∃ a ∈ s, s.fold IntOp.minsi b f = f a := by
  induction s using Finset.induction_on with
  | empty => exact .inl rfl
  | insert a s ha ih =>
    rw [Finset.fold_insert ha]
    rcases minsi_choice (f a) (s.fold IntOp.minsi b f) with h | h
    · exact .inr ⟨a, Finset.mem_insert_self _ _, h⟩
    · rw [h]
      exact ih.imp id fun ⟨c, hc, e⟩ => ⟨c, Finset.mem_insert_of_mem hc, e⟩

end Folds

/-! ### The round on arrays -/

variable {n : ℕ}

/-- The least distance of each column. -/
def minRow (hr : (Blk n).Reduces [0] Row) (hc : Row.ShapeCasts (Blk 1)) (d : FVec Ideal (Blk n) .f32) :
    FVec Ideal (Blk 1) .f32 :=
  shapeCast (Blk 1) (multiReduction .minimumf [0] Row d 0x7F800000#32 hr (.inl rfl) rfl) hc

/-- The least row number among the entries of each column with distance `m`. -/
def wordRow (hr : (Blk n).Reduces [0] Row) (hc : Row.ShapeCasts (Blk 1)) (hb : (Blk 1).Broadcasts (Blk n))
    (d : FVec Ideal (Blk n) .f32) (w : IVec (Blk n) 32) (m : FVec Ideal (Blk 1) .f32) : IVec (Blk 1) 32 :=
  shapeCast (Blk 1) (multiReductionI .minsi [0] Row
    (select (cmpf .oeq d (broadcastTo (Blk n) m hb)) w (broadcast (Blk n) 2147483647#32)) 2147483647#32 hr rfl) hc

/-- The distances once row `p` of each column is taken. -/
def dropRow (hb : (Blk 1).Broadcasts (Blk n)) (w : IVec (Blk n) 32) (p : IVec (Blk 1) 32)
    (d : FVec Ideal (Blk n) .f32) : FVec Ideal (Blk n) .f32 :=
  select (cmpi .eq w (broadcastTo (Blk n) p hb)) (broadcast (Blk n) (⊤ : EReal)) d

theorem drop_iff (hr : (Blk n).Reduces [0] Row) (i : (Blk n).Idx) (x : Fin 1024) : hr.drop i = ix1 x ↔ i 1 = x := by
  have e : (hr.drop i 0 : ℕ) = i 1 := rfl
  constructor
  · intro h
    have := congrFun h 0
    rw [Fin.ext_iff, e] at this
    exact Fin.ext this
  · rintro rfl
    funext k
    rw [Fin.fin_one_eq_zero k]
    exact Fin.ext e

theorem row_apply {α : Type} (hc : Row.ShapeCasts (Blk 1)) (v : Row.Idx → α) (x : Fin 1024) :
    shapeCast (Blk 1) v hc (ix2 0 x) = v (ix1 x) :=
  shapeCast_apply _ _ _ _ (by rw [Shape.rowMajor_val_one, Shape.rowMajor_val_two]; simp)

theorem spread_apply {α : Type} (hb : (Blk 1).Broadcasts (Blk n)) (v : (Blk 1).Idx → α) (r : Fin n) (x : Fin 1024) :
    broadcastTo (Blk n) v hb (ix2 r x) = v (ix2 0 x) :=
  broadcastTo_apply _ _ _ _ (by intro a; fin_cases a <;> simp)

variable (hr : (Blk n).Reduces [0] Row) (hc : Row.ShapeCasts (Blk 1)) (hb : (Blk 1).Broadcasts (Blk n))

theorem ofBits_inf : FloatOps.ofBits (F := Ideal) .f32 0x7F800000#32 = (⊤ : EReal) := by
  simp [Ideal.ofBits_def, Ideal.ofBits, Ideal.ieee]

theorem minRow_eq (d : FVec Ideal (Blk n) .f32) (x : Fin 1024) :
    minRow hr hc d (ix2 0 x)
      = (Finset.univ.filter fun i : (Blk n).Idx => hr.drop i = ix1 x).fold (min : EReal → EReal → EReal) ⊤ d := by
  unfold minRow
  refine (row_apply hc _ x).trans ((multiReduction_minimumf_eq_fold _ _ _ _ _ _).trans ?_)
  rw [ofBits_inf]
  rfl

theorem minRow_le (d : FVec Ideal (Blk n) .f32) (x : Fin 1024) (r : Fin n) :
    (minRow hr hc d (ix2 0 x) : EReal) ≤ d (ix2 r x) := by
  rw [minRow_eq]
  exact fold_min_le d ⊤ _ (Finset.mem_filter.mpr ⟨Finset.mem_univ _, (drop_iff hr _ _).mpr rfl⟩)

theorem at_col (i : (Blk n).Idx) (x : Fin 1024) (h : i 1 = x) : ∃ r : Fin n, i = ix2 r x := by
  subst h; exact ⟨i 0, by funext k; fin_cases k <;> rfl⟩

theorem minRow_mem (d : FVec Ideal (Blk n) .f32) (x : Fin 1024) :
    (minRow hr hc d (ix2 0 x) : EReal) = ⊤ ∨ ∃ r : Fin n, (minRow hr hc d (ix2 0 x) : EReal) = d (ix2 r x) := by
  rw [minRow_eq]
  refine (fold_min_mem d ⊤ _).imp id fun ⟨i, hi, e⟩ => ?_
  obtain ⟨r, rfl⟩ := at_col i x ((drop_iff hr i x).mp (Finset.mem_filter.mp hi).2)
  exact ⟨r, e⟩

theorem oeq_iff (a b : EReal) : FloatOps.cmpf (F := Ideal) (φ := .f32) .oeq a b = 1#1 ↔ a = b := by
  show BitVec.ofBool (decide (a = b)) = 1#1 ↔ a = b
  by_cases h : a = b <;> simp [h]

theorem wordRow_eq (d : FVec Ideal (Blk n) .f32) (w : IVec (Blk n) 32) (m : FVec Ideal (Blk 1) .f32) (x : Fin 1024) :
    wordRow hr hc hb d w m (ix2 0 x) = (Finset.univ.filter fun i : (Blk n).Idx => hr.drop i = ix1 x).fold IntOp.minsi
      2147483647#32 (select (cmpf .oeq d (broadcastTo (Blk n) m hb)) w (broadcast (Blk n) 2147483647#32)) := by
  unfold wordRow
  exact (row_apply hc _ x).trans (multiReductionI_eq_fold _ _ _ _ _ _)

theorem shown_apply (d : FVec Ideal (Blk n) .f32) (w : IVec (Blk n) 32) (m : FVec Ideal (Blk 1) .f32) (r : Fin n)
    (x : Fin 1024) : select (cmpf .oeq d (broadcastTo (Blk n) m hb)) w (broadcast (Blk n) 2147483647#32) (ix2 r x)
      = if (d (ix2 r x) : EReal) = m (ix2 0 x) then w (ix2 r x) else 2147483647#32 := by
  rw [select_apply, cmpf_apply, spread_apply]
  exact if_congr (oeq_iff _ _) rfl rfl

theorem wordRow_le (d : FVec Ideal (Blk n) .f32) (w : IVec (Blk n) 32) (m : FVec Ideal (Blk 1) .f32) (x : Fin 1024)
    (r : Fin n) (h : (d (ix2 r x) : EReal) = m (ix2 0 x)) :
    (wordRow hr hc hb d w m (ix2 0 x)).toInt ≤ (w (ix2 r x)).toInt := by
  rw [wordRow_eq]
  refine (fold_minsi_le _ _ _ (Finset.mem_filter.mpr ⟨Finset.mem_univ (ix2 r x), (drop_iff hr _ _).mpr rfl⟩)).trans ?_
  rw [shown_apply, if_pos h]

theorem wordRow_mem (d : FVec Ideal (Blk n) .f32) (w : IVec (Blk n) 32) (m : FVec Ideal (Blk 1) .f32) (x : Fin 1024) :
    wordRow hr hc hb d w m (ix2 0 x) = 2147483647#32
      ∨ ∃ r : Fin n, (d (ix2 r x) : EReal) = m (ix2 0 x) ∧ wordRow hr hc hb d w m (ix2 0 x) = w (ix2 r x) := by
  rw [wordRow_eq]
  rcases fold_minsi_mem (select (cmpf .oeq d (broadcastTo (Blk n) m hb)) w (broadcast (Blk n) 2147483647#32))
    2147483647#32 (Finset.univ.filter fun i : (Blk n).Idx => hr.drop i = ix1 x) with h | ⟨i, hi, e⟩
  · exact .inl h
  · obtain ⟨r, rfl⟩ := at_col i x ((drop_iff hr i x).mp (Finset.mem_filter.mp hi).2)
    rw [e, shown_apply]
    split
    · exact .inr ⟨r, ‹_›, rfl⟩
    · exact .inl rfl

theorem dropRow_apply (w : IVec (Blk n) 32) (p : IVec (Blk 1) 32) (d : FVec Ideal (Blk n) .f32) (r : Fin n)
    (x : Fin 1024) : (dropRow hb w p d (ix2 r x) : EReal) = if w (ix2 r x) = p (ix2 0 x) then ⊤ else d (ix2 r x) := by
  unfold dropRow
  rw [select_apply, cmpi_apply, spread_apply, broadcast_apply]
  refine if_congr ?_ rfl rfl
  show BitVec.ofBool (w (ix2 r x) == p (ix2 0 x)) = 1#1 ↔ _
  by_cases h : w (ix2 r x) = p (ix2 0 x)
  · simp [h]
  · have : (w (ix2 r x) == p (ix2 0 x)) = false := beq_eq_false_iff_ne.mpr h
    rw [this]; exact iff_of_false (by decide) h

/-! ### The round down a column -/

/-- Entries with distance `d` and row number `w` hold the rows of `s`: an entry is taken, or is a row of `s` at that row's
    distance, and every row of `s` is there. -/
def Holds (D : ℕ → EReal) (s : Finset ℕ) (d : Fin n → EReal) (w : Fin n → BitVec 32) : Prop :=
  (∀ r, d r = ⊤ ∨ ∃ p ∈ s, w r = BitVec.ofNat 32 p ∧ d r = D p) ∧ ∀ p ∈ s, ∃ r, w r = BitVec.ofNat 32 p ∧ d r = D p

variable {D : ℕ → EReal}

theorem ofNat_inj {p q : ℕ} (hp : p < 2147483647) (hq : q < 2147483647)
    (h : BitVec.ofNat 32 p = BitVec.ofNat 32 q) : p = q := by
  have := congrArg BitVec.toNat h
  simp only [BitVec.toNat_ofNat] at this
  omega

theorem toInt_ofNat {p : ℕ} (hp : p < 2147483647) : (BitVec.ofNat 32 p).toInt = p := by
  rw [BitVec.toInt_eq_toNat_cond, BitVec.toNat_ofNat]
  rw [Nat.mod_eq_of_lt (by omega)]
  split <;> omega

/-- Taking a row leaves the others. -/
theorem Holds.drop {s : Finset ℕ} {d : Fin n → EReal} {w : Fin n → BitVec 32} (h : Holds D s d w)
    (hs : ∀ p ∈ s, p < 2147483647) {q : ℕ} (hq : q < 2147483647) :
    Holds D (s.erase q) (fun r => if w r = BitVec.ofNat 32 q then ⊤ else d r) w := by
  constructor
  · intro r
    by_cases hw : w r = BitVec.ofNat 32 q
    · exact .inl (if_pos hw)
    · simp only [if_neg hw]
      refine (h.1 r).imp id fun ⟨p, hp, e⟩ => ⟨p, Finset.mem_erase.mpr ⟨?_, hp⟩, e⟩
      rintro rfl
      exact hw e.1
  · intro p hp
    obtain ⟨hne, hp⟩ := Finset.mem_erase.mp hp
    obtain ⟨r, e, e'⟩ := h.2 p hp
    have : w r ≠ BitVec.ofNat 32 q := fun hw => hne (ofNat_inj (hs p hp) hq (e ▸ hw))
    exact ⟨r, e, by simp only [if_neg this]; exact e'⟩

variable {n' : ℕ}

/-- What a round finds: the first row of the two sets, and its distance. -/
theorem round {s s' : Finset ℕ} {d : Fin n → EReal} {w : Fin n → BitVec 32} {d' : Fin n' → EReal}
    {w' : Fin n' → BitVec 32} (h : Holds D s d w) (h' : Holds D s' d' w') (hne : (s ∪ s').Nonempty)
    (hs : ∀ p ∈ s ∪ s', p < 2147483647) (hD : ∀ p ∈ s ∪ s', D p ≠ ⊤) {m m1 m2 : EReal} {u1 u2 : BitVec 32}
    (hm : m = min m1 m2) (le1 : ∀ r, m1 ≤ d r) (mem1 : m1 = ⊤ ∨ ∃ r, m1 = d r) (le2 : ∀ r, m2 ≤ d' r)
    (mem2 : m2 = ⊤ ∨ ∃ r, m2 = d' r) (wle1 : ∀ r, d r = m → u1.toInt ≤ (w r).toInt)
    (wmem1 : u1 = 2147483647#32 ∨ ∃ r, d r = m ∧ u1 = w r) (wle2 : ∀ r, d' r = m → u2.toInt ≤ (w' r).toInt)
    (wmem2 : u2 = 2147483647#32 ∨ ∃ r, d' r = m ∧ u2 = w' r) :
    m = D (best D (s ∪ s')) ∧ IntOp.minsi u1 u2 = BitVec.ofNat 32 (best D (s ∪ s')) := by
  obtain ⟨hb, hle⟩ := best_spec (D := D) hne
  generalize best D (s ∪ s') = b at hb hle
  have hall : ∀ p ∈ s ∪ s', m ≤ D p := by
    intro p hp
    rcases Finset.mem_union.mp hp with hp | hp
    · obtain ⟨r, -, e⟩ := h.2 p hp
      exact hm ▸ (min_le_left _ _).trans (e ▸ le1 r)
    · obtain ⟨r, -, e⟩ := h'.2 p hp
      exact hm ▸ (min_le_right _ _).trans (e ▸ le2 r)
  have hlt : m ≠ ⊤ := fun e => hD b hb (top_le_iff.mp (e ▸ hall b hb))
  have hsome : ∃ p ∈ s ∪ s', m = D p := by
    rcases min_choice m1 m2 with e | e <;> rw [e] at hm
    · rcases mem1 with h1 | ⟨r, h1⟩
      · exact absurd (hm.trans h1) hlt
      · rcases h.1 r with h2 | ⟨p, hp, -, h2⟩
        · exact absurd (hm.trans (h1.trans h2)) hlt
        · exact ⟨p, Finset.mem_union_left _ hp, hm.trans (h1.trans h2)⟩
    · rcases mem2 with h1 | ⟨r, h1⟩
      · exact absurd (hm.trans h1) hlt
      · rcases h'.1 r with h2 | ⟨p, hp, -, h2⟩
        · exact absurd (hm.trans (h1.trans h2)) hlt
        · exact ⟨p, Finset.mem_union_right _ hp, hm.trans (h1.trans h2)⟩
  have hDm : m = D b := by
    refine le_antisymm (hall b hb) ?_
    obtain ⟨p, hp, e⟩ := hsome
    rw [e]
    rcases (key_le D).mp (hle p hp) with h1 | ⟨h1, -⟩
    · exact h1.le
    · exact h1.le
  refine ⟨hDm, ?_⟩
  have hbn := hs b hb
  -- every row number found is that of a row of the sets at the least distance, so at least `b`
  have ge : ∀ p ∈ s ∪ s', D p = m → (b : ℤ) ≤ (BitVec.ofNat 32 p).toInt := by
    intro p hp e
    rw [toInt_ofNat (hs p hp)]
    rcases (key_le D).mp (hle p hp) with h1 | ⟨-, h1⟩
    · exact absurd (hDm ▸ e ▸ h1) (lt_irrefl _)
    · exact_mod_cast h1
  have big : (b : ℤ) ≤ (2147483647#32).toInt := by
    have : (2147483647#32).toInt = 2147483647 := by decide
    omega
  have ge1 : (b : ℤ) ≤ u1.toInt := by
    rcases wmem1 with rfl | ⟨r, e, rfl⟩
    · exact big
    · rcases h.1 r with h2 | ⟨p, hp, e1, e2⟩
      · exact absurd (e.symm.trans h2) hlt
      · rw [e1]; exact ge p (Finset.mem_union_left _ hp) (e2.symm.trans e)
  have ge2 : (b : ℤ) ≤ u2.toInt := by
    rcases wmem2 with rfl | ⟨r, e, rfl⟩
    · exact big
    · rcases h'.1 r with h2 | ⟨p, hp, e1, e2⟩
      · exact absurd (e.symm.trans h2) hlt
      · rw [e1]; exact ge p (Finset.mem_union_right _ hp) (e2.symm.trans e)
  have le : (IntOp.minsi u1 u2).toInt ≤ b := by
    rw [SortNet.toInt_minsi]
    rcases Finset.mem_union.mp hb with hb | hb
    · obtain ⟨r, e, e'⟩ := h.2 b hb
      have := wle1 r (e'.trans hDm.symm)
      rw [e, toInt_ofNat hbn] at this
      exact (min_le_left _ _).trans this
    · obtain ⟨r, e, e'⟩ := h'.2 b hb
      have := wle2 r (e'.trans hDm.symm)
      rw [e, toInt_ofNat hbn] at this
      exact (min_le_right _ _).trans this
  refine BitVec.eq_of_toInt_eq ?_
  rw [toInt_ofNat hbn]
  refine le_antisymm le ?_
  rw [SortNet.toInt_minsi]
  exact le_min ge1 ge2

end Cert.Proof.Near
-- ==== Proof.Steps.lean ====
/-
One tile of the nearest-rows kernel: five rounds over the tile's 2000 rows and the kept rows, each leaving what it
found as one of the kept rows. Down a column, if the kept rows were the nearest five of the tiles before, they are now
the nearest five of those tiles and this one.
-/
module

public import proofs.«01_k».proof.Proof.Rounds
public import Idealize.ShloMosaic.Lib.WritesUnit

@[expose] public section

noncomputable section

namespace Cert.Proof.Near

open Idealize.ShloMosaic Idealize.ShloMosaic.ValueIdx

/-- The side conditions of the shapes a tile's rounds go through. -/
structure Sides : Prop where
  rt : (Blk 2000).Reduces [0] Row
  rk : (Blk 8).Reduces [0] Row
  cast : Row.ShapeCasts (Blk 1)
  bt : (Blk 1).Broadcasts (Blk 2000)
  bk : (Blk 1).Broadcasts (Blk 8)

variable (S : Sides)

/-- A round's least distance. -/
def least (d : FVec Ideal (Blk 2000) .f32) (rd : FVec Ideal (Blk 8) .f32) : FVec Ideal (Blk 1) .f32 :=
  minimumf (minRow S.rt S.cast d) (minRow S.rk S.cast rd)

/-- A round's row number. -/
def first (g : IVec (Blk 2000) 32) (ri : IVec (Blk 8) 32) (d : FVec Ideal (Blk 2000) .f32)
    (rd : FVec Ideal (Blk 8) .f32) : IVec (Blk 1) 32 :=
  minsi (wordRow S.rt S.cast S.bt d g (least S d rd)) (wordRow S.rk S.cast S.bk rd ri (least S d rd))

/-- The tile's and the kept rows' distances before round `k`. -/
def state (g : IVec (Blk 2000) 32) (ri : IVec (Blk 8) 32) (d : FVec Ideal (Blk 2000) .f32)
    (rd : FVec Ideal (Blk 8) .f32) : ℕ → FVec Ideal (Blk 2000) .f32 × FVec Ideal (Blk 8) .f32
  | 0 => (d, rd)
  | k + 1 =>
    let s := state g ri d rd k
    (dropRow S.bt g (first S g ri s.1 s.2) s.1, dropRow S.bk ri (first S g ri s.1 s.2) s.2)

section StateEqs

variable (g : IVec (Blk 2000) 32) (ri : IVec (Blk 8) 32) (d : FVec Ideal (Blk 2000) .f32) (rd : FVec Ideal (Blk 8) .f32)

theorem state_one_fst : dropRow S.bt g (first S g ri d rd) d = (state S g ri d rd 1).1 := by simp only [state]
theorem state_one_snd : dropRow S.bk ri (first S g ri d rd) rd = (state S g ri d rd 1).2 := by simp only [state]
theorem state_succ_fst (k : ℕ) : dropRow S.bt g (first S g ri (state S g ri d rd k).1 (state S g ri d rd k).2)
    (state S g ri d rd k).1 = (state S g ri d rd (k + 1)).1 := by simp only [state]
theorem state_succ_snd (k : ℕ) : dropRow S.bk ri (first S g ri (state S g ri d rd k).1 (state S g ri d rd k).2)
    (state S g ri d rd k).2 = (state S g ri d rd (k + 1)).2 := by simp only [state]

end StateEqs

/-- Rows 0 to 4 replaced. -/
def put {α : Type} (w : ℕ → (Blk 1).Idx → α) (old : (Blk 8).Idx → α) : (Blk 8).Idx → α :=
  fun i => if (i 0).val < 5 then w (i 0).val (ix2 0 (i 1)) else old i

/-- The kept distances after a tile. -/
def stepD (g : IVec (Blk 2000) 32) (ri : IVec (Blk 8) 32) (d : FVec Ideal (Blk 2000) .f32)
    (rd : FVec Ideal (Blk 8) .f32) : FVec Ideal (Blk 8) .f32 :=
  put (fun k => least S (state S g ri d rd k).1 (state S g ri d rd k).2) rd

/-- The kept row numbers after a tile. -/
def stepI (g : IVec (Blk 2000) 32) (ri : IVec (Blk 8) 32) (d : FVec Ideal (Blk 2000) .f32)
    (rd : FVec Ideal (Blk 8) .f32) : IVec (Blk 8) 32 :=
  put (fun k => first S g ri (state S g ri d rd k).1 (state S g ri d rd k).2) ri

/-- Five stores, of one row each, newest first: rows 0 to 4 replaced in what the stores before left. -/
theorem five_rows {sig : RefSig} {κ : Kind} {sp : Space} {e : EltTy} {Val : EltTy → Type}
    (v : View sig κ sp (Blk 8) e) (f : v.ty.Contents Val) (w : ℕ → (Blk 1).Idx → Val e)
    (L : List (View.Piece Val (Blk 8) e))
    (i0 : ∀ a, (![0, 0] : Fin 2 → ℕ) a + (![1, 1024] : Fin 2 → ℕ) a ≤ (Blk 8).size a)
    (i1 : ∀ a, (![1, 0] : Fin 2 → ℕ) a + (![1, 1024] : Fin 2 → ℕ) a ≤ (Blk 8).size a)
    (i2 : ∀ a, (![2, 0] : Fin 2 → ℕ) a + (![1, 1024] : Fin 2 → ℕ) a ≤ (Blk 8).size a)
    (i3 : ∀ a, (![3, 0] : Fin 2 → ℕ) a + (![1, 1024] : Fin 2 → ℕ) a ≤ (Blk 8).size a)
    (i4 : ∀ a, (![4, 0] : Fin 2 → ℕ) a + (![1, 1024] : Fin 2 → ℕ) a ≤ (Blk 8).size a) :
    v.read Val (v.writes Val f (⟨Rect.unit ![4, 0] ![1, 1024] i4, w 4⟩ :: ⟨Rect.unit ![3, 0] ![1, 1024] i3, w 3⟩
      :: ⟨Rect.unit ![2, 0] ![1, 1024] i2, w 2⟩ :: ⟨Rect.unit ![1, 0] ![1, 1024] i1, w 1⟩
      :: ⟨Rect.unit ![0, 0] ![1, 1024] i0, w 0⟩ :: L)) = put w (v.read Val (v.writes Val f L)) := by
  funext y
  obtain ⟨j, x, rfl⟩ : ∃ j x, y = ix2 (n0 := 8) (n1 := 1024) j x := ⟨y 0, y 1, eq_ix2 y⟩
  have miss : ∀ (o : ℕ) (io : ∀ a, (![o, 0] : Fin 2 → ℕ) a + (![1, 1024] : Fin 2 → ℕ) a ≤ (Blk 8).size a) (u)
      (L : List (View.Piece Val (Blk 8) e)), j.val ≠ o →
      v.read Val (v.writes Val f (⟨Rect.unit ![o, 0] ![1, 1024] io, u⟩ :: L)) (ix2 j x)
        = v.read Val (v.writes Val f L) (ix2 j x) := fun o io u L h =>
    View.read_writes_cons_rows_of_not_mem v f io u L _ rfl (W := 1) rfl
      (show j.val < o ∨ o + 1 ≤ j.val by omega)
  have hit : ∀ (o : ℕ) (io : ∀ a, (![o, 0] : Fin 2 → ℕ) a + (![1, 1024] : Fin 2 → ℕ) a ≤ (Blk 8).size a)
      (L : List (View.Piece Val (Blk 8) e)), j.val = o → o < 5 →
      v.read Val (v.writes Val f (⟨Rect.unit ![o, 0] ![1, 1024] io, w o⟩ :: L)) (ix2 j x)
        = put w (v.read Val (v.writes Val f L)) (ix2 j x) := fun o io L h ho => by
    refine (View.read_writes_cons_rows_of_mem v f io (w o) L _ (ix2 (n0 := 1) (n1 := 1024) 0 x) rfl h rfl).trans ?_
    subst h
    exact (if_pos ho).symm
  have out : ∀ u u' : (Blk 8).Idx → Val e, j.val < 5 → put w u (ix2 j x) = put w u' (ix2 j x) := fun u u' h =>
    (if_pos h).trans (if_pos h).symm
  rcases lt_or_ge j.val 5 with hj | hj
  · obtain h | h | h | h | h : j.val = 4 ∨ j.val = 3 ∨ j.val = 2 ∨ j.val = 1 ∨ j.val = 0 := by omega
    · exact (hit 4 _ _ h (by omega)).trans (out _ _ hj)
    · exact (miss 4 _ _ _ (by omega)).trans ((hit 3 _ _ h (by omega)).trans (out _ _ hj))
    · exact (miss 4 _ _ _ (by omega)).trans ((miss 3 _ _ _ (by omega)).trans
        ((hit 2 _ _ h (by omega)).trans (out _ _ hj)))
    · exact (miss 4 _ _ _ (by omega)).trans ((miss 3 _ _ _ (by omega)).trans ((miss 2 _ _ _ (by omega)).trans
        ((hit 1 _ _ h (by omega)).trans (out _ _ hj))))
    · exact (miss 4 _ _ _ (by omega)).trans ((miss 3 _ _ _ (by omega)).trans ((miss 2 _ _ _ (by omega)).trans
        ((miss 1 _ _ _ (by omega)).trans (hit 0 _ _ h (by omega)))))
  · exact (miss 4 _ _ _ (by omega)).trans ((miss 3 _ _ _ (by omega)).trans ((miss 2 _ _ _ (by omega)).trans
      ((miss 1 _ _ _ (by omega)).trans ((miss 0 _ _ _ (by omega)).trans (if_neg (by
        show ¬ j.val < 5; omega)).symm))))

/-- The same stores with their values one by one. -/
theorem five_rows_of {sig : RefSig} {κ : Kind} {sp : Space} {e : EltTy} {Val : EltTy → Type}
    (v : View sig κ sp (Blk 8) e) (f : v.ty.Contents Val) (L : List (View.Piece Val (Blk 8) e))
    (w0 w1 w2 w3 w4 : (Blk 1).Idx → Val e) {i0 i1 i2 i3 i4} (w : ℕ → (Blk 1).Idx → Val e)
    (h0 : w0 = w 0) (h1 : w1 = w 1) (h2 : w2 = w 2) (h3 : w3 = w 3) (h4 : w4 = w 4) {old : (Blk 8).Idx → Val e}
    (ho : v.read Val (v.writes Val f L) = old) :
    v.read Val (v.writes Val f (⟨Rect.unit ![4, 0] ![1, 1024] i4, w4⟩ :: ⟨Rect.unit ![3, 0] ![1, 1024] i3, w3⟩
      :: ⟨Rect.unit ![2, 0] ![1, 1024] i2, w2⟩ :: ⟨Rect.unit ![1, 0] ![1, 1024] i1, w1⟩
      :: ⟨Rect.unit ![0, 0] ![1, 1024] i0, w0⟩ :: L)) = put w old := by
  subst h0 h1 h2 h3 h4 ho
  exact five_rows v f w L i0 i1 i2 i3 i4

/-! ### Down a column -/

/-- What the kept rows hold after `t` tiles. -/
def Kept (D : ℕ → EReal) (t : ℕ) (d : Fin 8 → EReal) (w : Fin 8 → BitVec 32) : Prop :=
  ∀ j : Fin 8, if t ≠ 0 ∧ j.val < 5
    then d j = D (pick D (Finset.range (2000 * t)) j.val) ∧ w j = BitVec.ofNat 32 (pick D (Finset.range (2000 * t)) j.val)
    else d j = ⊤ ∧ w j = 2147483647#32

/-- The rows the kept ones are. -/
def keptSet (D : ℕ → EReal) (t : ℕ) : Finset ℕ :=
  if Finset.range (2000 * t) = ∅ then ∅ else chosen D (Finset.range (2000 * t)) 5

theorem range_empty {t : ℕ} : Finset.range (2000 * t) = ∅ ↔ t = 0 := by
  rw [Finset.range_eq_empty_iff]; omega

theorem Kept.holds {D : ℕ → EReal} {t : ℕ} {d : Fin 8 → EReal} {w : Fin 8 → BitVec 32} (h : Kept D t d w) :
    Holds D (keptSet D t) d w := by
  unfold keptSet
  by_cases h0 : t = 0
  · rw [if_pos (range_empty.mpr h0)]
    refine ⟨fun r => .inl ?_, fun p hp => absurd hp (Finset.notMem_empty _)⟩
    have := h r
    rw [if_neg (fun h => h.1 h0)] at this
    exact this.1
  · rw [if_neg (fun h => h0 (range_empty.mp h))]
    constructor
    · intro r
      have := h r
      split at this
      · exact .inr ⟨_, (mem_chosen D).mpr ⟨r.val, by omega, rfl⟩, this.2, this.1⟩
      · exact .inl this.1
    · intro p hp
      obtain ⟨i, hi, rfl⟩ := (mem_chosen D).mp hp
      have := h ⟨i, by omega⟩
      rw [if_pos ⟨h0, hi⟩] at this
      exact ⟨_, this.2, this.1⟩

/-- The tile's rows. -/
def tileSet (t : ℕ) : Finset ℕ := Finset.Ico (2000 * t) (2000 * t + 2000)

theorem tile_holds {D : ℕ → EReal} {t : ℕ} {d : Fin 2000 → EReal} {w : Fin 2000 → BitVec 32}
    (hd : ∀ r, d r = D (2000 * t + r.val)) (hw : ∀ r, w r = BitVec.ofNat 32 (2000 * t + r.val)) :
    Holds D (tileSet t) d w := by
  constructor
  · intro r
    exact .inr ⟨_, Finset.mem_Ico.mpr ⟨by omega, by omega⟩, hw r, hd r⟩
  · intro p hp
    have := Finset.mem_Ico.mp hp
    have e : 2000 * t + (p - 2000 * t) = p := by omega
    exact ⟨⟨p - 2000 * t, by omega⟩, by rw [hw, e], by rw [hd, e]⟩

/-- A round's values at a column, given what the column holds. -/
theorem round_at {D : ℕ → EReal} {s s' : Finset ℕ} (g : IVec (Blk 2000) 32) (ri : IVec (Blk 8) 32)
    (d : FVec Ideal (Blk 2000) .f32) (rd : FVec Ideal (Blk 8) .f32) (x : Fin 1024)
    (h : Holds D s (fun r : Fin 2000 => (d (ix2 r x) : EReal)) fun r => g (ix2 r x))
    (h' : Holds D s' (fun r : Fin 8 => (rd (ix2 r x) : EReal)) fun r => ri (ix2 r x)) (hne : (s ∪ s').Nonempty)
    (hs : ∀ p ∈ s ∪ s', p < 2147483647) (hD : ∀ p ∈ s ∪ s', D p ≠ ⊤) :
    (least S d rd (ix2 0 x) : EReal) = D (best D (s ∪ s'))
      ∧ first S g ri d rd (ix2 0 x) = BitVec.ofNat 32 (best D (s ∪ s')) := by
  have hm : (least S d rd (ix2 0 x) : EReal)
      = min (minRow S.rt S.cast d (ix2 0 x) : EReal) (minRow S.rk S.cast rd (ix2 0 x)) := by
    unfold least; exact minimumf_apply _ _ _
  have hf : first S g ri d rd (ix2 0 x) = IntOp.minsi (wordRow S.rt S.cast S.bt d g (least S d rd) (ix2 0 x))
      (wordRow S.rk S.cast S.bk rd ri (least S d rd) (ix2 0 x)) := by
    unfold first; exact minsi_apply _ _ _
  rw [hf]
  generalize least S d rd = M at hm ⊢
  exact round h h' hne hs hD hm (minRow_le _ _ d x) (minRow_mem _ _ d x) (minRow_le _ _ rd x)
    (minRow_mem _ _ rd x) (wordRow_le _ _ _ d g M x) (wordRow_mem _ _ _ d g M x) (wordRow_le _ _ _ rd ri M x)
    (wordRow_mem _ _ _ rd ri M x)

theorem sdiff_next (s C : Finset ℕ) (p : ℕ) : s \ insert p C = (s \ C).erase p := by
  ext q; simp only [Finset.mem_sdiff, Finset.mem_insert, Finset.mem_erase]; tauto

/-- The state before each round, at a column. -/
theorem state_at {D : ℕ → EReal} {s s' : Finset ℕ} (g : IVec (Blk 2000) 32) (ri : IVec (Blk 8) 32)
    (d : FVec Ideal (Blk 2000) .f32) (rd : FVec Ideal (Blk 8) .f32) (x : Fin 1024)
    (h : Holds D s (fun r : Fin 2000 => (d (ix2 r x) : EReal)) fun r => g (ix2 r x))
    (h' : Holds D s' (fun r : Fin 8 => (rd (ix2 r x) : EReal)) fun r => ri (ix2 r x))
    (h5 : 5 ≤ (s ∪ s').card) (hs : ∀ p ∈ s ∪ s', p < 2147483647) (hD : ∀ p ∈ s ∪ s', D p ≠ ⊤) (k : ℕ) (hk : k ≤ 5) :
    (Holds D (s \ chosen D (s ∪ s') k) (fun r : Fin 2000 => ((state S g ri d rd k).1 (ix2 r x) : EReal)) (fun r => g (ix2 r x))
      ∧ Holds D (s' \ chosen D (s ∪ s') k) (fun r : Fin 8 => ((state S g ri d rd k).2 (ix2 r x) : EReal)) fun r => ri (ix2 r x))
    ∧ (k < 5 → (least S (state S g ri d rd k).1 (state S g ri d rd k).2 (ix2 0 x) : EReal) = D (pick D (s ∪ s') k)
      ∧ first S g ri (state S g ri d rd k).1 (state S g ri d rd k).2 (ix2 0 x) = BitVec.ofNat 32 (pick D (s ∪ s') k)) := by
  have found : ∀ k < 5, ∀ d' rd', Holds D (s \ chosen D (s ∪ s') k) (fun r : Fin 2000 => (d' (ix2 r x) : EReal)) (fun r => g (ix2 r x)) →
      Holds D (s' \ chosen D (s ∪ s') k) (fun r : Fin 8 => (rd' (ix2 r x) : EReal)) (fun r => ri (ix2 r x)) →
      (least S d' rd' (ix2 0 x) : EReal) = D (pick D (s ∪ s') k)
        ∧ first S g ri d' rd' (ix2 0 x) = BitVec.ofNat 32 (pick D (s ∪ s') k) := by
    intro k hk d' rd' a a'
    have e : (s \ chosen D (s ∪ s') k) ∪ (s' \ chosen D (s ∪ s') k) = (s ∪ s') \ chosen D (s ∪ s') k :=
      (Finset.union_sdiff_distrib _ _ _).symm
    have := round_at S g ri d' rd' x a a' (e ▸ rest_nonempty (by omega)) (fun p hp => hs p ?_) (fun p hp => hD p ?_)
    · rw [e] at this; exact this
    · rw [e] at hp; exact (Finset.mem_sdiff.mp hp).1
    · rw [e] at hp; exact (Finset.mem_sdiff.mp hp).1
  induction k with
  | zero =>
    have a : Holds D (s \ chosen D (s ∪ s') 0) (fun r : Fin 2000 => (d (ix2 r x) : EReal)) (fun r => g (ix2 r x)) := by
      unfold chosen; rw [Finset.sdiff_empty]; exact h
    have a' : Holds D (s' \ chosen D (s ∪ s') 0) (fun r : Fin 8 => (rd (ix2 r x) : EReal)) (fun r => ri (ix2 r x)) := by
      unfold chosen; rw [Finset.sdiff_empty]; exact h'
    exact ⟨⟨a, a'⟩, fun hk => found 0 hk _ _ a a'⟩
  | succ k ih =>
    obtain ⟨⟨a, a'⟩, f⟩ := ih (by omega)
    obtain ⟨-, f⟩ := f (by omega)
    have hp : pick D (s ∪ s') k < 2147483647 := hs _ (Finset.mem_sdiff.mp (pick_mem (by omega))).1
    have b := a.drop (fun p hp => hs p (Finset.mem_union_left _ (Finset.mem_sdiff.mp hp).1)) hp
    have b' := a'.drop (fun p hp => hs p (Finset.mem_union_right _ (Finset.mem_sdiff.mp hp).1)) hp
    rw [← sdiff_next, ← chosen_succ, ← f] at b b'
    have c : Holds D (s \ chosen D (s ∪ s') (k + 1)) (fun r : Fin 2000 => ((state S g ri d rd (k + 1)).1 (ix2 r x) : EReal))
        (fun r => g (ix2 r x)) := by
      unfold state
      simp only [dropRow_apply]
      exact b
    have c' : Holds D (s' \ chosen D (s ∪ s') (k + 1)) (fun r : Fin 8 => ((state S g ri d rd (k + 1)).2 (ix2 r x) : EReal))
        (fun r => ri (ix2 r x)) := by
      unfold state
      simp only [dropRow_apply]
      exact b'
    exact ⟨⟨c, c'⟩, fun hk => found _ hk _ _ c c'⟩

/-- A tile takes the nearest five of the tiles before to the nearest five of those and it. -/
theorem Kept.step {D : ℕ → EReal} {t : ℕ} (ht : t < 50) (g : IVec (Blk 2000) 32) (ri : IVec (Blk 8) 32)
    (d : FVec Ideal (Blk 2000) .f32) (rd : FVec Ideal (Blk 8) .f32) (x : Fin 1024)
    (hk : Kept D t (fun j => rd (ix2 j x)) fun j => ri (ix2 j x))
    (hd : ∀ r : Fin 2000, (d (ix2 r x) : EReal) = D (2000 * t + r.val))
    (hg : ∀ r : Fin 2000, g (ix2 r x) = BitVec.ofNat 32 (2000 * t + r.val)) (hD : ∀ p < 100000, D p ≠ ⊤) :
    Kept D (t + 1) (fun j => stepD S g ri d rd (ix2 j x)) fun j => stepI S g ri d rd (ix2 j x) := by
  have hT : ∀ p ∈ tileSet t, p < 100000 := fun p hp => by have := (Finset.mem_Ico.mp hp).2; omega
  have hTc : (tileSet t).card = 2000 := by unfold tileSet; rw [Nat.card_Ico]; omega
  have hcs : keptSet D t ⊆ Finset.range (2000 * t) := by
    unfold keptSet
    split
    · exact Finset.empty_subset _
    · rename_i h
      rw [range_empty] at h
      exact (chosen_facts (by rw [Finset.card_range]; omega)).1
  have hc : ∀ p ∈ keptSet D t, p < 100000 := fun p hp => by have := Finset.mem_range.mp (hcs hp); omega
  have hall : ∀ p ∈ tileSet t ∪ keptSet D t, p < 100000 := fun p hp =>
    (Finset.mem_union.mp hp).elim (hT p) (hc p)
  have h5 : 5 ≤ (tileSet t ∪ keptSet D t).card :=
    le_trans (by rw [hTc]; omega) (Finset.card_le_card Finset.subset_union_left)
  have hU : Finset.range (2000 * t) ∪ tileSet t = Finset.range (2000 * (t + 1)) := by
    ext p; simp only [tileSet, Finset.mem_union, Finset.mem_range, Finset.mem_Ico]; omega
  have hU5 : 5 ≤ (Finset.range (2000 * t) ∪ tileSet t).card :=
    le_trans (by rw [hTc]; omega) (Finset.card_le_card Finset.subset_union_right)
  have hs : Finset.range (2000 * t) = ∅ ∨ 5 ≤ (Finset.range (2000 * t)).card := by
    rw [range_empty, Finset.card_range]; omega
  intro j
  beta_reduce
  have hj : stepD S g ri d rd (ix2 j x) = if j.val < 5 then
      least S (state S g ri d rd j.val).1 (state S g ri d rd j.val).2 (ix2 0 x) else rd (ix2 j x) := rfl
  have hj' : stepI S g ri d rd (ix2 j x) = if j.val < 5 then
      first S g ri (state S g ri d rd j.val).1 (state S g ri d rd j.val).2 (ix2 0 x) else ri (ix2 j x) := rfl
  by_cases h : j.val < 5
  · rw [if_pos ⟨Nat.succ_ne_zero _, h⟩, hj, hj', if_pos h, if_pos h]
    obtain ⟨-, f⟩ := state_at S g ri d rd x (tile_holds hd hg) hk.holds h5 (fun p hp => by have := hall p hp; omega)
      (fun p hp => hD p (hall p hp)) j.val (by omega)
    have e := (merge (D := D) hs hU5 (c := keptSet D t) rfl j.val (by omega)).2 h
    rw [hU] at e
    rw [Finset.union_comm, e] at f
    exact f h
  · rw [if_neg (fun h' => h h'.2), hj, hj', if_neg h, if_neg h]
    have := hk j
    rw [if_neg (fun h' => h h'.2)] at this
    exact this

end Cert.Proof.Near
-- ==== Proof.Dists.lean ====
/-
The distance between a row and a query, and the row numbers the nearest-rows call and its reference both leave.
-/
module

public import proofs.«01_k».proof.Proof.Steps

@[expose] public section

noncomputable section

namespace Cert.Proof.Near

open Idealize.ShloMosaic Idealize.ShloMosaic.ValueIdx

/-- The distance between row `a` and query `q`, through their squared norms and their dot product. -/
def distOf (a q : Fin 32 → EReal) : EReal :=
  Ideal.sqrt (max ((∑ k, q k * q k + ∑ k, a k * a k) - Ideal.ofBits .f32 0x40000000#32 * ∑ k, a k * q k) 0)

theorem two : Ideal.ofBits .f32 0x40000000#32 = ((2 : ℝ) : EReal) := by
  simp [Ideal.ofBits, Ideal.ieee]
  norm_cast
  norm_num

theorem coe_sum (f : Fin 32 → ℝ) : ∑ k, (f k : EReal) = ((∑ k, f k : ℝ) : EReal) :=
  (map_sum (⟨⟨Real.toEReal, EReal.coe_zero⟩, EReal.coe_add⟩ : ℝ →+ EReal) f Finset.univ).symm

/-- Finite coordinates are at a finite distance. -/
theorem distOf_ne_top {a q : Fin 32 → EReal} (ha : ∀ k, ∃ r : ℝ, a k = r) (hq : ∀ k, ∃ r : ℝ, q k = r) :
    distOf a q ≠ ⊤ := by
  choose a' ha using ha
  choose q' hq using hq
  unfold distOf
  simp only [ha, hq, ← EReal.coe_mul, coe_sum, two]
  rw [← EReal.coe_add, ← EReal.coe_sub, ← EReal.coe_zero, ← EReal.coe_strictMono.monotone.map_max]
  show (if _ < (0 : ℝ) then (⊥ : EReal) else ((_ : ℝ) : EReal)) ≠ ⊤
  split
  · exact bot_ne_top
  · exact EReal.coe_ne_top _

theorem finite_of_abs_lt {v : EReal} (h : max v (-v) < ⊤) : ∃ r : ℝ, v = r := by
  induction v with
  | bot => exact absurd h (by simp)
  | top => exact absurd h (by simp)
  | coe r => exact ⟨r, rfl⟩

/-- The rows' distances to query `q`. -/
def column (X : Fin 100000 → Fin 32 → EReal) (q : Fin 32 → EReal) (p : ℕ) : EReal :=
  if h : p < 100000 then distOf (X ⟨p, h⟩) q else 0

theorem column_of_lt {X : Fin 100000 → Fin 32 → EReal} {q : Fin 32 → EReal} {p : ℕ} (h : p < 100000) :
    column X q p = distOf (X ⟨p, h⟩) q := dif_pos h

theorem column_ne_top {X : Fin 100000 → Fin 32 → EReal} {q : Fin 32 → EReal} (hX : ∀ p k, ∃ r : ℝ, X p k = r)
    (hq : ∀ k, ∃ r : ℝ, q k = r) (p : ℕ) (h : p < 100000) : column X q p ≠ ⊤ := by
  rw [column_of_lt h]; exact distOf_ne_top (hX _) hq

/-- The row number at place `j` of query `q`'s column: the `j`-th nearest row below 5, no row from there. -/
def word (X : Fin 100000 → Fin 32 → EReal) (q : Fin 32 → EReal) (j : ℕ) : BitVec 32 :=
  if j < 5 then BitVec.ofNat 32 (pick (column X q) (Finset.range 100000) j) else 2147483647#32

end Cert.Proof.Near
-- ==== Proof.NearRef.lean ====
/-
The nearest-rows reference at each place: the distances of the rows to the queries, and the five first of their stable sort.
-/
module

public import proofs.«01_k».proof.Proof.Dists
public import proofs.«01_k».proof.Proof.Gen.TopKReferenceIdeal.Run
public import Idealize.ShloMosaic.Lib.IdealHost
public import Idealize.ShloMosaic.Lib.KernelVsHost

@[expose] public section

noncomputable section

namespace Cert.TopKReferenceIdeal.Near

open Idealize.ShloMosaic Idealize.ShloMosaic.TcCoe Idealize.ShloMosaic.ValueIdx Idealize.SL.Sem
open Cert.TopKReferenceIdeal Cert.TopKReferenceIdeal.Gen Cert.Proof.Near

variable (X : FVec Ideal S100000x32 .f32) (Q : FVec Ideal S1024x32 .f32)

/-- The distances as the reference computes them. -/
def dists : FVec Ideal S1024x100000 .f32 :=
  Host.sqrt (maximumf (subf (addf (broadcastInDim S1024x100000 ![0, 1] bcast_S1024x1_S1024x100000_0_1
        (broadcastInDim S1024x1 ![0] bcast_S1024_S1024x1_0 (Host.reduceAdd (mulf Q Q) (constant S_ .f32 0x00000000#32)
          reducesTo_S1024x32_S1024_d1 h_S_)))
      (broadcastInDim S1024x100000 ![0, 1] bcast_S1x100000_S1024x100000_0_1
        (broadcastInDim S1x100000 ![1] bcast_S100000_S1x100000_1 (Host.reduceAdd (mulf X X) (constant S_ .f32 0x00000000#32)
          reducesTo_S100000x32_S100000_d1 h_S_))))
    (mulf (broadcastInDim S1024x100000 ![] bcast_S_S1024x100000 (constant S_ .f32 0x40000000#32))
      (Host.dotGeneral dot_S1024x32_S32x100000_S1024x100000_1_0_0_1_n_n none Q
        (transpose S32x100000 [1, 0] X transposes_S100000x32_S32x100000_1_0))))
    (broadcastInDim S1024x100000 ![] bcast_S_S1024x100000 (constant S_ .f32 0x00000000#32)))

/-- The five first row numbers of each query. -/
def five : IVec S1024x5 32 :=
  (Host.topK S1024x5 1 (FloatOps.cmpfTotal .gt) (Host.negf (dists X Q)) sliceFits_S1024x100000_S1024x5).2

/-- The reference's answer. -/
def answer : IVec S8x1024 32 :=
  pad S8x1024 ![0, 0] ![3, 0] ![0, 0] (transpose S5x1024 [1, 0] (five X Q) transposes_S1024x5_S5x1024_1_0)
    (id (constantI S_ 32 2147483647#32)) pads_S5x1024_S8x1024_030_000 h_S_

theorem queries_reduce : S1024x32.Reduces [1] S1024 := by decide
theorem rows_reduce : S100000x32.Reduces [1] S100000 := by decide

theorem queries_apply (Y : FVec Ideal S1024x32 .f32) (x : Fin 1024) (p : Fin 100000) :
    (broadcastInDim S1024x100000 ![0, 1] bcast_S1024x1_S1024x100000_0_1
      (broadcastInDim S1024x1 ![0] bcast_S1024_S1024x1_0 (Host.reduceAdd Y (constant S_ .f32 0x00000000#32)
        reducesTo_S1024x32_S1024_d1 h_S_)) (ix2 x p) : EReal) = ∑ k : Fin 32, (Y (ix2 x k) : EReal) := by
  refine (broadcastInDim_apply _ _ _ _ (ix2 x 0) (by intro a; fin_cases a <;> simp)).trans ?_
  refine (broadcastInDim_apply _ _ _ _ (ix1 x) (by intro a; fin_cases a <;> simp)).trans ?_
  refine (hostReduceAdd_apply _ _ _ _ _).trans ((Ideal.hostReduceAdd_single _ queries_reduce _ _ _).trans ?_)
  show Ideal.ofBits .f32 0x00000000#32 + _ = _
  rw [Ideal.ofBits_zero_f32, zero_add]
  refine Finset.sum_congr rfl fun k _ => congrArg Y ?_
  funext a; fin_cases a <;> rfl

theorem rows_apply (Y : FVec Ideal S100000x32 .f32) (x : Fin 1024) (p : Fin 100000) :
    (broadcastInDim S1024x100000 ![0, 1] bcast_S1x100000_S1024x100000_0_1
      (broadcastInDim S1x100000 ![1] bcast_S100000_S1x100000_1 (Host.reduceAdd Y (constant S_ .f32 0x00000000#32)
        reducesTo_S100000x32_S100000_d1 h_S_)) (ix2 x p) : EReal) = ∑ k : Fin 32, (Y (ix2 p k) : EReal) := by
  refine (broadcastInDim_apply _ _ _ _ (ix2 0 p) (by intro a; fin_cases a <;> simp)).trans ?_
  refine (broadcastInDim_apply _ _ _ _ (ix1 p) (by intro a; fin_cases a <;> simp)).trans ?_
  refine (hostReduceAdd_apply _ _ _ _ _).trans ((Ideal.hostReduceAdd_single _ rows_reduce _ _ _).trans ?_)
  show Ideal.ofBits .f32 0x00000000#32 + _ = _
  rw [Ideal.ofBits_zero_f32, zero_add]
  refine Finset.sum_congr rfl fun k _ => congrArg Y ?_
  funext a; fin_cases a <;> rfl

theorem dot_apply (x : Fin 1024) (p : Fin 100000) :
    (Host.dotGeneral (F := Ideal) (φ₁ := .f32) (φ₂ := .f32) dot_S1024x32_S32x100000_S1024x100000_1_0_0_1_n_n none Q
      (transpose S32x100000 [1, 0] X transposes_S100000x32_S32x100000_1_0) (ix2 x p) : EReal)
      = ∑ k : Fin 32, (X (ix2 p k) : EReal) * Q (ix2 x k) := by
  simp only [Host.dotGeneral]
  refine (Ideal.dotGeneral_apply _ _ _ _ _ _).trans ?_
  refine (Equiv.sum_comp (contrEquiv1 dot_S1024x32_S32x100000_S1024x100000_1_0_0_1_n_n 32 rfl rfl).symm _).symm.trans
    (Finset.sum_congr rfl fun k _ => ?_)
  have el : dot_S1024x32_S32x100000_S1024x100000_1_0_0_1_n_n.lhsIdx (ix2 x p)
      ((contrEquiv1 dot_S1024x32_S32x100000_S1024x100000_1_0_0_1_n_n 32 rfl rfl).symm k) = ix2 x k := by
    funext a; fin_cases a <;> rfl
  have er : dot_S1024x32_S32x100000_S1024x100000_1_0_0_1_n_n.rhsIdx (ix2 x p)
      ((contrEquiv1 dot_S1024x32_S32x100000_S1024x100000_1_0_0_1_n_n 32 rfl rfl).symm k) = ix2 k p := by
    funext a; fin_cases a <;> rfl
  rw [el, er, mul_comm]
  exact congrArg (· * _) (transpose_apply _ _ _ _ (ix2 p k) (by intro b; fin_cases b <;> rfl))

theorem dists_apply (x : Fin 1024) (p : Fin 100000) :
    (dists X Q (ix2 x p) : EReal) = distOf (fun k => X (ix2 p k)) fun k => Q (ix2 x k) := by
  have h := congrArg Ideal.sqrt (congrArg₂ (fun s p : EReal => max (s - Ideal.ofBits .f32 0x40000000#32 * p) (Ideal.ofBits .f32 0x00000000#32))
    (congrArg₂ (· + ·) (queries_apply (mulf Q Q) x p) (rows_apply (mulf X X) x p)) (dot_apply X Q x p))
  rw [Ideal.ofBits_zero_f32] at h
  refine Eq.trans ?_ h
  rw [← Ideal.ofBits_zero_f32]
  unfold dists
  show Ideal.sqrt (max (_ - _ * _) _) = _
  refine congrArg Ideal.sqrt (congrArg₂ max (congrArg₂ (· - ·) rfl (congrArg₂ (· * ·) ?_ rfl)) ?_)
  · exact broadcastInDim_scalar_apply _ _ _
  · exact broadcastInDim_scalar_apply _ _ _

/-- The rows, and a query, by their coordinates. -/
abbrev rowsAt (p : Fin 100000) (k : Fin 32) : EReal := X (ix2 p k)
abbrev queryAt (x : Fin 1024) (k : Fin 32) : EReal := Q (ix2 x k)

theorem top_apply (f : FVec Ideal S1024x100000 .f32) (x : Fin 1024) (j : Fin 5) :
    (Host.topK S1024x5 1 (FloatOps.cmpfTotal .gt) f sliceFits_S1024x100000_S1024x5).2 (ix2 x j)
      = BitVec.ofNat 32 (sortedFrom (n := 100000) (fun a b => FloatOps.cmpfTotal .gt (f (ix2 x a)) (f (ix2 x b)) == 1#1)
          (j.castLE (by decide))).val := by
  unfold Host.topK
  dsimp only
  refine (extractStridedSlice_apply _ _ _ _ (ix2 x (j.castLE (show 5 ≤ 100000 by decide))) (by intro a; fin_cases a <;> simp)).trans ?_
  unfold Host.sort2
  rw [dif_pos (show 1 < S1024x100000.rank by decide)]
  dsimp only
  rw [dif_pos (show 1 < S1024x100000.rank by decide)]
  unfold iotaInDim
  refine congrArg (BitVec.ofNat 32) ?_
  unfold Shape.Idx.along
  rw [Function.update_self]
  have e : ∀ a : Fin 100000, Function.update (ix2 x (j.castLE (show 5 ≤ 100000 by decide)) : S1024x100000.Idx) 1 a = ix2 x a := fun a => by
    funext k; fin_cases k <;> rfl
  have hR : (fun a b : Fin 100000 => FloatOps.cmpfTotal (F := Ideal) (φ := .f32) .gt
      (f (Function.update (ix2 x (j.castLE (show 5 ≤ 100000 by decide)) : S1024x100000.Idx) 1 a))
      (f (Function.update (ix2 x (j.castLE (show 5 ≤ 100000 by decide)) : S1024x100000.Idx) 1 b)) == 1#1)
      = fun a b => FloatOps.cmpfTotal .gt (f (ix2 x a)) (f (ix2 x b)) == 1#1 := by
    funext a b; rw [e a, e b]
  exact congrArg (fun R : Fin 100000 → Fin 100000 → Bool => (sortedFrom R (j.castLE (by decide))).val) hR

theorem five_apply (x : Fin 1024) (j : Fin 5) :
    five X Q (ix2 x j) = BitVec.ofNat 32 (pick (column (rowsAt X) (queryAt Q x)) (Finset.range 100000) j) := by
  refine (top_apply _ x j).trans (congrArg (BitVec.ofNat 32) ?_)
  refine sorted_pick (D := column (rowsAt X) (queryAt Q x)) (n := 100000) (by decide) _ (fun a b => ?_) j
  have ea : (Host.negf (dists X Q) (ix2 x a) : EReal) = -column (rowsAt X) (queryAt Q x) a.val := by
    rw [column_of_lt a.isLt]; exact congrArg Neg.neg (dists_apply X Q x a)
  have eb : (Host.negf (dists X Q) (ix2 x b) : EReal) = -column (rowsAt X) (queryAt Q x) b.val := by
    rw [column_of_lt b.isLt]; exact congrArg Neg.neg (dists_apply X Q x b)
  have h : FloatOps.cmpfTotal (F := Ideal) (φ := .f32) .gt (Host.negf (dists X Q) (ix2 x a)) (Host.negf (dists X Q) (ix2 x b))
      = BitVec.ofBool (decide ((Host.negf (dists X Q) (ix2 x b) : EReal) < Host.negf (dists X Q) (ix2 x a))) := rfl
  rw [h, ea, eb]
  generalize column (rowsAt X) (queryAt Q x) a.val = da
  generalize column (rowsAt X) (queryAt Q x) b.val = db
  by_cases hd : da < db
  · rw [decide_eq_true (EReal.neg_lt_neg_iff.mpr hd), decide_eq_true hd]; rfl
  · rw [decide_eq_false fun h' => hd (EReal.neg_lt_neg_iff.mp h'), decide_eq_false hd]; rfl

/-- The reference's answer at each place. -/
theorem answer_apply (j : Fin 8) (x : Fin 1024) : answer X Q (ix2 j x) = word (rowsAt X) (queryAt Q x) j := by
  unfold answer word
  split
  · rename_i h
    refine (pad_apply_of_inside _ _ _ _ _ _ _ _ (ix2 ⟨j.val, h⟩ x) (by intro a; fin_cases a <;> simp)).trans ?_
    refine (transpose_apply _ _ _ _ (ix2 x ⟨j.val, h⟩) (by intro b; fin_cases b <;> rfl)).trans ?_
    exact five_apply X Q x ⟨j.val, h⟩
  · rename_i h
    refine (pad_apply_of_not_inside _ _ _ _ _ _ _ _ (0 : Fin 2) (fun hh => h ?_)).trans rfl
    have := hh.2.2
    simpa using this

end Cert.TopKReferenceIdeal.Near
-- ==== Proof.TopKSteps.lean ====
/-
The nearest-rows call's body at a grid point, in closed form: what it leaves in the kept distances and the kept row
numbers is one tile's five rounds, of the tile's distances and what was kept before.
-/
module

public import proofs.«01_k».proof.Proof.Steps
public import proofs.«01_k».proof.Proof.Gen.TopKIdeal.Frame
public import Idealize.ShloMosaic.Lib.VecWindow

@[expose] public section

noncomputable section

namespace Cert.TopKIdeal.Near

open Idealize.ShloMosaic Idealize.ShloMosaic.TcCoe Idealize.ShloMosaic.ValueIdx Idealize.SL.Sem
open Cert.TopKIdeal Cert.TopKIdeal.Gen Cert.Proof.Near

theorem sides : Sides :=
  ⟨reduces_S2000x1024_S1024, reduces_S8x1024_S1024, shapeCasts_S1024_S1x1024, broadcasts_S1x1024_S2000x1024,
    broadcasts_S1x1024_S8x1024⟩

/-! ### The values the body stores -/

section Values

variable (x : Vec Ideal S2000x32 .f32) (y : Vec Ideal S32x1024 .f32) (i : grid0.Coords)
variable (g : IVec S2000x1024 32) (ri : IVec S8x1024 32) (d : FVec Ideal S2000x1024 .f32) (rd : FVec Ideal S8x1024 .f32)
variable (m : FVec Ideal S1x1024 .f32) (w : IVec S1024 32) (p : IVec S1x1024 32) (q : IVec S8x1024 32)

theorem big : Named.named (F := Ideal) κ "big" (φ := .f32) 0x7F61B1E6#32 = (⊤ : EReal) := rfl

theorem pay3 : k0_pay3 (F := Ideal) = broadcast S8x1024 (⊤ : EReal) := by
  unfold k0_pay3; dsimp only; rw [shapeCast_self, big]
theorem pay4 : k0_pay4 = broadcast S8x1024 2147483647#32 := by unfold k0_pay4; dsimp only; rw [shapeCast_self]
theorem pay7 : k0_pay7 x y rd = least sides (k0_pay5 x y) rd := rfl
theorem pay9 : k0_pay9 (F := Ideal) rd ri (least sides (k0_pay5 x y) rd) (k0_pay8 i x y rd)
    = first sides (k0_pay6 i) ri (k0_pay5 x y) rd := rfl
theorem pay10 : k0_pay10 m = m := shapeCast_self _ _
theorem pay11 : k0_pay11 (F := Ideal) rd ri m w = k0_pay9 rd ri m w := shapeCast_self _ _
theorem pay12 : k0_pay12 (F := Ideal) d g rd ri m w = dropRow sides.bt g (k0_pay9 rd ri m w) d := by
  unfold k0_pay12; dsimp only; rw [big]; rfl
theorem pay13 : k0_pay13 (F := Ideal) rd ri m w = dropRow sides.bk ri (k0_pay9 rd ri m w) rd := by
  unfold k0_pay13; dsimp only; rw [big]; rfl
theorem pay14 : k0_pay14 (F := Ideal) d g rd ri m w = least sides (k0_pay12 d g rd ri m w) (k0_pay13 rd ri m w) := rfl
theorem pay15 : k0_pay15 (F := Ideal) d g rd ri m w = first sides g ri (k0_pay12 d g rd ri m w) (k0_pay13 rd ri m w) := rfl
theorem pay16 : k0_pay16 m = m := shapeCast_self _ _
theorem pay17 : k0_pay17 p = p := shapeCast_self _ _
theorem pay18 : k0_pay18 (F := Ideal) g d p = dropRow sides.bt g p d := by unfold k0_pay18; dsimp only; rw [big]; rfl
theorem pay19 : k0_pay19 (F := Ideal) ri rd p = dropRow sides.bk ri p rd := by unfold k0_pay19; dsimp only; rw [big]; rfl
theorem pay20 : k0_pay20 (F := Ideal) g ri d rd p = least sides (k0_pay18 g d p) (k0_pay19 ri rd p) := rfl
theorem pay21 : k0_pay21 (F := Ideal) g ri d rd p = first sides g ri (k0_pay18 g d p) (k0_pay19 ri rd p) := rfl
theorem pay22 : k0_pay22 (F := Ideal) g ri d rd p = k0_pay20 g ri d rd p := shapeCast_self _ _
theorem pay23 : k0_pay23 (F := Ideal) g ri d rd p = k0_pay21 g ri d rd p := shapeCast_self _ _
theorem pay24 : k0_pay24 (F := Ideal) g ri d rd p = dropRow sides.bt g (k0_pay21 g ri d rd p) (k0_pay18 g d p) := by
  unfold k0_pay24; dsimp only; rw [big]; rfl
theorem pay26 (rd' : FVec Ideal S8x1024 .f32) :
    k0_pay26 (F := Ideal) ri rd' (k0_pay25 g ri d rd p) = dropRow sides.bk ri (k0_pay21 g ri d rd p) rd' := by
  unfold k0_pay26; dsimp only; rw [big]; rfl
theorem pay27 : k0_pay27 (F := Ideal) ri rd d q = least sides d (k0_pay26 ri rd q) := rfl
theorem pay28 : k0_pay28 (F := Ideal) g ri rd d q = first sides g ri d (k0_pay26 ri rd q) := rfl
theorem pay29 : k0_pay29 (F := Ideal) ri rd d q = k0_pay27 ri rd d q := shapeCast_self _ _
theorem pay30 : k0_pay30 (F := Ideal) g ri rd d q = k0_pay28 g ri rd d q := shapeCast_self _ _
theorem pay31 : k0_pay31 (F := Ideal) g ri rd d q = dropRow sides.bt g (k0_pay28 g ri rd d q) d := by
  unfold k0_pay31; dsimp only; rw [big]; rfl
theorem pay32 : k0_pay32 (F := Ideal) g ri rd d q = dropRow sides.bk ri (k0_pay28 g ri rd d q) (k0_pay26 ri rd q) := by
  unfold k0_pay32; dsimp only; rw [big]; rfl
theorem pay33 : k0_pay33 (F := Ideal) g ri rd d q = least sides (k0_pay31 g ri rd d q) (k0_pay32 g ri rd d q) := rfl
theorem pay1 : k0_pay1 m = m := shapeCast_self _ _
theorem pay2 : k0_pay2 (F := Ideal) g ri (k0_pay32 g ri rd d q) (k0_pay33 g ri rd d q) (k0_pay34 g ri rd d q) 2147483647#32
    = first sides g ri (k0_pay31 g ri rd d q) (k0_pay32 g ri rd d q) := shapeCast_self _ _

end Values

/-! ### What a point leaves -/

section Leaves

variable (c : Dev nD) (i : grid0.Coords) (arg1 : Memref sig .tc .vmem S2000x32 .f32) (harg1 : arg1.IsWhole)
  (arg2 : Memref sig .tc .vmem S32x1024 .f32) (harg2 : arg2.IsWhole) (arg3 : Memref sig .tc .vmem S8x1024 .i32)
  (harg3 : arg3.IsWhole) (arg4 : Memref sig .tc .vmem S8x1024 .f32) (harg4 : arg4.IsWhole)
  (arg5 : Memref sig .tc .vmem S8x1024 .i32) (harg5 : arg5.IsWhole)
  (x0 : Vec Ideal S2000x32 .f32) (x1 : Vec Ideal S32x1024 .f32) (xs0 : Vec Ideal S8x1024 .f32) (xs1 : Vec Ideal S8x1024 .i32)

theorem load_points (a : Memref sig .tc .vmem S2000x32 .f32) (ha : a.IsWhole) (x : Vec Ideal S2000x32 .f32)
    (inb : ∀ j, (![0, 0] : Fin 2 → ℕ) j + (![2000, 32] : Fin 2 → ℕ) j ≤ S2000x32.size j) :
    View.readAt (Elt Ideal) a.view (Rect.unit (s := S2000x32) ![0, 0] ![2000, 32] inb).toLoadRect (ha.unread x) = x :=
  (View.readAt_full _ _ inb).trans (ha.read_unread x)
theorem load_queries (a : Memref sig .tc .vmem S32x1024 .f32) (ha : a.IsWhole) (x : Vec Ideal S32x1024 .f32)
    (inb : ∀ j, (![0, 0] : Fin 2 → ℕ) j + (![32, 1024] : Fin 2 → ℕ) j ≤ S32x1024.size j) :
    View.readAt (Elt Ideal) a.view (Rect.unit (s := S32x1024) ![0, 0] ![32, 1024] inb).toLoadRect (ha.unread x) = x :=
  (View.readAt_full _ _ inb).trans (ha.read_unread x)
theorem load_dists (a : Memref sig .tc .vmem S8x1024 .f32) (ha : a.IsWhole) (x : Vec Ideal S8x1024 .f32)
    (inb : ∀ j, (![0, 0] : Fin 2 → ℕ) j + (![8, 1024] : Fin 2 → ℕ) j ≤ S8x1024.size j) :
    View.readAt (Elt Ideal) a.view (Rect.unit (s := S8x1024) ![0, 0] ![8, 1024] inb).toLoadRect (ha.unread x) = x :=
  (View.readAt_full _ _ inb).trans (ha.read_unread x)
theorem load_words (a : Memref sig .tc .vmem S8x1024 .i32) (ha : a.IsWhole) (x : Vec Ideal S8x1024 .i32)
    (inb : ∀ j, (![0, 0] : Fin 2 → ℕ) j + (![8, 1024] : Fin 2 → ℕ) j ≤ S8x1024.size j) :
    View.readAt (Elt Ideal) a.view (Rect.unit (s := S8x1024) ![0, 0] ![8, 1024] inb).toLoadRect (ha.unread x) = x :=
  (View.readAt_full _ _ inb).trans (ha.read_unread x)
theorem reload {s : Shape} {e : EltTy} (a : Memref sig .tc .vmem s e) (w : s.Idx → Elt Ideal e)
    {off off' : Fin s.rank → ℕ} (inb : ∀ k, off k + s.size k ≤ s.size k) (inb' : ∀ k, off' k + s.size k ≤ s.size k) :
    a.view.readCov (Val := Elt Ideal) [⟨Rect.unit off' s.size inb', w⟩] (Rect.unit off s.size inb).toLoadRect = w :=
  View.readCov_full _ inb inb' w []
theorem reload_dists (a : Memref sig .tc .vmem S8x1024 .f32) (w : Vec Ideal S8x1024 .f32)
    (inb inb' : ∀ j, (![0, 0] : Fin 2 → ℕ) j + (![8, 1024] : Fin 2 → ℕ) j ≤ S8x1024.size j) :
    a.view.readCov (Val := Elt Ideal) [⟨Rect.unit (s := S8x1024) ![0, 0] ![8, 1024] inb', w⟩]
      (Rect.unit (s := S8x1024) ![0, 0] ![8, 1024] inb).toLoadRect = w :=
  reload (s := S8x1024) a w inb inb'
theorem reload_words (a : Memref sig .tc .vmem S8x1024 .i32) (w : Vec Ideal S8x1024 .i32)
    (inb inb' : ∀ j, (![0, 0] : Fin 2 → ℕ) j + (![8, 1024] : Fin 2 → ℕ) j ≤ S8x1024.size j) :
    a.view.readCov (Val := Elt Ideal) [⟨Rect.unit (s := S8x1024) ![0, 0] ![8, 1024] inb', w⟩]
      (Rect.unit (s := S8x1024) ![0, 0] ![8, 1024] inb).toLoadRect = w :=
  reload (s := S8x1024) a w inb inb'

theorem leaves_A_0 (hc0 : cond0_0 i) (hc1 : ¬cond0_1 i) :
    sout0_A_0 c i arg1 harg1 arg2 harg2 arg3 harg3 arg4 harg4 arg5 harg5 hc0 hc1 x0 x1
      = stepD sides (k0_pay6 i) k0_pay4 (k0_pay5 x0 x1) k0_pay3 := by
  unfold sout0_A_0 kernelRun0_A
  dsimp only
  simp only [kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10,
    kernelRun0_A.sl.r_11, kernelRun0_A.sl.r_12, kernelRun0_A.sl.v26, kernelRun0_A.sl.v27, kernelRun0_A.sl.HS0_1,
    kernelRun0_A.sl.HS1_1, kernelRun0_A.sl.r,
    load_points, load_queries, load_dists, load_words, reload_dists, reload_words]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) k0_pay4 (k0_pay5 x0 x1) k0_pay3,
    state_one_snd sides (k0_pay6 i) k0_pay4 (k0_pay5 x0 x1) k0_pay3,
    state_succ_fst sides (k0_pay6 i) k0_pay4 (k0_pay5 x0 x1) k0_pay3,
    state_succ_snd sides (k0_pay6 i) k0_pay4 (k0_pay5 x0 x1) k0_pay3, Nat.reduceAdd]
  unfold stepD
  refine five_rows_of VS0_0 VS0_0.junk _ _ _ _ _ _ _ ?_ ?_ ?_ ?_ ?_ (View.read_writes_full _ _ _ _ _)
  · rfl
  · rfl
  · rfl
  · rfl
  · rfl

theorem leaves_A_1 (hc0 : cond0_0 i) (hc1 : ¬cond0_1 i) :
    sout0_A_1 c i arg1 harg1 arg2 harg2 arg3 harg3 arg4 harg4 arg5 harg5 hc0 hc1 x0 x1
      = stepI sides (k0_pay6 i) k0_pay4 (k0_pay5 x0 x1) k0_pay3 := by
  unfold sout0_A_1 kernelRun0_A
  dsimp only
  simp only [kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10,
    kernelRun0_A.sl.r_11, kernelRun0_A.sl.r_12, kernelRun0_A.sl.v26, kernelRun0_A.sl.v27, kernelRun0_A.sl.HS0_1,
    kernelRun0_A.sl.HS1_1, kernelRun0_A.sl.r,
    load_points, load_queries, load_dists, load_words, reload_dists, reload_words]
  simp only [pay2]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) k0_pay4 (k0_pay5 x0 x1) k0_pay3,
    state_one_snd sides (k0_pay6 i) k0_pay4 (k0_pay5 x0 x1) k0_pay3,
    state_succ_fst sides (k0_pay6 i) k0_pay4 (k0_pay5 x0 x1) k0_pay3,
    state_succ_snd sides (k0_pay6 i) k0_pay4 (k0_pay5 x0 x1) k0_pay3, Nat.reduceAdd]
  unfold stepI
  refine five_rows_of VS0_1 VS0_1.junk _ _ _ _ _ _ _ ?_ ?_ ?_ ?_ ?_ (View.read_writes_full _ _ _ _ _)
  · rfl
  · rfl
  · rfl
  · rfl
  · rfl

theorem leaves_B_0 (hc0 : ¬cond0_0 i) (hc1 : ¬cond0_1 i) :
    sout0_B_0 c i arg1 harg1 arg2 harg2 arg3 harg3 arg4 harg4 arg5 harg5 hc0 hc1 x0 x1 xs0 xs1
      = stepD sides (k0_pay6 i) xs1 (k0_pay5 x0 x1) xs0 := by
  unfold sout0_B_0 kernelRun0_B
  dsimp only
  simp only [kernelRun0_B.sl.r_1, kernelRun0_B.sl.r_2, kernelRun0_B.sl.r_3, kernelRun0_B.sl.r_4, kernelRun0_B.sl.r_5,
    kernelRun0_B.sl.r_6, kernelRun0_B.sl.r_7, kernelRun0_B.sl.r_8, kernelRun0_B.sl.r_9, kernelRun0_B.sl.r_10,
    kernelRun0_B.sl.r_11, kernelRun0_B.sl.r_12, kernelRun0_B.sl.r_13, kernelRun0_B.sl.r_14, kernelRun0_B.sl.r,
    load_points, load_queries, load_dists, load_words, reload_dists, reload_words]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) xs1 (k0_pay5 x0 x1) xs0,
    state_one_snd sides (k0_pay6 i) xs1 (k0_pay5 x0 x1) xs0,
    state_succ_fst sides (k0_pay6 i) xs1 (k0_pay5 x0 x1) xs0,
    state_succ_snd sides (k0_pay6 i) xs1 (k0_pay5 x0 x1) xs0, Nat.reduceAdd]
  unfold stepD
  refine five_rows_of arg4.view (harg4.unread xs0) [] _ _ _ _ _ _ ?_ ?_ ?_ ?_ ?_ (harg4.read_unread xs0)
  · rfl
  · rfl
  · rfl
  · rfl
  · rfl

theorem leaves_B_1 (hc0 : ¬cond0_0 i) (hc1 : ¬cond0_1 i) :
    sout0_B_1 c i arg1 harg1 arg2 harg2 arg3 harg3 arg4 harg4 arg5 harg5 hc0 hc1 x0 x1 xs0 xs1
      = stepI sides (k0_pay6 i) xs1 (k0_pay5 x0 x1) xs0 := by
  unfold sout0_B_1 kernelRun0_B
  dsimp only
  simp only [kernelRun0_B.sl.r_1, kernelRun0_B.sl.r_2, kernelRun0_B.sl.r_3, kernelRun0_B.sl.r_4, kernelRun0_B.sl.r_5,
    kernelRun0_B.sl.r_6, kernelRun0_B.sl.r_7, kernelRun0_B.sl.r_8, kernelRun0_B.sl.r_9, kernelRun0_B.sl.r_10,
    kernelRun0_B.sl.r_11, kernelRun0_B.sl.r_12, kernelRun0_B.sl.r_13, kernelRun0_B.sl.r_14, kernelRun0_B.sl.r,
    load_points, load_queries, load_dists, load_words, reload_dists, reload_words]
  simp only [pay2]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) xs1 (k0_pay5 x0 x1) xs0,
    state_one_snd sides (k0_pay6 i) xs1 (k0_pay5 x0 x1) xs0,
    state_succ_fst sides (k0_pay6 i) xs1 (k0_pay5 x0 x1) xs0,
    state_succ_snd sides (k0_pay6 i) xs1 (k0_pay5 x0 x1) xs0, Nat.reduceAdd]
  unfold stepI
  refine five_rows_of arg5.view (harg5.unread xs1) [] _ _ _ _ _ _ ?_ ?_ ?_ ?_ ?_ (harg5.read_unread xs1)
  · rfl
  · rfl
  · rfl
  · rfl
  · rfl

theorem leaves_C_0 (hc0 : ¬cond0_0 i) (hc1 : cond0_1 i) :
    sout0_C_0 c i arg1 harg1 arg2 harg2 arg3 harg3 arg4 harg4 arg5 harg5 hc0 hc1 x0 x1 xs0 xs1
      = stepD sides (k0_pay6 i) xs1 (k0_pay5 x0 x1) xs0 := by
  unfold sout0_C_0 kernelRun0_C
  dsimp only
  simp only [kernelRun0_C.sl.r_1, kernelRun0_C.sl.r_2, kernelRun0_C.sl.r_3, kernelRun0_C.sl.r_4, kernelRun0_C.sl.r_5,
    kernelRun0_C.sl.r_6, kernelRun0_C.sl.r_7, kernelRun0_C.sl.r_8, kernelRun0_C.sl.r_9, kernelRun0_C.sl.r_10,
    kernelRun0_C.sl.r_11, kernelRun0_C.sl.r_12, kernelRun0_C.sl.r_13, kernelRun0_C.sl.r_14, kernelRun0_C.sl.r, kernelRun0_C.sl.HS1_5,
    load_points, load_queries, load_dists, load_words, reload_dists, reload_words]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) xs1 (k0_pay5 x0 x1) xs0,
    state_one_snd sides (k0_pay6 i) xs1 (k0_pay5 x0 x1) xs0,
    state_succ_fst sides (k0_pay6 i) xs1 (k0_pay5 x0 x1) xs0,
    state_succ_snd sides (k0_pay6 i) xs1 (k0_pay5 x0 x1) xs0, Nat.reduceAdd]
  unfold stepD
  refine five_rows_of arg4.view (harg4.unread xs0) [] _ _ _ _ _ _ ?_ ?_ ?_ ?_ ?_ (harg4.read_unread xs0)
  · rfl
  · rfl
  · rfl
  · rfl
  · rfl

theorem leaves_C_1 (hc0 : ¬cond0_0 i) (hc1 : cond0_1 i) :
    sout0_C_1 c i arg1 harg1 arg2 harg2 arg3 harg3 arg4 harg4 arg5 harg5 hc0 hc1 x0 x1 xs0 xs1
      = stepI sides (k0_pay6 i) xs1 (k0_pay5 x0 x1) xs0 := by
  unfold sout0_C_1 kernelRun0_C
  dsimp only
  simp only [kernelRun0_C.sl.r_1, kernelRun0_C.sl.r_2, kernelRun0_C.sl.r_3, kernelRun0_C.sl.r_4, kernelRun0_C.sl.r_5,
    kernelRun0_C.sl.r_6, kernelRun0_C.sl.r_7, kernelRun0_C.sl.r_8, kernelRun0_C.sl.r_9, kernelRun0_C.sl.r_10,
    kernelRun0_C.sl.r_11, kernelRun0_C.sl.r_12, kernelRun0_C.sl.r_13, kernelRun0_C.sl.r_14, kernelRun0_C.sl.r, kernelRun0_C.sl.HS1_5,
    load_points, load_queries, load_dists, load_words, reload_dists, reload_words]
  simp only [pay2]
  simp only [pay1, pay10, pay11, pay16, pay17, pay22, pay23, pay29, pay30, pay33, pay32, pay31, pay28, pay27,
    pay26, pay24, pay21, pay20, pay19, pay18, pay15, pay14, pay13, pay12, pay7, pay9]
  simp only [state_one_fst sides (k0_pay6 i) xs1 (k0_pay5 x0 x1) xs0,
    state_one_snd sides (k0_pay6 i) xs1 (k0_pay5 x0 x1) xs0,
    state_succ_fst sides (k0_pay6 i) xs1 (k0_pay5 x0 x1) xs0,
    state_succ_snd sides (k0_pay6 i) xs1 (k0_pay5 x0 x1) xs0, Nat.reduceAdd]
  unfold stepI
  refine five_rows_of arg5.view (harg5.unread xs1) [] _ _ _ _ _ _ ?_ ?_ ?_ ?_ ?_ (harg5.read_unread xs1)
  · rfl
  · rfl
  · rfl
  · rfl
  · rfl

/-- The last point also stores the kept row numbers out, as it leaves them. -/
theorem leaves_C_2 (hc0 : ¬cond0_0 i) (hc1 : cond0_1 i) :
    out0_C_2 c i arg1 harg1 arg2 harg2 arg3 harg3 arg4 harg4 arg5 harg5 hc0 hc1 x0 x1 xs0 xs1
      = sout0_C_1 c i arg1 harg1 arg2 harg2 arg3 harg3 arg4 harg4 arg5 harg5 hc0 hc1 x0 x1 xs0 xs1 := by
  unfold out0_C_2 sout0_C_1 kernelRun0_C
  dsimp only
  refine (View.read_writes_full _ _ _ _ _).trans ?_
  simp only [kernelRun0_C.sl.v183]
  exact View.readAt_full (s := S8x1024) _ _ _

end Leaves

end Cert.TopKIdeal.Near
-- ==== Proof.TopKTiles.lean ====
/-
The nearest-rows call tile by tile: a tile's distances and row numbers at each place, and, after each tile, the nearest
rows of the tiles so far in the kept arrays.
-/
module

public import proofs.«01_k».proof.Proof.Dists
public import proofs.«01_k».proof.Proof.TopKSteps
public import Idealize.ShloMosaic.Lib.Pipeline.Value

@[expose] public section

noncomputable section

namespace Cert.TopKIdeal.Near

open Idealize.ShloMosaic Idealize.ShloMosaic.TcCoe Idealize.ShloMosaic.ValueIdx Idealize.SL.Sem
open Cert.TopKIdeal Cert.TopKIdeal.Gen Cert.Proof.Near

/-! ### One tile's values -/

theorem dot_apply (x : Vec Ideal S2000x32 .f32) (y : Vec Ideal S32x1024 .f32) (r : Fin 2000) (c : Fin 1024) :
    (matmul (F := Ideal) (φ₁ := .f32) (φ₂ := .f32) dot_S2000x32_S32x1024_S2000x1024_1_0_0_1_n_n none x y (constant S2000x1024 .f32 0x00000000#32) (ix2 r c) : EReal)
      = ∑ k : Fin 32, (x (ix2 r k) : EReal) * y (ix2 k c) := by
  refine (Ideal.matmul_constant_zero_apply _ _ _ _ _).trans ?_
  refine (Equiv.sum_comp (contrEquiv1 dot_S2000x32_S32x1024_S2000x1024_1_0_0_1_n_n 32 rfl rfl).symm _).symm.trans
    (Finset.sum_congr rfl fun k _ => ?_)
  have el : dot_S2000x32_S32x1024_S2000x1024_1_0_0_1_n_n.lhsIdx (ix2 r c)
      ((contrEquiv1 dot_S2000x32_S32x1024_S2000x1024_1_0_0_1_n_n 32 rfl rfl).symm k) = ix2 r k := by
    funext a; fin_cases a <;> rfl
  have er : dot_S2000x32_S32x1024_S2000x1024_1_0_0_1_n_n.rhsIdx (ix2 r c)
      ((contrEquiv1 dot_S2000x32_S32x1024_S2000x1024_1_0_0_1_n_n 32 rfl rfl).symm k) = ix2 k c := by
    funext a; fin_cases a <;> rfl
  rw [el, er]

theorem rows_apply (x : FVec Ideal S2000x32 .f32) (r : Fin 2000) (c : Fin 1024) :
    (broadcastTo S2000x1024 (shapeCast S2000x1 (multiReduction .add [1] S2000 x 0x00000000#32 reduces_S2000x32_S2000
      (.inl rfl) rfl) shapeCasts_S2000_S2000x1) broadcasts_S2000x1_S2000x1024 (ix2 r c) : EReal)
      = ∑ k : Fin 32, (x (ix2 r k) : EReal) := by
  refine (broadcastTo_apply _ _ _ (ix2 r 0) (by intro a; fin_cases a <;> simp)).trans ?_
  refine (shapeCast_apply _ _ _ (ix1 r) (by rw [Shape.rowMajor_val_one, Shape.rowMajor_val_two]; simp)).trans ?_
  refine (Ideal.multiReduction_add_single _ _ _ _ _ _).trans (Finset.sum_congr rfl fun k _ => congrArg x ?_)
  funext a; fin_cases a <;> rfl

theorem cols_apply (y : FVec Ideal S32x1024 .f32) (r : Fin 2000) (c : Fin 1024) :
    (broadcastTo S2000x1024 (shapeCast S1x1024 (multiReduction .add [0] S1024 y 0x00000000#32 reduces_S32x1024_S1024
      (.inl rfl) rfl) shapeCasts_S1024_S1x1024) broadcasts_S1x1024_S2000x1024 (ix2 r c) : EReal)
      = ∑ k : Fin 32, (y (ix2 k c) : EReal) := by
  refine (broadcastTo_apply _ _ _ (ix2 0 c) (by intro a; fin_cases a <;> simp)).trans ?_
  refine (shapeCast_apply _ _ _ (ix1 c) (by rw [Shape.rowMajor_val_one, Shape.rowMajor_val_two]; simp)).trans ?_
  refine (Ideal.multiReduction_add_single _ _ _ _ _ _).trans (Finset.sum_congr rfl fun k _ => congrArg y ?_)
  funext a; fin_cases a <;> rfl

/-- A tile's distances. -/
theorem pay5_apply (x : Vec Ideal S2000x32 .f32) (y : Vec Ideal S32x1024 .f32) (r : Fin 2000) (c : Fin 1024) :
    (k0_pay5 x y (ix2 r c) : EReal) = distOf (fun k => x (ix2 r k)) fun k => y (ix2 k c) := by
  have h := congrArg Ideal.sqrt (congrArg₂ (fun s p : EReal => max (s - Ideal.ofBits .f32 0x40000000#32 * p) (Ideal.ofBits .f32 0x00000000#32))
    (congrArg₂ (· + ·) (cols_apply (mulf y y) r c) (rows_apply (mulf x x) r c)) (dot_apply x y r c))
  rw [Ideal.ofBits_zero_f32] at h
  refine Eq.trans ?_ h
  rw [← Ideal.ofBits_zero_f32]
  unfold k0_pay5
  dsimp only
  rw [shapeCast_self]
  rfl

theorem coords_val (t : Fin cfg0.N) : ((grid0.coords t) 0).val = t.val := by
  have h : (grid0.coords t 0).val = t.val / 1 % 50 := Pipeline.Grid.coords_val t 0 (by decide) rfl
  have := lt_of_lt_of_eq t.isLt (show cfg0.N = 50 from N_0)
  omega

/-- A tile's row numbers. -/
theorem pay6_apply (t : Fin cfg0.N) (r : Fin 2000) (c : Fin 1024) :
    k0_pay6 (grid0.coords t) (ix2 r c) = BitVec.ofNat 32 (2000 * t.val + r.val) := by
  unfold k0_pay6
  dsimp only
  rw [coords_val]
  show iota .tc S2000x1024 32 [0] iota_S2000x1024_d0_w32 (ix2 r c) + BitVec.ofNat 32 t.val * 2000#32 = _
  rw [iota_single_apply]
  show BitVec.ofNat 32 r.val + BitVec.ofNat 32 t.val * BitVec.ofNat 32 2000 = _
  rw [← BitVec.ofNat_mul, ← BitVec.ofNat_add]
  congr 1; omega

section Tiles

variable (m : (ℓ : Loc nD τ sig) → Buf (Elt Ideal) ℓ) (c : Dev nD)

/-- The rows' coordinates. -/
def rowsOf (p : Fin 100000) (k : Fin 32) : EReal := m ((c : Thread nD τ).loc main_arg0) (ix2 p k)

/-- Query `x`'s coordinates. -/
def queryOf (x : Fin 1024) (k : Fin 32) : EReal := m ((c : Thread nD τ).loc main_arg1) (ix2 x k)

theorem point_lt (t : Fin cfg0.N) (r : Fin 2000) : 2000 * t.val + r.val < 100000 := by
  have := lt_of_lt_of_eq t.isLt (show cfg0.N = 50 from N_0); omega

theorem block_rows (t : Fin cfg0.N) (r : Fin 2000) (k : Fin 32) :
    (iblk m c 0 t (ix2 r k) : EReal) = rowsOf m c ⟨2000 * t.val + r.val, point_lt t r⟩ k := by
  show V m c main_arg0 (((cfg0.win 0).blk t).view.emb (ix2 r k)) = _
  rw [V_main_arg0]
  refine congrArg (m ((c : Thread nD τ).loc main_arg0)) (funext fun a => Fin.ext ?_)
  refine (Pipeline.Window.rect_emb_val win0_0 t (ix2 r k) a rfl).trans ?_
  fin_cases a
  · show cc0_transform_0 (grid0.coords t) 0 * 2000 + r.val = 2000 * t.val + r.val
    unfold cc0_transform_0
    dsimp only
    rw [coords_val]
    have := lt_of_lt_of_eq t.isLt (show cfg0.N = 50 from N_0)
    show t.val % 4294967296 * 2000 + r.val = _
    omega
  · show cc0_transform_0 (grid0.coords t) 1 * 32 + k.val = k.val
    unfold cc0_transform_0
    simp

theorem block_queries (t : Fin cfg0.N) (k : Fin 32) (x : Fin 1024) :
    (iblk m c 1 t (ix2 k x) : EReal) = queryOf m c x k := by
  show V m c main_v0 (((cfg0.win 1).blk t).view.emb (ix2 k x)) = _
  have e : ((cfg0.win 1).blk t).view.emb (ix2 k x) = ix2 k x := by
    refine funext fun a => Fin.ext ?_
    refine (Pipeline.Window.rect_emb_val win0_1 t (ix2 k x) a rfl).trans ?_
    fin_cases a
    · show cc0_transform_1 (grid0.coords t) 0 * 32 + k.val = k.val
      unfold cc0_transform_1
      simp
    · show cc0_transform_1 (grid0.coords t) 1 * 1024 + x.val = x.val
      unfold cc0_transform_1
      simp
  rw [e]
  show StableHlo.after hostOps0 (fun b => m (c, b)) (main_v0 : Ref sig .tc) (ix2 k x) = _
  rw [show StableHlo.after hostOps0 (fun b => m (c, b)) (main_v0 : Ref sig .tc)
    = transpose S32x1024 [1, 0] (m ((c : Thread nD τ).loc main_arg1)) transposes_S1024x32_S32x1024_1_0 from by
    simp only [hostOps0, StableHlo.after_cons, StableHlo.after_nil]
    rfl]
  exact transpose_apply _ _ _ _ (ix2 x k) (by intro b; fin_cases b <;> rfl)

variable (hX : ∀ p k, ∃ r : ℝ, rowsOf m c p k = r) (hQ : ∀ x k, ∃ r : ℝ, queryOf m c x k = r)

include hX hQ

theorem tile (t : Fin cfg0.N) (ri : IVec S8x1024 32) (rd : FVec Ideal S8x1024 .f32) (x : Fin 1024)
    (hk : Kept (column (rowsOf m c) (queryOf m c x)) t.val (fun j => rd (ix2 j x)) fun j => ri (ix2 j x)) :
    Kept (column (rowsOf m c) (queryOf m c x)) (t.val + 1)
      (fun j => stepD sides (k0_pay6 (grid0.coords t)) ri (k0_pay5 (iblk m c 0 t) (iblk m c 1 t)) rd (ix2 j x))
      fun j => stepI sides (k0_pay6 (grid0.coords t)) ri (k0_pay5 (iblk m c 0 t) (iblk m c 1 t)) rd (ix2 j x) := by
  refine Kept.step sides (lt_of_lt_of_eq t.isLt (show cfg0.N = 50 from N_0)) _ _ _ _ _ hk (fun r => ?_)
    (fun r => pay6_apply t r x) fun p hp => column_ne_top hX (hQ x) p hp
  refine (pay5_apply _ _ r x).trans ?_
  rw [column_of_lt (point_lt t r)]
  exact congrArg₂ distOf (funext fun k => block_rows m c t r k) (funext fun k => block_queries m c t k x)

/-- After each tile the kept arrays hold the nearest rows so far. -/
theorem kept (n : ℕ) (hn : n < cfg0.N) (x : Fin 1024) :
    Kept (column (rowsOf m c) (queryOf m c x)) (n + 1) (fun j => (outsAt0 m c n hn).2.1 (ix2 j x))
      fun j => (outsAt0 m c n hn).2.2 (ix2 j x) := by
  have hN : n < 50 := lt_of_lt_of_eq hn (show cfg0.N = 50 from N_0)
  induction n with
  | zero =>
    have e := outsAt0_A m c ⟨0, hn⟩ rfl (show ¬ 0 % 50 = 49 by decide)
    dsimp only at e
    rw [e]
    dsimp only
    rw [leaves_A_0, leaves_A_1]
    refine tile m c hX hQ ⟨0, hn⟩ _ _ x fun j => ?_
    rw [pay3, pay4, if_neg (fun h => h.1 rfl)]
    exact ⟨rfl, rfl⟩
  | succ n ih =>
    have ih := ih (Nat.lt_of_succ_lt hn) (by omega)
    by_cases h : n + 1 = 49
    · have e := outsAt0_C m c ⟨n + 1, hn⟩ (show ¬ (n + 1) % 50 = 0 by omega) (show (n + 1) % 50 = 49 by omega)
      dsimp only at e
      rw [e]
      dsimp only
      rw [leaves_C_0, leaves_C_1]
      exact tile m c hX hQ ⟨n + 1, hn⟩ _ _ x ih
    · have e := outsAt0_B m c ⟨n + 1, hn⟩ (show ¬ (n + 1) % 50 = 0 by omega) (show ¬ (n + 1) % 50 = 49 by omega)
      dsimp only at e
      rw [e]
      dsimp only
      rw [leaves_B_0, leaves_B_1]
      exact tile m c hX hQ ⟨n + 1, hn⟩ _ _ x ih

/-- What the last tile stores out: the nearest rows' numbers, then no row. -/
theorem stored (hn : 49 < cfg0.N) (j : Fin 8) (x : Fin 1024) :
    (outsAt0 m c 49 hn).1 (ix2 j x) = word (rowsOf m c) (queryOf m c x) j := by
  have hk := kept m c hX hQ 49 hn x j
  have e := outsAt0_C m c ⟨49, hn⟩ (show ¬ 49 % 50 = 0 by decide) rfl
  dsimp only at e
  have e1 : (outsAt0 m c 49 hn).1 = (outsAt0 m c 49 hn).2.2 := by
    rw [e]
    dsimp only
    rw [leaves_C_2]
  rw [e1]
  unfold word
  split at hk
  · rename_i h
    rw [if_pos h.2]; exact hk.2
  · rename_i h
    rw [if_neg fun h' => h ⟨by decide, h'⟩]; exact hk.2

end Tiles

end Cert.TopKIdeal.Near
-- ==== Proof.NearClaims.lean ====
/-
The nearest-rows call and its reference leave the same row numbers, for finite rows and queries.
-/
module

public import proofs.«01_k».proof.Defs
public import proofs.«01_k».proof.Proof.NearRef
public import proofs.«01_k».proof.Proof.TopKTiles
public import proofs.«01_k».proof.Proof.Gen.TopKIdeal.Value
public import proofs.«01_k».proof.Proof.Gen.Pre_finite_rows
public import Idealize.ShloMosaic.Lib.ReduceAll

@[expose] public section

noncomputable section

namespace Cert.Proof.Near

open Idealize.ShloMosaic Idealize.ShloMosaic.TcCoe Idealize.ShloMosaic.ValueIdx Idealize.SL.Sem

/-- An array whose every entry compares below infinity in magnitude has finite entries. -/
theorem finite_of_all {s t u : Shape} {axes : List (Fin s.rank)} [Subsingleton t.Idx] (x : FVec Ideal s .f32)
    (hb : (⟨0, ![]⟩ : Shape).BroadcastsInDim s ![]) (init : u.Idx → BitVec 1) (h : s.ReducesTo axes t) (hu : 0 < u.numel)
    (e : Host.reduce IntOp.andi (cmpf .olt (Host.absf x) (broadcastInDim s ![] hb (constant ⟨0, ![]⟩ .f32 0x7F800000#32))) init h hu
      = fun _ => 1#1) (j : t.Idx) (i : s.Idx) : ∃ r : ℝ, (x i : EReal) = r := by
  have h1 := Host.reduce_andi_all _ _ _ _ j (congrFun e j) i
  refine finite_of_abs_lt ?_
  have h2 : BitVec.ofBool (decide (max (x i : EReal) (-x i) < broadcastInDim s ![] hb (constant (F := Ideal) ⟨0, ![]⟩ .f32 0x7F800000#32) i)) = 1#1 := h1
  rw [broadcastInDim_scalar_apply] at h2
  have h3 : (constant (F := Ideal) ⟨0, ![]⟩ .f32 0x7F800000#32 ix0 : EReal) = ⊤ := ofBits_inf
  rw [h3] at h2
  by_contra hn
  rw [decide_eq_false hn] at h2
  exact absurd h2 (by decide)

instance : Subsingleton (⟨0, ![]⟩ : Shape).Idx := ⟨fun a b => funext fun k => k.elim0⟩

theorem rows_finite (m : (ℓ : Loc Cert.TopKIdeal.nD Cert.TopKIdeal.τ Cert.TopKIdeal.sig) → Buf (Elt Ideal) ℓ)
    (hm : Cert.Pre_TopKIdeal_finite_rows m) (c : Dev Cert.TopKIdeal.nD) (p : Fin 100000) (k : Fin 32) :
    ∃ r : ℝ, Cert.TopKIdeal.Near.rowsOf m c p k = r := by
  have h := (hm c).1
  unfold Cert.Pre_finite_rows.fn at h
  dsimp only at h
  exact finite_of_all _ _ _ _ _ h ix0 (ix2 p k)

theorem queries_finite (m : (ℓ : Loc Cert.TopKIdeal.nD Cert.TopKIdeal.τ Cert.TopKIdeal.sig) → Buf (Elt Ideal) ℓ)
    (hm : Cert.Pre_TopKIdeal_finite_rows m) (c : Dev Cert.TopKIdeal.nD) (x : Fin 1024) (k : Fin 32) :
    ∃ r : ℝ, Cert.TopKIdeal.Near.queryOf m c x k = r := by
  have h := (hm c).2
  unfold Cert.Pre_finite_rows.fn at h
  dsimp only at h
  exact finite_of_all _ _ _ _ _ h ix0 (ix2 x k)

/-- What both leave. -/
def words (m : (ℓ : Loc Cert.TopKIdeal.nD Cert.TopKIdeal.τ Cert.TopKIdeal.sig) → Buf (Elt Ideal) ℓ)
    (c : Dev Cert.TopKIdeal.nD) : IVec (Blk 8) 32 :=
  fun i => word (Cert.TopKIdeal.Near.rowsOf m c) (Cert.TopKIdeal.Near.queryOf m c (i 1)) (i 0).val

theorem agree : Cert.algebraic_TopKIdeal_TopKReferenceIdeal_pre_finite_rows := fun m ρ m' ρ' hpre hargs =>
  ⟨words m,
    (θ_run Cert.TopKIdeal.defs _ _).mono (fun r h c => ⟨(h c).1.trans (by
        funext i
        obtain ⟨j, x, rfl⟩ : ∃ (j : Fin 8) (x : Fin 1024), i = ix2 j x := ⟨i 0, i 1, eq_ix2 i⟩
        rw [Cert.TopKIdeal.Value.G2_last, ← Cert.TopKIdeal.Value.outsAt0_sweep m c 49 (lt_of_lt_of_eq (by decide) Cert.TopKIdeal.Gen.N_0.symm)]
        exact Cert.TopKIdeal.Near.stored m c (rows_finite m hpre c) (queries_finite m hpre c) _ j x), (h c).2⟩)
      (Cert.TopKIdeal.Value.run m ρ),
    (θ_run Cert.TopKReferenceIdeal.defs _ _).mono (fun r h c => ⟨(h c).1.trans (by
        funext i
        obtain ⟨j, x, rfl⟩ : ∃ (j : Fin 8) (x : Fin 1024), i = ix2 j x := ⟨i 0, i 1, eq_ix2 i⟩
        refine (Cert.TopKReferenceIdeal.Near.answer_apply _ _ j x).trans ?_
        have e0 := (hargs c).1
        have e1 := (hargs c).2
        exact congrArg₂ (fun X Q => word (Cert.TopKReferenceIdeal.Near.rowsAt X) (Cert.TopKReferenceIdeal.Near.queryAt Q x) j.val)
          e0 e1), (h c).2⟩)
      (Cert.TopKReferenceIdeal.Value.run m' ρ')⟩

end Cert.Proof.Near

end
-- ==== Proof.VoteRefRun.lean ====
/-
  The reference's vote as a list of host operations, and its run.
-/
module

public import proofs.«01_k».proof.Proof.Gen.VoteReference
public import Idealize.ShloMosaic.Lib.StableHlo.Run

@[expose] public section

noncomputable section

namespace Cert.Proof.VoteRef

open Cert.VoteReference Cert.VoteReference.Gen Idealize.ShloMosaic Idealize.ShloMosaic.TcCoe Idealize.SL.Sem Idealize.ShloMosaic.StableHlo

variable {F : FTy → Type} [FloatOps F]

/-- The picks laid out one query a row. -/
abbrev headOps : List (HloOp τ sig (Elt F)) :=
  [ unary main_arg0 main_v0 ((extractStridedSlice S5x1024 ![0, 0] · slices_S8x1024_S5x1024_0_0) : (⟨S8x1024, .i32⟩ : BufTy).Contents (Elt F) → (⟨S5x1024, .i32⟩ : BufTy).Contents (Elt F)),
    unary main_v0 main_v1 ((transpose S1024x5 [1, 0] · transposes_S5x1024_S1024x5_1_0) : (⟨S5x1024, .i32⟩ : BufTy).Contents (Elt F) → (⟨S1024x5, .i32⟩ : BufTy).Contents (Elt F)) ]

/-- Each pick's label. -/
abbrev takeOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S1024x5, .i32⟩) main_call0_v0) (broadcastInDim S1024x5 ![] bcast_S_S1024x5),
    TRef.binary (TRef.of (T := ⟨S1024x5, .i32⟩) main_v1) (TRef.of (T := ⟨S1024x5, .i32⟩) main_call0_v0) (TRef.of (T := ⟨S1024x5, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x5, .i32⟩) main_call0_v2) (broadcastInDim S1024x5 ![] bcast_S_S1024x5),
    TRef.binary (TRef.of (T := ⟨S1024x5, .i32⟩) main_v1) (TRef.of (T := ⟨S1024x5, .i32⟩) main_call0_v2) (TRef.of (T := ⟨S1024x5, .i32⟩) main_call0_v3) addi,
    TRef.ternary (TRef.of (T := ⟨S1024x5, .i1⟩) main_call0_v1) (TRef.of (T := ⟨S1024x5, .i32⟩) main_call0_v3) (TRef.of (T := ⟨S1024x5, .i32⟩) main_v1) (TRef.of (T := ⟨S1024x5, .i32⟩) main_call0_v4) select,
    TRef.unary (TRef.of (T := ⟨S1024x5, .i32⟩) main_call0_v4) (TRef.of (T := ⟨S1024x5x1, .i32⟩) main_call0_v5) (broadcastInDim S1024x5x1 ![0, 1] bcast_S1024x5_S1024x5x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x5x1, .i32⟩) main_call0_v6) (broadcastInDim S1024x5x1 ![] bcast_S_S1024x5x1),
    TRef.binary (TRef.of (T := ⟨S1024x5x1, .i32⟩) main_call0_v5) (TRef.of (T := ⟨S1024x5x1, .i32⟩) main_call0_v6) (TRef.of (T := ⟨S1024x5x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x5x1, .i32⟩) main_call0_v9) (broadcastInDim S1024x5x1 ![0, 1, 2] bcast_S1x1x1_S1024x5x1_0_1_2),
    TRef.binary (TRef.of (T := ⟨S1024x5x1, .i32⟩) main_call0_v5) (TRef.of (T := ⟨S1024x5x1, .i32⟩) main_call0_v9) (TRef.of (T := ⟨S1024x5x1, .i1⟩) main_call0_v10) (cmpi .sle),
    TRef.binary (TRef.of (T := ⟨S1024x5x1, .i1⟩) main_call0_v7) (TRef.of (T := ⟨S1024x5x1, .i1⟩) main_call0_v10) (TRef.of (T := ⟨S1024x5x1, .i1⟩) main_call0_v11) andi,
    TRef.nullary (TRef.of (T := ⟨S_, .i1⟩) main_call0_c_3) (constantI S_ 1 1#1),
    TRef.binary (TRef.of (T := ⟨S1024x5x1, .i1⟩) main_call0_v11) (TRef.of (T := ⟨S_, .i1⟩) main_call0_c_3) (TRef.of (T := ⟨S1024x5, .i1⟩) main_call0_v12) (fun x v => Host.reduce IntOp.andi x v reducesTo_S1024x5x1_S1024x5_d2 h_S_),
    TRef.binary (TRef.of (T := ⟨S100000, .i32⟩) main_arg1) (TRef.of (T := ⟨S1024x5x1, .i32⟩) main_call0_v5) (TRef.of (T := ⟨S1024x5, .i32⟩) main_call0_v13) (fun x i => Host.gather gather_S100000_S1024x5x1_S1024x5_n_0_n_n_0_2_1 x i),
    TRef.nullary (TRef.of (T := ⟨S_, .i32⟩) main_call0_c_4) (constantI S_ 32 2147483648#32),
    TRef.unary (TRef.of (T := ⟨S_, .i32⟩) main_call0_c_4) (TRef.of (T := ⟨S1024x5, .i32⟩) main_call0_v14) (broadcastInDim S1024x5 ![] bcast_S_S1024x5),
    TRef.ternary (TRef.of (T := ⟨S1024x5, .i1⟩) main_call0_v12) (TRef.of (T := ⟨S1024x5, .i32⟩) main_call0_v13) (TRef.of (T := ⟨S1024x5, .i32⟩) main_call0_v14) (TRef.of (T := ⟨S1024x5, .i32⟩) main_v2) select ]

/-- Each label's score. -/
abbrev scoreOps : List (HloOp τ sig (Elt F)) :=
  [ unary main_v2 main_v3 (broadcastInDim S1024x5x1 ![0, 1] bcast_S1024x5_S1024x5x1_0_1 : (⟨S1024x5, .i32⟩ : BufTy).Contents (Elt F) → (⟨S1024x5x1, .i32⟩ : BufTy).Contents (Elt F)),
    unary main_v2 main_v4 (broadcastInDim S1024x1x5 ![0, 2] bcast_S1024x5_S1024x1x5_0_2 : (⟨S1024x5, .i32⟩ : BufTy).Contents (Elt F) → (⟨S1024x1x5, .i32⟩ : BufTy).Contents (Elt F)),
    unary main_v3 main_v5 (broadcastInDim S1024x5x5 ![0, 1, 2] bcast_S1024x5x1_S1024x5x5_0_1_2 : (⟨S1024x5x1, .i32⟩ : BufTy).Contents (Elt F) → (⟨S1024x5x5, .i32⟩ : BufTy).Contents (Elt F)),
    unary main_v4 main_v6 (broadcastInDim S1024x5x5 ![0, 1, 2] bcast_S1024x1x5_S1024x5x5_0_1_2 : (⟨S1024x1x5, .i32⟩ : BufTy).Contents (Elt F) → (⟨S1024x5x5, .i32⟩ : BufTy).Contents (Elt F)),
    binary main_v5 main_v6 main_v7 (cmpi .eq : (⟨S1024x5x5, .i32⟩ : BufTy).Contents (Elt F) → (⟨S1024x5x5, .i32⟩ : BufTy).Contents (Elt F) → (⟨S1024x5x5, .i1⟩ : BufTy).Contents (Elt F)),
    unary main_v7 main_v8 ((extui 32 · natLt_1_32) : (⟨S1024x5x5, .i1⟩ : BufTy).Contents (Elt F) → (⟨S1024x5x5, .i32⟩ : BufTy).Contents (Elt F)),
    nullary main_c (constantI S_ 32 0#32),
    binary main_v8 main_c main_v9 ((fun x v => Host.reduce IntOp.addi x v reducesTo_S1024x5x5_S1024x5_d2 h_S_) : (⟨S1024x5x5, .i32⟩ : BufTy).Contents (Elt F) → (⟨S_, .i32⟩ : BufTy).Contents (Elt F) → (⟨S1024x5, .i32⟩ : BufTy).Contents (Elt F)),
    nullary main_c_0 (constantI S_ 32 1000#32),
    unary main_c_0 main_v10 (broadcastInDim S1024x5 ![] bcast_S_S1024x5 : (⟨S_, .i32⟩ : BufTy).Contents (Elt F) → (⟨S1024x5, .i32⟩ : BufTy).Contents (Elt F)),
    binary main_v9 main_v10 main_v11 (muli : (⟨S1024x5, .i32⟩ : BufTy).Contents (Elt F) → (⟨S1024x5, .i32⟩ : BufTy).Contents (Elt F) → (⟨S1024x5, .i32⟩ : BufTy).Contents (Elt F)),
    binary main_v11 main_v2 main_v12 (subi : (⟨S1024x5, .i32⟩ : BufTy).Contents (Elt F) → (⟨S1024x5, .i32⟩ : BufTy).Contents (Elt F) → (⟨S1024x5, .i32⟩ : BufTy).Contents (Elt F)) ]

/-- The position of the greatest score. -/
abbrev argOps : List (HloOp τ sig (Elt F)) :=
  [ TRef.nullary (TRef.of (T := ⟨S1024x5, .i32⟩) main_call1_v0) (iotaInDim S1024x5 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S1024x5, .i32⟩) main_v12) (TRef.of (T := ⟨S1024x5, .i32⟩) main_call1_v0) (TRef.of (T := ⟨S_, .i32⟩) main_call1_c) (TRef.of (T := ⟨S_, .i32⟩) main_call1_c_0) (TRef.of (T := ⟨S1024, .i32⟩) main_call1_v1_0) (fun x y u v j => (Host.reduce2 reducer_argmax_i32_i32 x y u v reducesTo_S1024x5_S1024_d1 h_S_ j).1),
    TRef.quaternary (TRef.of (T := ⟨S1024x5, .i32⟩) main_v12) (TRef.of (T := ⟨S1024x5, .i32⟩) main_call1_v0) (TRef.of (T := ⟨S_, .i32⟩) main_call1_c) (TRef.of (T := ⟨S_, .i32⟩) main_call1_c_0) (TRef.of (T := ⟨S1024, .i32⟩) main_v13) (fun x y u v j => (Host.reduce2 reducer_argmax_i32_i32 x y u v reducesTo_S1024x5_S1024_d1 h_S_ j).2),
    unary main_v13 main_v14 (broadcastInDim S1024x1 ![0] bcast_S1024_S1024x1_0 : (⟨S1024, .i32⟩ : BufTy).Contents (Elt F) → (⟨S1024x1, .i32⟩ : BufTy).Contents (Elt F)) ]

/-- The label at that position. -/
abbrev pickOps : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v14) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 5#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v14) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v14) (TRef.of (T := ⟨S1024x1, .i32⟩) main_call2_v4) select,
    TRef.reshape (TRef.of (T := ⟨S1024x1, .i32⟩) main_call2_v4) (TRef.of (T := ⟨S1024x1x1, .i32⟩) main_call2_v5) (rfl : (.i32 : EltTy) = .i32) shapeCasts_S1024x1_S1024x1x1,
    TRef.nullary (TRef.of (T := ⟨S1, .i32⟩) main_call2_c_1) (constantI S1 32 4#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x5, .i32⟩) main_v2) (TRef.of (T := ⟨S1024x1x1, .i32⟩) main_call2_v5) (TRef.of (T := ⟨S1024x1, .i32⟩) main_call2_v13) (fun x i => Host.gather gather_S1024x5_S1024x1x1_S1024x1_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S1024x1, .i32⟩) main_call2_v14) (broadcastInDim S1024x1 ![] bcast_S_S1024x1),
    TRef.ternary (TRef.of (T := ⟨S1024x1, .i1⟩) main_call2_v12) (TRef.of (T := ⟨S1024x1, .i32⟩) main_call2_v13) (TRef.of (T := ⟨S1024x1, .i32⟩) main_call2_v14) (TRef.of (T := ⟨S1024x1, .i32⟩) main_v15) select,
    reshape main_v15 main_v16 (rfl : (.i32 : EltTy) = .i32) shapeCasts_S1024x1_S1024 ]

/-- All of them, in order. -/
abbrev ops : List (HloOp τ sig (Elt F)) :=
  [ unary main_arg0 main_v0 ((extractStridedSlice S5x1024 ![0, 0] · slices_S8x1024_S5x1024_0_0) : (⟨S8x1024, .i32⟩ : BufTy).Contents (Elt F) → (⟨S5x1024, .i32⟩ : BufTy).Contents (Elt F)),
    unary main_v0 main_v1 ((transpose S1024x5 [1, 0] · transposes_S5x1024_S1024x5_1_0) : (⟨S5x1024, .i32⟩ : BufTy).Contents (Elt F) → (⟨S1024x5, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x5, .i32⟩) main_call0_v0) (broadcastInDim S1024x5 ![] bcast_S_S1024x5),
    TRef.binary (TRef.of (T := ⟨S1024x5, .i32⟩) main_v1) (TRef.of (T := ⟨S1024x5, .i32⟩) main_call0_v0) (TRef.of (T := ⟨S1024x5, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x5, .i32⟩) main_call0_v2) (broadcastInDim S1024x5 ![] bcast_S_S1024x5),
    TRef.binary (TRef.of (T := ⟨S1024x5, .i32⟩) main_v1) (TRef.of (T := ⟨S1024x5, .i32⟩) main_call0_v2) (TRef.of (T := ⟨S1024x5, .i32⟩) main_call0_v3) addi,
    TRef.ternary (TRef.of (T := ⟨S1024x5, .i1⟩) main_call0_v1) (TRef.of (T := ⟨S1024x5, .i32⟩) main_call0_v3) (TRef.of (T := ⟨S1024x5, .i32⟩) main_v1) (TRef.of (T := ⟨S1024x5, .i32⟩) main_call0_v4) select,
    TRef.unary (TRef.of (T := ⟨S1024x5, .i32⟩) main_call0_v4) (TRef.of (T := ⟨S1024x5x1, .i32⟩) main_call0_v5) (broadcastInDim S1024x5x1 ![0, 1] bcast_S1024x5_S1024x5x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x5x1, .i32⟩) main_call0_v6) (broadcastInDim S1024x5x1 ![] bcast_S_S1024x5x1),
    TRef.binary (TRef.of (T := ⟨S1024x5x1, .i32⟩) main_call0_v5) (TRef.of (T := ⟨S1024x5x1, .i32⟩) main_call0_v6) (TRef.of (T := ⟨S1024x5x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x5x1, .i32⟩) main_call0_v9) (broadcastInDim S1024x5x1 ![0, 1, 2] bcast_S1x1x1_S1024x5x1_0_1_2),
    TRef.binary (TRef.of (T := ⟨S1024x5x1, .i32⟩) main_call0_v5) (TRef.of (T := ⟨S1024x5x1, .i32⟩) main_call0_v9) (TRef.of (T := ⟨S1024x5x1, .i1⟩) main_call0_v10) (cmpi .sle),
    TRef.binary (TRef.of (T := ⟨S1024x5x1, .i1⟩) main_call0_v7) (TRef.of (T := ⟨S1024x5x1, .i1⟩) main_call0_v10) (TRef.of (T := ⟨S1024x5x1, .i1⟩) main_call0_v11) andi,
    TRef.nullary (TRef.of (T := ⟨S_, .i1⟩) main_call0_c_3) (constantI S_ 1 1#1),
    TRef.binary (TRef.of (T := ⟨S1024x5x1, .i1⟩) main_call0_v11) (TRef.of (T := ⟨S_, .i1⟩) main_call0_c_3) (TRef.of (T := ⟨S1024x5, .i1⟩) main_call0_v12) (fun x v => Host.reduce IntOp.andi x v reducesTo_S1024x5x1_S1024x5_d2 h_S_),
    TRef.binary (TRef.of (T := ⟨S100000, .i32⟩) main_arg1) (TRef.of (T := ⟨S1024x5x1, .i32⟩) main_call0_v5) (TRef.of (T := ⟨S1024x5, .i32⟩) main_call0_v13) (fun x i => Host.gather gather_S100000_S1024x5x1_S1024x5_n_0_n_n_0_2_1 x i),
    TRef.nullary (TRef.of (T := ⟨S_, .i32⟩) main_call0_c_4) (constantI S_ 32 2147483648#32),
    TRef.unary (TRef.of (T := ⟨S_, .i32⟩) main_call0_c_4) (TRef.of (T := ⟨S1024x5, .i32⟩) main_call0_v14) (broadcastInDim S1024x5 ![] bcast_S_S1024x5),
    TRef.ternary (TRef.of (T := ⟨S1024x5, .i1⟩) main_call0_v12) (TRef.of (T := ⟨S1024x5, .i32⟩) main_call0_v13) (TRef.of (T := ⟨S1024x5, .i32⟩) main_call0_v14) (TRef.of (T := ⟨S1024x5, .i32⟩) main_v2) select,
    unary main_v2 main_v3 (broadcastInDim S1024x5x1 ![0, 1] bcast_S1024x5_S1024x5x1_0_1 : (⟨S1024x5, .i32⟩ : BufTy).Contents (Elt F) → (⟨S1024x5x1, .i32⟩ : BufTy).Contents (Elt F)),
    unary main_v2 main_v4 (broadcastInDim S1024x1x5 ![0, 2] bcast_S1024x5_S1024x1x5_0_2 : (⟨S1024x5, .i32⟩ : BufTy).Contents (Elt F) → (⟨S1024x1x5, .i32⟩ : BufTy).Contents (Elt F)),
    unary main_v3 main_v5 (broadcastInDim S1024x5x5 ![0, 1, 2] bcast_S1024x5x1_S1024x5x5_0_1_2 : (⟨S1024x5x1, .i32⟩ : BufTy).Contents (Elt F) → (⟨S1024x5x5, .i32⟩ : BufTy).Contents (Elt F)),
    unary main_v4 main_v6 (broadcastInDim S1024x5x5 ![0, 1, 2] bcast_S1024x1x5_S1024x5x5_0_1_2 : (⟨S1024x1x5, .i32⟩ : BufTy).Contents (Elt F) → (⟨S1024x5x5, .i32⟩ : BufTy).Contents (Elt F)),
    binary main_v5 main_v6 main_v7 (cmpi .eq : (⟨S1024x5x5, .i32⟩ : BufTy).Contents (Elt F) → (⟨S1024x5x5, .i32⟩ : BufTy).Contents (Elt F) → (⟨S1024x5x5, .i1⟩ : BufTy).Contents (Elt F)),
    unary main_v7 main_v8 ((extui 32 · natLt_1_32) : (⟨S1024x5x5, .i1⟩ : BufTy).Contents (Elt F) → (⟨S1024x5x5, .i32⟩ : BufTy).Contents (Elt F)),
    nullary main_c (constantI S_ 32 0#32),
    binary main_v8 main_c main_v9 ((fun x v => Host.reduce IntOp.addi x v reducesTo_S1024x5x5_S1024x5_d2 h_S_) : (⟨S1024x5x5, .i32⟩ : BufTy).Contents (Elt F) → (⟨S_, .i32⟩ : BufTy).Contents (Elt F) → (⟨S1024x5, .i32⟩ : BufTy).Contents (Elt F)),
    nullary main_c_0 (constantI S_ 32 1000#32),
    unary main_c_0 main_v10 (broadcastInDim S1024x5 ![] bcast_S_S1024x5 : (⟨S_, .i32⟩ : BufTy).Contents (Elt F) → (⟨S1024x5, .i32⟩ : BufTy).Contents (Elt F)),
    binary main_v9 main_v10 main_v11 (muli : (⟨S1024x5, .i32⟩ : BufTy).Contents (Elt F) → (⟨S1024x5, .i32⟩ : BufTy).Contents (Elt F) → (⟨S1024x5, .i32⟩ : BufTy).Contents (Elt F)),
    binary main_v11 main_v2 main_v12 (subi : (⟨S1024x5, .i32⟩ : BufTy).Contents (Elt F) → (⟨S1024x5, .i32⟩ : BufTy).Contents (Elt F) → (⟨S1024x5, .i32⟩ : BufTy).Contents (Elt F)),
    TRef.nullary (TRef.of (T := ⟨S1024x5, .i32⟩) main_call1_v0) (iotaInDim S1024x5 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S1024x5, .i32⟩) main_v12) (TRef.of (T := ⟨S1024x5, .i32⟩) main_call1_v0) (TRef.of (T := ⟨S_, .i32⟩) main_call1_c) (TRef.of (T := ⟨S_, .i32⟩) main_call1_c_0) (TRef.of (T := ⟨S1024, .i32⟩) main_call1_v1_0) (fun x y u v j => (Host.reduce2 reducer_argmax_i32_i32 x y u v reducesTo_S1024x5_S1024_d1 h_S_ j).1),
    TRef.quaternary (TRef.of (T := ⟨S1024x5, .i32⟩) main_v12) (TRef.of (T := ⟨S1024x5, .i32⟩) main_call1_v0) (TRef.of (T := ⟨S_, .i32⟩) main_call1_c) (TRef.of (T := ⟨S_, .i32⟩) main_call1_c_0) (TRef.of (T := ⟨S1024, .i32⟩) main_v13) (fun x y u v j => (Host.reduce2 reducer_argmax_i32_i32 x y u v reducesTo_S1024x5_S1024_d1 h_S_ j).2),
    unary main_v13 main_v14 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v14) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 5#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v14) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v14) (TRef.of (T := ⟨S1024x1, .i32⟩) main_call2_v4) select,
    TRef.reshape (TRef.of (T := ⟨S1024x1, .i32⟩) main_call2_v4) (TRef.of (T := ⟨S1024x1x1, .i32⟩) main_call2_v5) (rfl : (.i32 : EltTy) = .i32) shapeCasts_S1024x1_S1024x1x1,
    TRef.nullary (TRef.of (T := ⟨S1, .i32⟩) main_call2_c_1) (constantI S1 32 4#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x5, .i32⟩) main_v2) (TRef.of (T := ⟨S1024x1x1, .i32⟩) main_call2_v5) (TRef.of (T := ⟨S1024x1, .i32⟩) main_call2_v13) (fun x i => Host.gather gather_S1024x5_S1024x1x1_S1024x1_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S1024x1, .i32⟩) main_call2_v14) (broadcastInDim S1024x1 ![] bcast_S_S1024x1),
    TRef.ternary (TRef.of (T := ⟨S1024x1, .i1⟩) main_call2_v12) (TRef.of (T := ⟨S1024x1, .i32⟩) main_call2_v13) (TRef.of (T := ⟨S1024x1, .i32⟩) main_call2_v14) (TRef.of (T := ⟨S1024x1, .i32⟩) main_v15) select,
    reshape main_v15 main_v16 (rfl : (.i32 : EltTy) = .i32) shapeCasts_S1024x1_S1024 ]

theorem ops_split : (ops : List (HloOp τ sig (Elt F))) = headOps ++ (takeOps ++ (scoreOps ++ (argOps ++ pickOps))) := rfl

theorem main_eq (c : Dev nD) : main (F := F) c = seq ops := rfl

theorem no_scoped_refs : (Finset.univ.filter fun b : Ref sig .tc => b.isScoped) = ∅ := by decide

theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., unary_bufs_sub .., unary_bufs_sub .., unary_bufs_sub .., binary_bufs_sub .., unary_bufs_sub ..,
    nullary_bufs_sub .., binary_bufs_sub .., nullary_bufs_sub .., unary_bufs_sub .., binary_bufs_sub .., binary_bufs_sub ..,
    nullary_bufs_sub .., nullary_bufs_sub .., nullary_bufs_sub .., quaternary_bufs_sub .., quaternary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..⟩
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- A pick counted from the end, if it is negative, brought to the front. -/
def fixed (p : IVec S1024x5 32) : IVec S1024x5 32 :=
  select (cmpi .slt p (broadcastInDim S1024x5 ![] bcast_S_S1024x5 (constantI S_ 32 0#32)))
    (addi p (broadcastInDim S1024x5 ![] bcast_S_S1024x5 (constantI S_ 32 100000#32))) p

/-- The labels of the picks `p`. -/
def takeT (y : IVec S100000 32) (p : IVec S1024x5 32) : IVec S1024x5 32 :=
  select
    (Host.reduce IntOp.andi
      (andi (cmpi .sge (broadcastInDim S1024x5x1 ![0, 1] bcast_S1024x5_S1024x5x1_0_1 (fixed p))
          (broadcastInDim S1024x5x1 ![] bcast_S_S1024x5x1 (constantI S_ 32 0#32)))
        (cmpi .sle (broadcastInDim S1024x5x1 ![0, 1] bcast_S1024x5_S1024x5x1_0_1 (fixed p))
          (broadcastInDim S1024x5x1 ![0, 1, 2] bcast_S1x1x1_S1024x5x1_0_1_2
            (broadcastInDim S1x1x1 ![2] bcast_S1_S1x1x1_2 (constantI S1 32 99999#32)))))
      (constantI S_ 1 1#1) reducesTo_S1024x5x1_S1024x5_d2 h_S_)
    (Host.gather gather_S100000_S1024x5x1_S1024x5_n_0_n_n_0_2_1 y
      (broadcastInDim S1024x5x1 ![0, 1] bcast_S1024x5_S1024x5x1_0_1 (fixed p)))
    (broadcastInDim S1024x5 ![] bcast_S_S1024x5 (constantI S_ 32 2147483648#32))

/-- The scores of the labels `v`. -/
def scoreT (v : IVec S1024x5 32) : IVec S1024x5 32 :=
  subi (muli
    (Host.reduce IntOp.addi
      (extui 32 (cmpi .eq
          (broadcastInDim S1024x5x5 ![0, 1, 2] bcast_S1024x5x1_S1024x5x5_0_1_2
            (broadcastInDim S1024x5x1 ![0, 1] bcast_S1024x5_S1024x5x1_0_1 v))
          (broadcastInDim S1024x5x5 ![0, 1, 2] bcast_S1024x1x5_S1024x5x5_0_1_2
            (broadcastInDim S1024x1x5 ![0, 2] bcast_S1024x5_S1024x1x5_0_2 v))) natLt_1_32)
      (constantI S_ 32 0#32) reducesTo_S1024x5x5_S1024x5_d2 h_S_)
    (broadcastInDim S1024x5 ![] bcast_S_S1024x5 (constantI S_ 32 1000#32))) v

/-- The position of each row's greatest score. -/
def argT (s : IVec S1024x5 32) : IVec S1024x1 32 :=
  broadcastInDim S1024x1 ![0] bcast_S1024_S1024x1_0 fun j =>
    (Host.reduce2 reducer_argmax_i32_i32 s (iotaInDim S1024x5 32 1) (constantI S_ 32 2147483648#32) (constantI S_ 32 0#32)
      reducesTo_S1024x5_S1024_d1 h_S_ j).2

/-- A position counted from the end, if it is negative, brought to the front. -/
def fixed5 (p : IVec S1024x1 32) : IVec S1024x1x1 32 :=
  shapeCast S1024x1x1 (select (cmpi .slt p (broadcastInDim S1024x1 ![] bcast_S_S1024x1 (constantI S_ 32 0#32)))
    (addi p (broadcastInDim S1024x1 ![] bcast_S_S1024x1 (constantI S_ 32 5#32))) p) shapeCasts_S1024x1_S1024x1x1

/-- The label at position `p` of its row. -/
def pickT (v : IVec S1024x5 32) (p : IVec S1024x1 32) : IVec S1024 32 :=
  shapeCast S1024 (select
    (Host.reduce IntOp.andi
      (andi (cmpi .sge (fixed5 p) (broadcastInDim S1024x1x1 ![] bcast_S_S1024x1x1 (constantI S_ 32 0#32)))
        (cmpi .sle (fixed5 p)
          (broadcastInDim S1024x1x1 ![0, 1, 2] bcast_S1x1x1_S1024x1x1_0_1_2
            (broadcastInDim S1x1x1 ![2] bcast_S1_S1x1x1_2 (constantI S1 32 4#32)))))
      (constantI S_ 1 1#1) reducesTo_S1024x1x1_S1024x1_d2 h_S_)
    (Host.gather gather_S1024x5_S1024x1x1_S1024x1_n_1_0_0_1_2_11 v (fixed5 p))
    (broadcastInDim S1024x1 ![] bcast_S_S1024x1 (constantI S_ 32 2147483648#32))) shapeCasts_S1024x1_S1024

/-- The vote on the labels `v`. -/
def winT (v : IVec S1024x5 32) : IVec S1024 32 := pickT v (argT (scoreT v))

set_option maxHeartbeats 2000000 in
theorem take_res (V : Valuation τ sig (Elt F)) :
    after (takeOps (F := F)) V (Proc.devRef .tc main_v2) = takeT (V (Proc.devRef .tc main_arg1)) (V (Proc.devRef .tc main_v1)) := by
  unfold takeT fixed
  simp only [takeOps, TRef.nullary, TRef.ternary, TRef.binary, TRef.unary, TRef.toBuf, TRef.ofBuf, cast_eq]
  after_results

set_option maxHeartbeats 2000000 in
theorem score_res (V : Valuation τ sig (Elt F)) :
    after (scoreOps (F := F)) V (Proc.devRef .tc main_v12) = scoreT (V (Proc.devRef .tc main_v2)) := by
  unfold scoreT
  simp only [scoreOps]
  after_results

set_option maxHeartbeats 2000000 in
theorem score_lab (V : Valuation τ sig (Elt F)) :
    after (scoreOps (F := F)) V (Proc.devRef .tc main_v2) = V (Proc.devRef .tc main_v2) := by
  simp only [scoreOps]
  after_results

set_option maxHeartbeats 2000000 in
theorem arg_res (V : Valuation τ sig (Elt F)) :
    after (argOps (F := F)) V (Proc.devRef .tc main_v14) = argT (V (Proc.devRef .tc main_v12)) := by
  unfold argT
  simp only [argOps, TRef.nullary, TRef.quaternary, TRef.toBuf, TRef.ofBuf, cast_eq]
  after_results

set_option maxHeartbeats 2000000 in
theorem arg_lab (V : Valuation τ sig (Elt F)) :
    after (argOps (F := F)) V (Proc.devRef .tc main_v2) = V (Proc.devRef .tc main_v2) := by
  simp only [argOps, TRef.nullary, TRef.quaternary, TRef.toBuf, TRef.ofBuf, cast_eq]
  after_results

set_option maxHeartbeats 2000000 in
theorem pick_res (V : Valuation τ sig (Elt F)) :
    after (pickOps (F := F)) V (Proc.devRef .tc main_v16)
      = pickT (V (Proc.devRef .tc main_v2)) (V (Proc.devRef .tc main_v14)) := by
  unfold pickT fixed5
  simp only [pickOps, TRef.nullary, TRef.ternary, TRef.binary, TRef.unary, TRef.reshape, TRef.toBuf, TRef.ofBuf, cast_eq]
  after_results
  rfl

set_option maxHeartbeats 2000000 in
theorem head_res (V : Valuation τ sig (Elt F)) :
    after (headOps (F := F)) V (Proc.devRef .tc main_v1)
      = transpose S1024x5 [1, 0] (extractStridedSlice S5x1024 ![0, 0] (V (Proc.devRef .tc main_arg0)) slices_S8x1024_S5x1024_0_0)
          transposes_S5x1024_S1024x5_1_0 := by
  simp only [headOps]
  after_results

theorem head_y (V : Valuation τ sig (Elt F)) :
    after (headOps (F := F)) V (Proc.devRef .tc main_arg1) = V (Proc.devRef .tc main_arg1) := by
  simp only [headOps]
  after_results

theorem ops_res (V : Valuation τ sig (Elt F)) :
    after (ops (F := F)) V (Proc.devRef .tc main_v16)
      = winT (takeT (V (Proc.devRef .tc main_arg1))
          (transpose S1024x5 [1, 0] (extractStridedSlice S5x1024 ![0, 0] (V (Proc.devRef .tc main_arg0)) slices_S8x1024_S5x1024_0_0)
            transposes_S5x1024_S1024x5_1_0)) := by
  unfold winT
  rw [ops_split, after_app, after_app, after_app, after_app, pick_res, arg_res, arg_lab, score_res, score_lab, take_res, head_y, head_res]

set_option maxHeartbeats 4000000 in
theorem ops_arg0 (V : Valuation τ sig (Elt F)) :
    after (ops (F := F)) V (Proc.devRef .tc main_arg0) = V (Proc.devRef .tc main_arg0) := by
  simp only [ops, TRef.nullary, TRef.ternary,
    TRef.quaternary, TRef.binary, TRef.unary, TRef.reshape, TRef.toBuf, TRef.ofBuf, cast_eq]
  after_results

set_option maxHeartbeats 4000000 in
theorem ops_arg1 (V : Valuation τ sig (Elt F)) :
    after (ops (F := F)) V (Proc.devRef .tc main_arg1) = V (Proc.devRef .tc main_arg1) := by
  simp only [ops, TRef.nullary, TRef.ternary,
    TRef.quaternary, TRef.binary, TRef.unary, TRef.reshape, TRef.toBuf, TRef.ofBuf, cast_eq]
  after_results

set_option maxHeartbeats 4000000 in
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq no_scoped_refs no_scoped_sems defs main (fun _ => ops) main_eq (fun _ => ops_sub) m ρ

end Cert.Proof.VoteRef

end
-- ==== Proof.VoteWords.lean ====
/-
  The vote over words. Five labels `a 0 … a 4`; label `j` scores a thousand for each of the five equal to it, less
  itself; the first label of the greatest score (compared as signed words) wins.
-/
module

public import Idealize.ShloMosaic.PureOps
public import Idealize.ShloMosaic.Lib.ValueIdxCore

@[expose] public section

noncomputable section

namespace Cert.Proof

open Idealize.ShloMosaic

/-- How often `x` is among the five, counted as a word. -/
def tally (a : Fin 5 → BitVec 32) (x : BitVec 32) : BitVec 32 :=
  0#32 + (if x = a 0 then 1#32 else 0#32) + (if x = a 1 then 1#32 else 0#32) + (if x = a 2 then 1#32 else 0#32)
    + (if x = a 3 then 1#32 else 0#32) + (if x = a 4 then 1#32 else 0#32)

/-- Label `j`'s score. -/
def score (a : Fin 5 → BitVec 32) (j : Fin 5) : BitVec 32 := tally a (a j) * 1000#32 - a j

/-- Of the leader so far and label `j`, each with its score, the one that leads. -/
def lead (a : Fin 5 → BitVec 32) (p : BitVec 32 × BitVec 32) (j : Fin 5) : BitVec 32 × BitVec 32 :=
  (if p.2.slt (score a j) then a j else p.1, if p.2.slt (score a j) then score a j else p.2)

/-- The winner. -/
def vote5 (a : Fin 5 → BitVec 32) : BitVec 32 := (lead a (lead a (lead a (lead a (a 0, score a 0) 1) 2) 3) 4).1

/-! The same vote as a lane computes it, by comparisons and selections of words. -/

theorem sel_eq (a b p q : BitVec 32) : Scalar.select (IntOp.cmpi .eq a b) p q = if a = b then p else q := by
  have e : (a == b) = decide (a = b) := rfl
  by_cases h : a = b <;> simp [Scalar.select, IntOp.cmpi, e, h]

theorem sel_sgt (a b p q : BitVec 32) : Scalar.select (IntOp.cmpi .sgt a b) p q = if b.slt a then p else q := by
  cases h : b.slt a <;> simp [Scalar.select, IntOp.cmpi, h]

def tallyL (a : Fin 5 → BitVec 32) (x : BitVec 32) : BitVec 32 :=
  0#32 + Scalar.select (IntOp.cmpi .eq x (a 0)) 1#32 0#32 + Scalar.select (IntOp.cmpi .eq x (a 1)) 1#32 0#32
    + Scalar.select (IntOp.cmpi .eq x (a 2)) 1#32 0#32 + Scalar.select (IntOp.cmpi .eq x (a 3)) 1#32 0#32
    + Scalar.select (IntOp.cmpi .eq x (a 4)) 1#32 0#32

def scoreL (a : Fin 5 → BitVec 32) (j : Fin 5) : BitVec 32 := tallyL a (a j) * 1000#32 - a j

def leadL (a : Fin 5 → BitVec 32) (p : BitVec 32 × BitVec 32) (j : Fin 5) : BitVec 32 × BitVec 32 :=
  (Scalar.select (IntOp.cmpi .sgt (scoreL a j) p.2) (a j) p.1, Scalar.select (IntOp.cmpi .sgt (scoreL a j) p.2) (scoreL a j) p.2)

def voteL (a : Fin 5 → BitVec 32) : BitVec 32 := (leadL a (leadL a (leadL a (leadL a (a 0, scoreL a 0) 1) 2) 3) 4).1

theorem tallyL_eq (a : Fin 5 → BitVec 32) (x : BitVec 32) : tallyL a x = tally a x := by unfold tallyL tally; simp only [sel_eq]

theorem scoreL_eq (a : Fin 5 → BitVec 32) (j : Fin 5) : scoreL a j = score a j := by unfold scoreL score; rw [tallyL_eq]

theorem leadL_eq (a : Fin 5 → BitVec 32) (p : BitVec 32 × BitVec 32) (j : Fin 5) : leadL a p j = lead a p j := by
  unfold leadL lead; rw [scoreL_eq, sel_sgt, sel_sgt]

theorem voteL_eq (a : Fin 5 → BitVec 32) : voteL a = vote5 a := by unfold voteL vote5; simp only [leadL_eq, scoreL_eq]

end Cert.Proof

end
-- ==== Proof.Fibers.lean ====
/-
  A reduction read at an index: the list its fold runs over, when the source indices that drop to that index are
  listed in row-major order.
-/
module

public import Idealize.ShloMosaic.PureOps.Reduce
public import Idealize.ShloMosaic.Lib.ValueIdxCore

@[expose] public section

noncomputable section

namespace Cert.Proof

open Idealize.ShloMosaic Idealize.ShloMosaic.ValueIdx

variable {s t u : Shape} {axes : List (Fin s.rank)} {α β : Type}

/-- The positions that drop to `j`, when `e` lists the indices that do, in order. -/
theorem positions_eq (h : s.ReducesTo axes t) (j : t.Idx) {m : ℕ} (e : Fin m → s.Idx)
    (mono : StrictMono fun k => s.rowMajor (e k)) (mem : ∀ i, h.drop i = j ↔ ∃ k, e k = i) :
    (List.finRange s.numel).filter (fun n => h.drop (s.rowMajor.symm n) = j)
      = (List.finRange m).map fun k => s.rowMajor (e k) := by
  have sorted₁ : List.Pairwise (· < ·) ((List.finRange s.numel).filter fun n => h.drop (s.rowMajor.symm n) = j) :=
    (List.pairwise_lt_finRange _).filter _
  have sorted₂ : List.Pairwise (· < ·) ((List.finRange m).map fun k => s.rowMajor (e k)) :=
    (List.pairwise_map).2 ((List.pairwise_lt_finRange m).imp fun h => mono h)
  refine List.Perm.eq_of_pairwise (fun a b _ _ h₁ h₂ => absurd (lt_trans h₁ h₂) (lt_irrefl _)) sorted₁ sorted₂ ?_
  refine (List.perm_ext_iff_of_nodup (sorted₁.imp fun h => ne_of_lt h) (sorted₂.imp fun h => ne_of_lt h)).2 fun n => ?_
  simp only [List.mem_filter, List.mem_finRange, true_and, decide_eq_true_eq, List.mem_map]
  rw [mem]
  exact ⟨fun ⟨k, hk⟩ => ⟨k, by rw [hk, Equiv.apply_symm_apply]⟩, fun ⟨k, hk⟩ => ⟨k, by rw [← hk, Equiv.symm_apply_apply]⟩⟩

theorem reduce_list (f : α → α → α) (x : s.Idx → α) (init : u.Idx → α) (h : s.ReducesTo axes t) (hu : 0 < u.numel)
    (j : t.Idx) {m : ℕ} (e : Fin m → s.Idx) (mono : StrictMono fun k => s.rowMajor (e k))
    (mem : ∀ i, h.drop i = j ↔ ∃ k, e k = i) :
    Host.reduce f x init h hu j = (List.finRange m).foldl (fun r k => f r (x (e k))) (init (Shape.Idx.first hu)) := by
  unfold Host.reduce
  rw [positions_eq h j e mono mem, List.foldl_map]
  simp only [Equiv.symm_apply_apply]

theorem reduce2_list (f : α × β → α × β → α × β) (x : s.Idx → α) (y : s.Idx → β) (ix : u.Idx → α) (iy : u.Idx → β)
    (h : s.ReducesTo axes t) (hu : 0 < u.numel) (j : t.Idx) {m : ℕ} (e : Fin m → s.Idx)
    (mono : StrictMono fun k => s.rowMajor (e k)) (mem : ∀ i, h.drop i = j ↔ ∃ k, e k = i) :
    Host.reduce2 f x y ix iy h hu j
      = (List.finRange m).foldl (fun r k => f r (x (e k), y (e k))) (ix (Shape.Idx.first hu), iy (Shape.Idx.first hu)) := by
  unfold Host.reduce2
  rw [positions_eq h j e mono mem, List.foldl_map]
  simp only [Equiv.symm_apply_apply]

/-! The last axis of a rank-2 or rank-3 array. -/

theorem row_mono {n m : ℕ} (x : Fin n) : StrictMono fun k : Fin m => (⟨2, ![n, m]⟩ : Shape).rowMajor (ix2 x k) := by
  intro a b hab
  refine Fin.lt_def.2 ?_
  rw [Shape.rowMajor_val_two, Shape.rowMajor_val_two]
  exact Nat.add_lt_add_left hab _

theorem row_mem {n m : ℕ} (h : (⟨2, ![n, m]⟩ : Shape).ReducesTo [1] ⟨1, ![n]⟩) (x : Fin n)
    (i : (⟨2, ![n, m]⟩ : Shape).Idx) : h.drop i = ix1 x ↔ ∃ k, ix2 x k = i := by
  have hv : (h.drop i 0 : ℕ) = i 0 := Shape.ReducesTo.drop_apply_val_of_eq h i 0 0 Nat.one_pos rfl
  constructor
  · intro e
    refine ⟨i 1, ?_⟩
    funext a
    match a with
    | ⟨0, _⟩ => exact Fin.ext (by rw [e] at hv; exact hv)
    | ⟨1, _⟩ => rfl
  · rintro ⟨k, rfl⟩
    funext a
    obtain rfl : a = 0 := Subsingleton.elim _ _
    exact Fin.ext hv

theorem deep_mono {n l m : ℕ} (x : Fin n) (y : Fin l) :
    StrictMono fun k : Fin m => (⟨3, ![n, l, m]⟩ : Shape).rowMajor (ix3 x y k) := by
  intro a b hab
  refine Fin.lt_def.2 ?_
  rw [Shape.rowMajor_val_three, Shape.rowMajor_val_three]
  exact Nat.add_lt_add_left hab _

theorem deep_mem {n l m : ℕ} (h : (⟨3, ![n, l, m]⟩ : Shape).ReducesTo [2] ⟨2, ![n, l]⟩) (x : Fin n) (y : Fin l)
    (i : (⟨3, ![n, l, m]⟩ : Shape).Idx) : h.drop i = ix2 x y ↔ ∃ k, ix3 x y k = i := by
  have h0 : (h.drop i 0 : ℕ) = i 0 := Shape.ReducesTo.drop_apply_val_of_eq h i 0 0 Nat.two_pos rfl
  have h1 : (h.drop i 1 : ℕ) = i 1 := Shape.ReducesTo.drop_apply_val_of_eq h i 1 1 Nat.one_lt_two rfl
  constructor
  · intro e
    refine ⟨i 2, ?_⟩
    funext a
    match a with
    | ⟨0, _⟩ => exact Fin.ext (by rw [e] at h0; exact h0)
    | ⟨1, _⟩ => exact Fin.ext (by rw [e] at h1; exact h1)
    | ⟨2, _⟩ => rfl
  · rintro ⟨k, rfl⟩
    funext a
    match a with
    | ⟨0, _⟩ => exact Fin.ext h0
    | ⟨1, _⟩ => exact Fin.ext h1

end Cert.Proof

end
-- ==== Proof.VoteRefValue.lean ====
/-
  What the reference's vote leaves at a query: the winner among the labels of its five picks.
-/
module

public import proofs.«01_k».proof.Proof.VoteRefRun
public import proofs.«01_k».proof.Proof.VoteWords
public import proofs.«01_k».proof.Proof.Fibers
public import Idealize.ShloMosaic.Lib.Pipeline.Value

@[expose] public section

noncomputable section

namespace Cert.Proof.VoteRef

open Cert.VoteReference Cert.VoteReference.Gen Idealize.ShloMosaic Idealize.ShloMosaic.ValueIdx

/-- A word below a bound that is itself a small natural is not negative, and is its natural. -/
theorem small_word {a : BitVec 32} {n : ℕ} (hn : n ≤ 100000) (h : a.toNat < n) :
    a.toInt = a.toNat ∧ a.slt 0#32 = false := by
  have e : a.toInt = a.toNat := by rw [BitVec.toInt_eq_toNat_cond, if_pos (by omega)]
  refine ⟨e, ?_⟩
  rw [BitVec.slt, e]
  exact decide_eq_false (by simp)

/-! The broadcasts, read at an index. -/

theorem col_at {α : Type} (v : S1024x5.Idx → α) (x : Fin 1024) (j : Fin 5) (k : Fin 1) :
    broadcastInDim S1024x5x1 ![0, 1] bcast_S1024x5_S1024x5x1_0_1 v (ix3 x j k) = v (ix2 x j) :=
  broadcastInDim_apply _ _ _ _ _ (by intro a; match a with | ⟨0, _⟩ => rfl | ⟨1, _⟩ => rfl)

theorem row_at {α : Type} (v : S1024x5.Idx → α) (x : Fin 1024) (j : Fin 1) (k : Fin 5) :
    broadcastInDim S1024x1x5 ![0, 2] bcast_S1024x5_S1024x1x5_0_2 v (ix3 x j k) = v (ix2 x k) :=
  broadcastInDim_apply _ _ _ _ _ (by intro a; match a with | ⟨0, _⟩ => rfl | ⟨1, _⟩ => rfl)

theorem cols_at {α : Type} (v : S1024x5x1.Idx → α) (x : Fin 1024) (j k : Fin 5) :
    broadcastInDim S1024x5x5 ![0, 1, 2] bcast_S1024x5x1_S1024x5x5_0_1_2 v (ix3 x j k) = v (ix3 x j 0) :=
  broadcastInDim_apply _ _ _ _ _ (by intro a; match a with | ⟨0, _⟩ => rfl | ⟨1, _⟩ => rfl | ⟨2, _⟩ => rfl)

theorem rows_at {α : Type} (v : S1024x1x5.Idx → α) (x : Fin 1024) (j k : Fin 5) :
    broadcastInDim S1024x5x5 ![0, 1, 2] bcast_S1024x1x5_S1024x5x5_0_1_2 v (ix3 x j k) = v (ix3 x 0 k) :=
  broadcastInDim_apply _ _ _ _ _ (by intro a; match a with | ⟨0, _⟩ => rfl | ⟨1, _⟩ => rfl | ⟨2, _⟩ => rfl)

theorem fixed_apply (p : IVec S1024x5 32) (x : Fin 1024) (j : Fin 5) (h : (p (ix2 x j)).toNat < 100000) :
    fixed p (ix2 x j) = p (ix2 x j) := by
  have e := (small_word le_rfl h).2
  unfold fixed
  show Scalar.select (IntOp.cmpi .slt (p (ix2 x j)) 0#32) _ (p (ix2 x j)) = _
  simp only [IntOp.cmpi, e]
  rfl

theorem takeT_apply (y : IVec S100000 32) (p : IVec S1024x5 32) (x : Fin 1024) (j : Fin 5)
    (h : (p (ix2 x j)).toNat < 100000) :
    takeT y p (ix2 x j) = y (ix1 (Fin.ofNat 100000 (p (ix2 x j)).toNat)) := by
  have e := small_word le_rfl h
  have hf := fixed_apply p x j h
  unfold takeT
  rw [select_apply]
  have hm : Host.reduce IntOp.andi
      (andi (cmpi .sge (broadcastInDim S1024x5x1 ![0, 1] bcast_S1024x5_S1024x5x1_0_1 (fixed p))
          (broadcastInDim S1024x5x1 ![] bcast_S_S1024x5x1 (constantI S_ 32 0#32)))
        (cmpi .sle (broadcastInDim S1024x5x1 ![0, 1] bcast_S1024x5_S1024x5x1_0_1 (fixed p))
          (broadcastInDim S1024x5x1 ![0, 1, 2] bcast_S1x1x1_S1024x5x1_0_1_2
            (broadcastInDim S1x1x1 ![2] bcast_S1_S1x1x1_2 (constantI S1 32 99999#32)))))
      (constantI S_ 1 1#1) reducesTo_S1024x5x1_S1024x5_d2 h_S_ (ix2 x j) = 1#1 := by
    rw [reduce_list _ _ _ _ _ _ (fun k : Fin 1 => ix3 x j k) (deep_mono x j) (deep_mem _ x j)]
    show IntOp.andi 1#1 (IntOp.andi
      (IntOp.cmpi .sge (broadcastInDim S1024x5x1 ![0, 1] bcast_S1024x5_S1024x5x1_0_1 (fixed p) (ix3 x j 0)) 0#32)
      (IntOp.cmpi .sle (broadcastInDim S1024x5x1 ![0, 1] bcast_S1024x5_S1024x5x1_0_1 (fixed p) (ix3 x j 0)) 99999#32)) = 1#1
    rw [col_at, hf]
    have h1 : (p (ix2 x j)).sle 99999#32 = true := by
      rw [BitVec.sle, e.1]
      exact decide_eq_true (by rw [show (99999#32 : BitVec 32).toInt = 99999 from by decide]; omega)
    have h2 : BitVec.sle 0#32 (p (ix2 x j)) = true := by
      rw [BitVec.sle, e.1]
      exact decide_eq_true (by simp)
    simp only [IntOp.cmpi, h1, h2]
    rfl
  rw [hm, select_one]
  refine (gather_take_apply (by decide) gather_S100000_S1024x5x1_S1024x5_n_0_n_n_0_2_1_wf y _ (ix2 x j)).trans ?_
  refine congrArg y (congrArg ix1 (Fin.ext ?_))
  have ht : (takeIdx (ix2 x j) : S1024x5x1.Idx) = ix3 x j 0 := by
    funext a
    match a with | ⟨0, _⟩ => rfl | ⟨1, _⟩ => rfl | ⟨2, _⟩ => rfl
  show min (broadcastInDim S1024x5x1 ![0, 1] bcast_S1024x5_S1024x5x1_0_1 (fixed p) (takeIdx (ix2 x j))).toInt.toNat 99999
    = (p (ix2 x j)).toNat % 100000
  rw [ht, col_at, hf, e.1, Nat.mod_eq_of_lt h, Int.toNat_natCast]
  omega

theorem scoreT_apply (v : IVec S1024x5 32) (x : Fin 1024) (j : Fin 5) :
    scoreT v (ix2 x j) = score (fun k => v (ix2 x k)) j := by
  unfold scoreT score tally
  show Host.reduce IntOp.addi _ _ _ _ (ix2 x j) * 1000#32 - v (ix2 x j) = _
  rw [reduce_list _ _ _ _ _ _ (fun k : Fin 5 => ix3 x j k) (deep_mono x j) (deep_mem _ x j)]
  have hk : ∀ k : Fin 5, (extui 32 (cmpi .eq
          (broadcastInDim S1024x5x5 ![0, 1, 2] bcast_S1024x5x1_S1024x5x5_0_1_2
            (broadcastInDim S1024x5x1 ![0, 1] bcast_S1024x5_S1024x5x1_0_1 v))
          (broadcastInDim S1024x5x5 ![0, 1, 2] bcast_S1024x1x5_S1024x5x5_0_1_2
            (broadcastInDim S1024x1x5 ![0, 2] bcast_S1024x5_S1024x1x5_0_2 v))) natLt_1_32) (ix3 x j k)
      = if v (ix2 x j) = v (ix2 x k) then 1#32 else 0#32 := by
    intro k
    show BitVec.setWidth 32 (BitVec.ofBool
      (broadcastInDim S1024x5x5 ![0, 1, 2] bcast_S1024x5x1_S1024x5x5_0_1_2
            (broadcastInDim S1024x5x1 ![0, 1] bcast_S1024x5_S1024x5x1_0_1 v) (ix3 x j k)
        == broadcastInDim S1024x5x5 ![0, 1, 2] bcast_S1024x1x5_S1024x5x5_0_1_2
            (broadcastInDim S1024x1x5 ![0, 2] bcast_S1024x5_S1024x1x5_0_2 v) (ix3 x j k))) = _
    rw [cols_at, rows_at, col_at, row_at]
    by_cases h : v (ix2 x j) = v (ix2 x k)
    · simp [h]
    · rw [beq_eq_false_iff_ne.2 h, if_neg h]; rfl
  simp only [hk]
  rfl

/-- The greater of the score so far and the next: the next only if it exceeds. -/
theorem reducer_step (m s : BitVec 32) (i k : BitVec 32) (h : i.slt k = true) :
    reducer_argmax_i32_i32 (m, i) (s, k) = (if m.slt s then s else m, if m.slt s then k else i) := by
  unfold reducer_argmax_i32_i32
  simp only [IntOp.cmpi, h]
  by_cases h1 : m.slt s = true
  · have h2 : s.slt m = false := by
      rw [BitVec.slt] at h1 ⊢; simp only [decide_eq_true_eq, decide_eq_false_iff_not] at *; omega
    have h3 : (m == s) = false := by
      refine beq_eq_false_iff_ne.2 fun e => ?_
      subst e; rw [h1] at h2; exact absurd h2 (by decide)
    simp [h1, h2, h3, Scalar.select, IntOp.ori, IntOp.andi]
  · have h1' : m.slt s = false := Bool.eq_false_iff.2 h1
    by_cases h2 : m = s
    · subst h2
      simp [h1', Scalar.select, IntOp.ori, IntOp.andi]
    · have h3 : s.slt m = true := by
        have : m.toInt ≠ s.toInt := fun e => h2 (BitVec.eq_of_toInt_eq e)
        rw [BitVec.slt] at h1' ⊢; simp only [decide_eq_true_eq, decide_eq_false_iff_not] at *; omega
      have h4 : (m == s) = false := beq_eq_false_iff_ne.2 h2
      simp [h1', h3, h4, Scalar.select, IntOp.ori, IntOp.andi]

theorem reducer_first (s : BitVec 32) :
    reducer_argmax_i32_i32 (2147483648#32, 0#32) (s, 0#32) = (s, 0#32) := by
  have h2 : s.slt 2147483648#32 = false := by
    rw [BitVec.slt]
    have := BitVec.le_toInt (x := s)
    exact decide_eq_false (by rw [show (2147483648#32 : BitVec 32).toInt = -2147483648 from by decide]; omega)
  unfold reducer_argmax_i32_i32
  simp [IntOp.cmpi, h2, Scalar.select, IntOp.ori, IntOp.andi]

/-- The position that leads after label `j`, next to the leader itself. -/
def at_ (a : Fin 5 → BitVec 32) (j : ℕ) (q : BitVec 32 × BitVec 32) (i : BitVec 32) : Prop :=
  i.toNat ≤ j ∧ q.1 = a (Fin.ofNat 5 i.toNat)

theorem at_step (a : Fin 5 → BitVec 32) (j : Fin 5) (q : BitVec 32 × BitVec 32) (i : BitVec 32) (n : ℕ) (hj : j.val = n + 1)
    (h : at_ a n q i) :
    ∃ i', reducer_argmax_i32_i32 (q.2, i) (score a j, BitVec.ofNat 32 j.val) = ((lead a q j).2, i')
      ∧ at_ a j.val (lead a q j) i' := by
  have hlt : i.slt (BitVec.ofNat 32 j.val) = true := by
    have h1 : i.toNat < 5 := by have := h.1; have := j.isLt; omega
    have h2 : (BitVec.ofNat 32 j.val).toNat = j.val := by rw [BitVec.toNat_ofNat]; exact Nat.mod_eq_of_lt (by have := j.isLt; omega)
    rw [BitVec.slt, (small_word (n := 5) (by decide) h1).1, (small_word (n := 5) (by decide) (by rw [h2]; exact j.isLt)).1, h2]
    exact decide_eq_true (by have := h.1; omega)
  refine ⟨_, (reducer_step _ _ _ _ hlt).trans rfl, ?_⟩
  unfold lead at_
  by_cases hs : q.2.slt (score a j) = true
  · have h2 : (BitVec.ofNat 32 j.val).toNat = j.val := by rw [BitVec.toNat_ofNat]; exact Nat.mod_eq_of_lt (by have := j.isLt; omega)
    simp only [hs, if_true]
    refine ⟨h2.le, ?_⟩
    rw [h2]
    exact congrArg a (Fin.ext (Nat.mod_eq_of_lt j.isLt).symm)
  · simp only [hs]
    exact ⟨by have := h.1; simp only [Bool.false_eq_true, if_false]; omega, h.2⟩

/-- The position found is below five, and the label there is the winner. -/
theorem argT_apply (v : IVec S1024x5 32) (x : Fin 1024) :
    ∃ i : BitVec 32, argT (scoreT v) (ix2 x 0) = i ∧ i.toNat < 5
      ∧ v (ix2 x (Fin.ofNat 5 i.toNat)) = vote5 fun k => v (ix2 x k) := by
  refine ⟨_, rfl, ?_⟩
  have e0 : argT (scoreT v) (ix2 x 0) = (Host.reduce2 reducer_argmax_i32_i32 (scoreT v) (iotaInDim S1024x5 32 1)
      (constantI S_ 32 2147483648#32) (constantI S_ 32 0#32) reducesTo_S1024x5_S1024_d1 h_S_ (ix1 x)).2 := by
    unfold argT
    refine congrArg (fun j => (Host.reduce2 reducer_argmax_i32_i32 (scoreT v) (iotaInDim S1024x5 32 1)
      (constantI S_ 32 2147483648#32) (constantI S_ 32 0#32) reducesTo_S1024x5_S1024_d1 h_S_ j).2) ?_
    funext a
    obtain rfl : a = 0 := Subsingleton.elim _ _
    rfl
  rw [e0, reduce2_list _ _ _ _ _ _ _ _ (fun k : Fin 5 => ix2 x k) (row_mono x) (row_mem _ x)]
  have hv : ∀ k : Fin 5, (scoreT v (ix2 x k), iotaInDim S1024x5 32 1 (ix2 x k))
      = (score (fun k => v (ix2 x k)) k, BitVec.ofNat 32 k.val) := fun k => by rw [scoreT_apply]; rfl
  simp only [hv]
  show (List.foldl (fun r k => reducer_argmax_i32_i32 r (score (fun k => v (ix2 x k)) k, BitVec.ofNat 32 k.val))
      (2147483648#32, 0#32) (List.finRange 5)).2.toNat < 5
    ∧ (fun k => v (ix2 x k)) (Fin.ofNat 5 (List.foldl (fun r k => reducer_argmax_i32_i32 r
        (score (fun k => v (ix2 x k)) k, BitVec.ofNat 32 k.val)) (2147483648#32, 0#32) (List.finRange 5)).2.toNat)
      = vote5 fun k => v (ix2 x k)
  generalize (fun k : Fin 5 => v (ix2 x k)) = a
  have e5 : List.finRange 5 = [0, 1, 2, 3, 4] := by decide
  rw [e5]
  simp only [List.foldl_cons, List.foldl_nil]
  rw [show (BitVec.ofNat 32 (0 : Fin 5).val) = 0#32 from rfl, reducer_first]
  obtain ⟨i1, h1, g1⟩ := at_step a 1 (a 0, score a 0) 0#32 0 rfl ⟨le_rfl, rfl⟩
  obtain ⟨i2, h2, g2⟩ := at_step a 2 _ i1 1 rfl g1
  obtain ⟨i3, h3, g3⟩ := at_step a 3 _ i2 2 rfl g2
  obtain ⟨i4, h4, g4⟩ := at_step a 4 _ i3 3 rfl g3
  rw [h1, h2, h3, h4]
  exact ⟨Nat.lt_succ_of_le g4.1, g4.2.symm⟩

/-- The batched gather along a row, one position a row. -/
theorem gather_row (v : IVec S1024x5 32) (idx : IVec S1024x1x1 32) (x : Fin 1024) :
    Host.gather gather_S1024x5_S1024x1x1_S1024x1_n_1_0_0_1_2_11 v idx (ix2 x 0)
      = v (ix2 x ⟨min (idx (ix3 x 0 0)).toInt.toNat 4, by omega⟩) := by
  unfold Host.gather
  refine congrArg v (funext fun a => Fin.ext ?_)
  match a with
  | ⟨0, _⟩ =>
    let d := gather_S1024x5_S1024x1x1_S1024x1_n_1_0_0_1_2_11
    show d.start (ix2 x 0) idx (0 : Fin 2) + d.batchCoord (ix2 x 0) (0 : Fin 2) + d.offCoord (ix2 x 0) (0 : Fin 2) = x.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show min (idx _).toInt.toNat 4 + 0 + 0 = min (idx (ix3 x 0 0)).toInt.toNat 4
    refine congrArg (fun i => min (idx i).toInt.toNat 4) (funext fun b => ?_)
    match b with
    | ⟨0, _⟩ => rfl
    | ⟨1, _⟩ => rfl
    | ⟨2, _⟩ => rfl

theorem cast_back {α : Type} (q : S1024x1.Idx → α) (x : Fin 1024) :
    shapeCast S1024 q shapeCasts_S1024x1_S1024 (ix1 x) = q (ix2 x 0) :=
  congrArg q (Shape.reshapeEquiv_eq_of_rowMajor _ (by
    rw [Shape.rowMajor_val_two, Shape.rowMajor_val_one]; show x.val * 1 + 0 = x.val; omega))

theorem cast_forth {α : Type} (q : S1024x1.Idx → α) (x : Fin 1024) :
    shapeCast S1024x1x1 q shapeCasts_S1024x1_S1024x1x1 (ix3 x 0 0) = q (ix2 x 0) :=
  congrArg q (Shape.reshapeEquiv_eq_of_rowMajor _ (by
    rw [Shape.rowMajor_val_two, Shape.rowMajor_val_three]; show x.val * 1 + 0 = (x.val * 1 + 0) * 1 + 0; omega))

theorem pickT_apply (v : IVec S1024x5 32) (p : IVec S1024x1 32) (x : Fin 1024) (h : (p (ix2 x 0)).toNat < 5) :
    pickT v p (ix1 x) = v (ix2 x (Fin.ofNat 5 (p (ix2 x 0)).toNat)) := by
  have e := small_word (n := 5) (by decide) h
  have hf : fixed5 p (ix3 x 0 0) = p (ix2 x 0) := by
    unfold fixed5
    rw [cast_forth]
    show Scalar.select (IntOp.cmpi .slt (p (ix2 x 0)) 0#32) _ (p (ix2 x 0)) = _
    simp only [IntOp.cmpi, e.2]
    rfl
  have hm : Host.reduce IntOp.andi
      (andi (cmpi .sge (fixed5 p) (broadcastInDim S1024x1x1 ![] bcast_S_S1024x1x1 (constantI S_ 32 0#32)))
        (cmpi .sle (fixed5 p)
          (broadcastInDim S1024x1x1 ![0, 1, 2] bcast_S1x1x1_S1024x1x1_0_1_2
            (broadcastInDim S1x1x1 ![2] bcast_S1_S1x1x1_2 (constantI S1 32 4#32)))))
      (constantI S_ 1 1#1) reducesTo_S1024x1x1_S1024x1_d2 h_S_ (ix2 x 0) = 1#1 := by
    rw [reduce_list _ _ _ _ _ _ (fun k : Fin 1 => ix3 x 0 k) (deep_mono x 0) (deep_mem _ x 0)]
    show IntOp.andi 1#1 (IntOp.andi (IntOp.cmpi .sge (fixed5 p (ix3 x 0 0)) 0#32)
      (IntOp.cmpi .sle (fixed5 p (ix3 x 0 0)) 4#32)) = 1#1
    rw [hf]
    have h1 : (p (ix2 x 0)).sle 4#32 = true := by
      rw [BitVec.sle, e.1]
      exact decide_eq_true (by rw [show (4#32 : BitVec 32).toInt = 4 from by decide]; omega)
    have h2 : BitVec.sle 0#32 (p (ix2 x 0)) = true := by
      rw [BitVec.sle, e.1]
      exact decide_eq_true (by simp)
    simp only [IntOp.cmpi, h1, h2]
    rfl
  unfold pickT
  rw [cast_back, select_apply, hm, select_one, gather_row]
  refine congrArg (fun k => v (ix2 x k)) (Fin.ext ?_)
  show min (fixed5 p (ix3 x 0 0)).toInt.toNat 4 = (p (ix2 x 0)).toNat % 5
  rw [hf, e.1, Int.toNat_natCast, Nat.mod_eq_of_lt h]
  omega

/-- The vote on the labels `v` at query `x`. -/
theorem winT_apply (v : IVec S1024x5 32) (x : Fin 1024) : winT v (ix1 x) = vote5 fun k => v (ix2 x k) := by
  obtain ⟨i, hi, hlt, hv⟩ := argT_apply v x
  unfold winT
  rw [pickT_apply _ _ _ (by rw [hi]; exact hlt), hi, hv]

end Cert.Proof.VoteRef

end
-- ==== Proof.Gathers.lean ====
/-
  Several INDIRECT GATHERS on one DMA semaphore. The vote starts five gathers of thirty-two rows on the one semaphore
  and waits for them afterwards, each wait by one gather's amount. A wait then learns nothing of any one gather: the
  semaphore may hold instalments of all five. So the five gathers are ONE counted batch (Lib/Batch.lean) of all their
  rows, each row a transfer of the batch: `wp_gatherInBatch` issues the next gather's rows as the batch's next
  transfers, the batch's own wait rules do the waiting, and after the last wait `rowOut_join` puts each gather's rows
  together again: the destination written with the rows of the source that the list names.
-/
module

public import Idealize.ShloMosaic.Lib.Batch
public import Idealize.ShloMosaic.Lib.SparseCore.Stream
public import Idealize.ShloMosaic.Lib.Tactic

@[expose] public section

noncomputable section

namespace Cert.Proof.Gathers

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch batchBody pending)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## What one row of a gather brings back -/

section Row

variable (src : Memref sig c.2.kind sp s₀ e) (dst : Memref sig c.2.kind .vmem s e) (hg : s₀.Gathers a s)
  (offs : Memref sig c.2.kind .vmem si .i32) (hn : si.numel = s.size hg.axis') (ho : 0 < s.size hg.axis')
  (q qo : PosShare TreeShare) (fs : Buf (Elt F) (src.view.loc c)) (fd : Buf (Elt F) (dst.view.loc c)) (fo : Buf (Elt F) (offs.view.loc c))
  (r : Fin (s.size hg.axis') → Fin (s₀.size hg.axis))

/-- Row `k` of the gather, landed: the destination's row `k` written with row `r k` of the source, the list's entry `k`,
    and the piece of the source's share the row was lent. -/
def rowOut (k : Fin (s.size hg.axis')) : sProp 𝕄 :=
  iprop(((dst.view.loc c ↦[(dst.view.slice (s.rowRect hg.axis' k)).set]{fullShare}
            ((dst.view.slice (s.rowRect hg.axis' k)).write (Elt F) fd (fun i => src.view.read (Elt F) fs (hg.rowIdx (r k) i)) Finset.univ))
      ∗ (offs.view.loc c ↦[{offs.view.emb (si.rowMajor.symm (k.cast hn.symm))}]{qo} fo))
    ∗ (src.view.loc c ↦[src.view.set]{pieceOf q _ ho k} fs))

instance rowOut_storable (k : Fin (s.size hg.axis')) :
    Storable (upEmb : UEmb _ 𝕄) (rowOut c src dst hg offs hn ho q qo fs fd fo r k) := by
  unfold rowOut; infer_instance

/-- The rows together: the destination written with the gathered rows, the source's share and the list's. -/
theorem rowOut_join :
    bigSep Finset.univ (rowOut (Ix := Ix) (Name := Name) (U := U) (Lvl := Lvl) c src dst hg offs hn ho q qo fs fd fo r)
      ⊢ iprop((dst.view.loc c ↦[dst.view.set]{fullShare}
              (dst.view.write (Elt F) fd (gatherPayload hg (src.view.read (Elt F) fs) r) Finset.univ))
          ∗ (src.view.loc c ↦[src.view.set]{q} fs) ∗ (offs.view.loc c ↦[offs.view.set]{qo} fo)) := by
  have hW : ∀ j i, src.view.read (Elt F) fs (hg.rowIdx (r j) i)
      = gatherPayload hg (src.view.read (Elt F) fs) r ((s.rowRect hg.axis' j).emb i) := fun j i => by
    unfold gatherPayload; rw [Shape.Gathers.idx_rowRect_emb]
  have hen : Function.Bijective fun k : Fin (s.size hg.axis') => si.rowMajor.symm (k.cast hn.symm) :=
    si.rowMajor.symm.bijective.comp (finCongr hn.symm).bijective
  have hrows : (bigSep Finset.univ fun k => (dst.view.loc c ↦[(dst.view.slice (s.rowRect hg.axis' k)).set]{fullShare}
        ((dst.view.slice (s.rowRect hg.axis' k)).write (Elt F) fd (fun i => src.view.read (Elt F) fs (hg.rowIdx (r k) i)) Finset.univ) : sProp 𝕄))
      ⊢ (dst.view.loc c ↦[dst.view.set]{fullShare}
          (dst.view.write (Elt F) fd (gatherPayload hg (src.view.read (Elt F) fs) r) Finset.univ) : sProp 𝕄) :=
    pointsTo_rows_write c dst.view hg.axis' fd (fun j i => src.view.read (Elt F) fs (hg.rowIdx (r j) i)) _ hW
  unfold rowOut
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hrows $$ Hrows
  isplitl [Hsrc]; · iapply (Entails.of_eq (pointsTo_piecesOf (src.view.set) fs ho q).symm) $$ Hsrc
  iapply (Entails.of_eq (pointsTo_entries c offs.view _ hen qo fo).symm) $$ Hoffs

end Row

/-! ## The batch's next rows -/

variable {n : ℕ}

theorem sep_turn (A B C : sProp 𝕄) : iprop(A ∗ (B ∗ C)) = iprop((B ∗ A) ∗ C) := by
  have h1 : iprop(A ∗ (B ∗ C)) ⊢ iprop((B ∗ A) ∗ C) := by
    iintro ⟨HA, HB, HC⟩
    isplitl [HA HB]
    · isplitl [HB]; · iexact HB
      iexact HA
    iexact HC
  have h2 : iprop((B ∗ A) ∗ C) ⊢ iprop(A ∗ (B ∗ C)) := by
    iintro ⟨⟨HB, HA⟩, HC⟩
    isplitl [HA]; · iexact HA
    isplitl [HB]; · iexact HB
    iexact HC
  exact BI.Entails.antisymm h1 h2

/-- The issue rights from transfer `j` on: those of the next `o` transfers, and those from `j + o` on. -/
theorem pending_take (Φ : Fin n → sProp 𝕄) (j o : ℕ) (hj : j + o ≤ n) :
    bigSep (pending j) Φ
      = iprop((bigSep Finset.univ fun k : Fin o => Φ ⟨j + k.val, by omega⟩) ∗ bigSep (pending (j + o)) Φ) := by
  induction o with
  | zero =>
    have h1 : (bigSep (pending (j + 0)) Φ : sProp 𝕄) ⊢ iprop(emp ∗ bigSep (pending (j + 0)) Φ) := emp_sep.2
    have h2 : iprop(emp ∗ bigSep (pending (j + 0)) Φ) ⊢ (bigSep (pending (j + 0)) Φ : sProp 𝕄) := emp_sep.1
    rw [show (Finset.univ : Finset (Fin 0)) = ∅ from rfl, BI.bigSep_empty]
    exact BI.Entails.antisymm h1 h2
  | succ o ih =>
    rw [ih (by omega), Transfers.bigSep_pending_step Φ (j + o) (by omega), Fin.univ_castSuccEmb, Finset.cons_eq_insert,
      BI.bigSep_insert (by simp), BI.bigSep_map]
    exact sep_turn _ _ _

/-- `enqueueIndirectGather` as the NEXT ROWS of a batch: holding a share of the source's elements, the destination's
    outright, a share of the list's, every word of it in range, and the batch with `j` transfers issued, the tile issues
    the gather and holds the batch with the gather's rows issued as well, each delivering what the batch fixed for it. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {j u : ℕ} (hj : j + s.size hg.axis' ≤ n) (hu : u ≤ j * N)
    (hD : ∀ k : Fin (s.size hg.axis'), rowOut c src dst hg offs hn ho q qo fs fd fo (rows (offs.view.read (Elt F) fo) hn hin) k
      ⊢ D ⟨j + k.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcred⟩⟩ Hk
  have hpend := pending_take (fun t : Fin n => count EC (γ t) 0) j (s.size hg.axis') hj
  ihave HI' := (Entails.of_eq hpend) $$ HI
  icases HI' with ⟨Hγ, HI2⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ k : Fin (s.size hg.axis'), iprop(inv κ (batchBody EC (c, SemLoc.dma sem) N D γ γ₀)
          ∗ ((((dst.view.loc c ↦[(dst.view.slice (s.rowRect hg.axis' k)).set]{fullShare} fd) ∗ S.heldEntry qo fo k)
          ∗ (src.view.loc c ↦[src.view.set]{pieceOf q _ ho k} fs)) ∗ count EC (γ ⟨j + k.val, by omega⟩) 0))
        ⊢ iprop(S.heldEntry qo fo k ∗ (S.heldEntry qo fo k -∗ rowRes c (rd k))) := fun k => by
      iintro ⟨#Hinv, ⟨⟨Hr, He⟩, Hsq⟩, Hγk⟩
      isplitl [He]; · iexact He
      iintro He
      unfold rowRes
      iexists pieceOf q _ ho k, fs, iprop((dst.view.loc c ↦[(dst.view.slice (s.rowRect hg.axis' k)).set]{fullShare}
        ((dst.view.slice (s.rowRect hg.axis' k)).write (Elt F) fd (fun i => src.view.read (Elt F) fs (hg.rowIdx (r k) i)) Finset.univ)) ∗ S.heldEntry qo fo k)
      isplitl [Hsq]; · iexact Hsq
      isplitl [Hr He]
      · iapply writeUpdate_frame
        isplitl [Hr]
        · iapply (pointsTo_writeUpdate c (v := dst.view.slice (s.rowRect hg.axis' k)) subset_rfl) $$ Hr
        · iexact He
      · have hamt : (rd k).dst.view.amount (.dma sem) = N := hN k
        rw [hamt]
        iapply (Transfers.batch_creditUpdate EC ⟨j + k.val, by omega⟩ (hD k))
        isplitr; · iexact Hinv
        iexact Hγk
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun k _ => hrow k)
    isplitr; · iexact Hinv
    iexact H3
  iintro Hcred'
  iapply Hk
  iexists γ, γ₀, κ
  isplitr; · iexact Hinv
  isplitl [HI2]; · iexact HI2
  isplitl [H0]; · iexact H0
  rw [show (j + s.size hg.axis') * N - u = (j * N - u) + s.size hg.axis' * N by rw [Nat.add_mul]; omega, ← tallyAt_add]
  icombine Hcred Hcred' as H
  iexact H

end Cert.Proof.Gathers

end
-- ==== Proof.Cells.lean ====
/-
  Where a row of a small array sits: a one-row block of a rank-2 array with its unit axis dropped, by coordinates.
-/
module

public import Idealize.ShloMosaic.Lib.Tactic
public import Idealize.ShloMosaic.Lib.ValueIdxCore

@[expose] public section

noncomputable section

namespace Cert.Proof

open Idealize.ShloMosaic
open Idealize.ShloMosaic.ValueIdx (ix1 ix2)

theorem eq_ix1 {n : ℕ} (x : (⟨1, ![n]⟩ : Shape).Idx) : x = ix1 (x 0) := by funext a; fin_cases a; rfl

theorem reshape_row {n : ℕ} (h : (⟨1, ![n]⟩ : Shape).numel = (⟨2, ![1, n]⟩ : Shape).numel) (x : (⟨1, ![n]⟩ : Shape).Idx) :
    Shape.reshapeEquiv h x = (ix2 0 (x 0) : (⟨2, ![1, n]⟩ : Shape).Idx) := by
  refine (Shape.reshapeEquiv_cons_one (d := ![n]) h x).trans ?_
  funext a; fin_cases a <;> rfl

variable {sig : RefSig} {κ : Kind} {sp : Space} {e : EltTy}

/-- The one-row block at `(r, c)`, its unit axis dropped: lane `l` is the array's element `(r, c + l)`. -/
theorem emb_row {p m n : ℕ} (v : View sig κ sp ⟨2, ![p, m]⟩ e) (off : Fin 2 → ℕ) (r : Fin p) (c : ℕ) (ho : off = ![r.val, c])
    (h : ∀ a, off a + (![1, n] : Fin 2 → ℕ) a ≤ (⟨2, ![p, m]⟩ : Shape).size a) (hs : (⟨1, ![n]⟩ : Shape).numel = (⟨2, ![1, n]⟩ : Shape).numel)
    (x : (⟨1, ![n]⟩ : Shape).Idx) (hc : c + (x 0).val < m) :
    ((v.slice (Rect.unit (s := ⟨2, ![p, m]⟩) off ![1, n] h)).reshape ⟨1, ![n]⟩ hs).emb x = v.emb (ix2 r ⟨c + (x 0).val, hc⟩) := by
  subst ho
  show v.emb ((Rect.unit (s := ⟨2, ![p, m]⟩) ![r.val, c] ![1, n] h).emb (Shape.reshapeEquiv hs x)) = _
  rw [reshape_row]
  congr 1
  funext a
  refine Fin.ext ?_
  rw [Rect.emb_apply]
  fin_cases a
  · show r.val + 0 * 1 = r.val; omega
  · show c + 1 * (x 0).val = c + (x 0).val; omega

end Cert.Proof

end
-- ==== Proof.VoteSetup.lean ====
/-
  The vote call as the launch theorem sees it, and what its tasks are handed. Thirty-two tasks, sixteen on each of the
  two SparseCores; task `(c, s)` answers queries `32·(2·s + c) …+31`. Each task holds a thirty-second SHARE of the
  table of picks and of the labels (it reads five windows of the one and gathers from all of the other) and its own
  window of the answer outright; it brings the shares back and its window holding the winners.
-/
module

public import proofs.«01_k».proof.Defs
public import proofs.«01_k».proof.Proof.Gathers
public import proofs.«01_k».proof.Proof.VoteWords
public import proofs.«01_k».proof.Proof.Cells
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Vote
public import proofs.«01_k».proof.Proof.Gen.Vote.Skeleton

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program, its handshakes' facts, its ghost state -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0

abbrev topV : Memref sig .scVector .hbm S8x1024 .i32 := Memref.whole main_arg0_scv
abbrev labV : Memref sig .scVector .hbm S100000 .i32 := Memref.whole main_arg1_scv
abbrev outV : Memref sig .scVector .hbm S1024 .i32 := Memref.whole main_v0_scv
abbrev idxS : Memref sig .scVector .vmem S5x32 .i32 := Memref.whole cc0_scratch0
abbrev labS : Memref sig .scVector .vmem S5x32 .i32 := Memref.whole cc0_scratch1
abbrev ansS : Memref sig .scVector .vmem S32 .i32 := Memref.whole cc0_scratch2

/-- Task `k`'s window of the answer. -/
abbrev oSet (k : Fin 32) : Finset S1024.Idx := Finset.univ.filter fun x => (x 0).val / 32 = k.val

/-- Task `(c, s)`'s number. -/
abbrev wid (c : Fin 2) (s : Fin 16) : Fin 32 := ⟨2 * s.val + c.val, by omega⟩

/-- Lane `l` of task `k`'s window: the query it answers. -/
abbrev colAt (k l : Fin 32) : Fin 1024 := ⟨32 * k.val + l.val, by omega⟩

theorem h32 : 0 < 32 := by decide
theorem h5 : 0 < 5 := by decide
/-- Task `k`'s share of what every task reads. -/
abbrev rq (k : Fin 32) : PosShare TreeShare := pieceOf fullShare 32 h32 k

/-- The picks and the labels the call starts from. -/
structure Data (F : FTy → Type) where
  top : (d : Dev nD) → Buf (Elt F) (tLoc d)
  lab : (d : Dev nD) → Buf (Elt F) (yLoc d)
  out : (d : Dev nD) → Buf (Elt F) (oLoc d)

variable (B : Data F)

/-- Every pick of the five rows read is a row number of the labels. -/
def Data.Ok : Prop := ∀ (d : Dev nD) (j : Fin 5) (x : Fin 1024), (B.top d (ix2 (Fin.castLE (by decide) j) x)).toNat < 100000

/-- The label of query `x`'s pick `j`. -/
def Data.label (d : Dev nD) (j : Fin 5) (x : Fin 1024) : BitVec 32 :=
  B.lab d (ix1 (Fin.ofNat 100000 (B.top d (ix2 (Fin.castLE (by decide) j) x)).toNat))

/-- The answer: for each query the winner of the vote of its five labels. -/
def Data.ans (d : Dev nD) : Buf (Elt F) (oLoc d) := fun x => vote5 fun j => B.label d j (x 0)

abbrev topPts (d : Dev nD) (k : Fin 32) : sProp 𝕄 := tLoc d ↦{rq k} B.top d
abbrev labPts (d : Dev nD) (k : Fin 32) : sProp 𝕄 := yLoc d ↦{rq k} B.lab d
abbrev outPts (d : Dev nD) (k : Fin 32) (f : Buf (Elt F) (oLoc d)) : sProp 𝕄 := oLoc d ↦[oSet k]{fullShare} f

end Cert.Proof.Vote

end
-- ==== Proof.VoteRows.lean ====
/-
  What one task of the vote holds, and where its rows sit: the task's scratch and semaphores among its subcore's, the five
  rows of each scratch, the contents of the index scratch after the fetches and of the label scratch after the gathers.
-/
module

public import proofs.«01_k».proof.Proof.VoteSetup
public import proofs.«01_k».proof.Proof.Gathers
public import Idealize.ShloMosaic.Lib.ViewIndex

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number, from its coordinates. -/
abbrev kL (L : grid0.Coords) : Fin 32 := wid (Fin.cast bound_zero (L 0)) (Fin.cast bound_one (L 1))

/-- Row `j` of a five-row scratch, squeezed, as the task addresses it. -/
abbrev rowOf (b : Memref sig .scVector .vmem S5x32 .i32) (j : Fin 5) (h : ∀ a, (![j.val, 0] : Fin S5x32.rank → ℕ) a + S1x32.size a ≤ S5x32.size a) :
    Memref sig .scVector .vmem S32 .i32 :=
  (b.slice (Rect.unit (s := S5x32) ![j.val, 0] S1x32.size h) (fun _ => rfl)).squeeze S32 squeezes_S1x32_S32

abbrev allLab : Memref sig .scVector .hbm S100000 .i32 :=
  (labV).slice (Rect.unit (s := S100000) ![0] S100000.size inb_S100000_S100000_0) (fun _ => rfl)

abbrev outK (L : grid0.Coords) : Memref sig .scVector .hbm S32 .i32 :=
  (outV).slice (Rect.unit (s := S1024) (k0_off6 L) S32.size (k0_off6_inb L)) (fun _ => rfl)

abbrev cell (d : Dev nD) (c : Fin τ.nSC) (i : Fin τ.nSub) (s : DmaSems sig S_) : GSem nD τ sig := (V d c i, .dma s.sem)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b := fun h e =>
    h (Proc.devRef_injective _ e)
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨hne (show cc0_scratch1 ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨hne (show cc0_scratch2 ≠ cc0_scratch1 by decide),
      Finset.mem_erase.mpr ⟨hne (show cc0_scratch2 ≠ cc0_scratch0 by decide), SparseCore.Cfg.mem_ownRefs_of_owner (p := Proc.scVector (cV L) (jV L)) (b := (Proc.scVector (cV L) (jV L)).devRef cc0_scratch2) rfl⟩⟩)]

/-- The seven DMA semaphores the task uses: the gathers', the five fetches', the write-out's. -/
abbrev taskSems : Finset (SemLoc sig) :=
  {.dma cc0_scratch3.sem, .dma cc0_scoped0.sem, .dma cc0_scoped1.sem, .dma cc0_scoped2.sem, .dma cc0_scoped3.sem, .dma cc0_scoped4.sem, .dma cc0_scoped5.sem}

abbrev atThr (thr : Thread nD τ) : SemLoc sig ↪ GSem nD τ sig := ⟨fun s => (thr, s), fun _ _ e => (Prod.mk.inj e).2⟩

/-- The task's cells are among the subcore's own. -/
theorem ownSems0_V :
    (ownSems0 (V d (cV L) (jV L)) : sProp 𝕄)
      = iprop((semVal (V d (cV L) (jV L), .dma cc0_scratch3.sem) 0 ∗ semVal (V d (cV L) (jV L), .dma cc0_scoped0.sem) 0
          ∗ semVal (V d (cV L) (jV L), .dma cc0_scoped1.sem) 0 ∗ semVal (V d (cV L) (jV L), .dma cc0_scoped2.sem) 0
          ∗ semVal (V d (cV L) (jV L), .dma cc0_scoped3.sem) 0 ∗ semVal (V d (cV L) (jV L), .dma cc0_scoped4.sem) 0
          ∗ semVal (V d (cV L) (jV L), .dma cc0_scoped5.sem) 0)
          ∗ bigSep (ownCells (V d (cV L) (jV L)) \ taskSems.map (atThr (V d (cV L) (jV L)))) fun g => semVal g 0) := by
  unfold SparseCore.Cfg.ownSems0
  have hsub : taskSems.map (atThr (V d (cV L) (jV L))) ⊆ ownCells (V d (cV L) (jV L)) := fun g hg => by
    obtain ⟨s, hs, rfl⟩ := Finset.mem_map.mp hg
    refine mem_ownCells.mpr ⟨rfl, ?_⟩
    exact (show ∀ s ∈ taskSems, (s : SemLoc sig).isScoped .scVector = true by decide) s hs
  rw [SparseCore.bigSep_sdiff_split' hsub, bigSep_map]
  congr 1
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem inb_row (j : Fin 5) : ∀ a, (![j.val, 0] : Fin S5x32.rank → ℕ) a + S1x32.size a ≤ S5x32.size a := by revert j; decide

theorem set_rowOf (b : Memref sig .scVector .vmem S5x32 .i32) (j : Fin 5) :
    (rowOf b j (inb_row j)).view.set = (b.view.slice (S5x32.rowRect 0 j)).set := by
  show ((b.view.slice (Rect.unit (s := S5x32) ![j.val, 0] S1x32.size (inb_row j))).reshape S32 squeezes_S1x32_S32.numel_eq).set = _
  rw [View.set_reshape]
  have ho : (![j.val, 0] : Fin S5x32.rank → ℕ) = fun b => if b = 0 then j.val else 0 := by funext a; fin_cases a <;> rfl
  have hs : S1x32.size = (S5x32.rowShape 0).size := by funext a; fin_cases a <;> rfl
  have key : ∀ (o o' z z' : Fin S5x32.rank → ℕ) (h : ∀ a, o a + z a ≤ S5x32.size a) (h' : ∀ a, o' a + z' a ≤ S5x32.size a), o = o' → z = z' →
      (b.view.slice (Rect.unit (s := S5x32) o z h)).set = (b.view.slice (Rect.unit (s := S5x32) o' z' h')).set := by
    intro o o' z z' h h' e e'; subst e; subst e'; rfl
  exact key _ _ _ _ _ _ ho hs

theorem pts_rowOf (b : Memref sig .scVector .vmem S5x32 .i32) (f : Buf (Elt F) (b.view.loc (V d (cV L) (jV L)))) :
    (b.view.loc (V d (cV L) (jV L)) ↦[b.view.set]{fullShare} f : sProp 𝕄)
      = bigSep Finset.univ fun j : Fin 5 => (rowOf b j (inb_row j)).view.loc (V d (cV L) (jV L)) ↦[(rowOf b j (inb_row j)).view.set]{fullShare} f := by
  rw [pointsTo_rows (V d (cV L) (jV L)) b.view 0 fullShare f]
  exact bigSep_congr fun j _ => congrArg (fun I => (b.view.loc (V d (cV L) (jV L)) ↦[I]{fullShare} f : sProp 𝕄)) (set_rowOf b j).symm

/-- The index scratch after the fetches: the task's window of the five rows of picks. -/
def idxBuf : Buf (Elt F) ((V d (cV L) (jV L)).loc cc0_scratch0) :=
  fun x : S5x32.Idx => B.top d (ix2 (Fin.castLE (by decide) (x 0)) (colAt (kL L) (x 1)))

/-- The label scratch after the gathers: the window's labels. -/
def labBuf : Buf (Elt F) ((V d (cV L) (jV L)).loc cc0_scratch1) :=
  fun x : S5x32.Idx => B.label d (x 0) (colAt (kL L) (x 1))

theorem emb_rowOf (b : Memref sig .scVector .vmem S5x32 .i32) (j : Fin 5) (x : S32.Idx) :
    (rowOf b j (inb_row j)).view.emb x = b.view.emb (ix2 j (x 0)) := by
  refine (emb_row b.view ![j.val, 0] j 0 rfl (inb_row j) squeezes_S1x32_S32.numel_eq x ((Nat.zero_add _).symm ▸ (x 0).isLt)).trans ?_
  congr 2; exact Fin.ext (Nat.zero_add _)

/-- Window `j` of the picks, as the task addresses it. -/
abbrev topK (off : grid0.Coords → Fin 2 → ℕ) (h : ∀ L a, off L a + S1x32.size a ≤ S8x1024.size a) (L : grid0.Coords) : Memref sig .scVector .hbm S32 .i32 :=
  ((topV).slice (Rect.unit (s := S8x1024) (off L) S1x32.size (h L)) (fun _ => rfl)).squeeze S32 squeezes_S1x32_S32

theorem emb_topK (off : grid0.Coords → Fin 2 → ℕ) (h : ∀ L a, off L a + S1x32.size a ≤ S8x1024.size a) (L : grid0.Coords) (j : Fin 5)
    (ho : off L = ![j.val, 64 * (L 1).val + 32 * (L 0).val]) (x : S32.Idx) :
    (topK off h L).view.emb x = ix2 (Fin.castLE (by decide) j : Fin 8) (colAt (kL L) (x 0)) := by
  have h0 : (L 0).val < 2 := (L 0).isLt
  have h1 : (L 1).val < 16 := (L 1).isLt
  have hx : (x 0).val < 32 := (x 0).isLt
  refine (emb_row (topV).view (off L) (Fin.castLE (by decide) j) (64 * (L 1).val + 32 * (L 0).val) ho (h L) squeezes_S1x32_S32.numel_eq x (by omega)).trans ?_
  show ix2 _ _ = ix2 _ _
  congr 1; refine Fin.ext ?_
  show 64 * (L 1).val + 32 * (L 0).val + (x 0).val = 32 * (2 * (L 1).val + (L 0).val) + (x 0).val
  omega

/-- A fetched row of the index scratch, restated at `idxBuf`. -/
theorem idx_row (off : grid0.Coords → Fin 2 → ℕ) (h : ∀ L a, off L a + S1x32.size a ≤ S8x1024.size a) (j : Fin 5)
    (ho : off L = ![j.val, 64 * (L 1).val + 32 * (L 0).val]) (fi : Buf (Elt F) ((V d (cV L) (jV L)).loc cc0_scratch0)) (w : S32.Idx → Elt F .i32)
    (hw : w = (topK off h L).view.read (Elt F) (B.top d)) :
    ((rowOf idxS j (inb_row j)).view.loc (V d (cV L) (jV L)) ↦[(rowOf idxS j (inb_row j)).view.set]{fullShare}
        (rowOf idxS j (inb_row j)).view.writes (Elt F) fi [⟨Rect.whole S32, w⟩] : sProp 𝕄)
      = (rowOf idxS j (inb_row j)).view.loc (V d (cV L) (jV L)) ↦[(rowOf idxS j (inb_row j)).view.set]{fullShare} idxBuf B d L := by
  refine pointsTo_congr fun i hi => ?_
  obtain ⟨x, -, rfl⟩ := Finset.mem_map.mp hi
  apply View.eq_of_read_eq
  rw [View.read_writes_whole, hw, View.read_apply, View.read_apply, emb_topK off h L j ho, emb_rowOf]
  rfl

theorem emb_allLab (x : S100000.Idx) : (allLab).view.emb x = x := by
  funext a; refine Fin.ext ?_
  show ((Rect.unit (s := S100000) ![0] S100000.size inb_S100000_S100000_0).emb x a).val = _
  rw [Rect.emb_apply]; fin_cases a
  show 0 + 1 * (x 0).val = (x 0).val
  omega

theorem set_allLab : (allLab).view.set = Finset.univ :=
  Finset.eq_univ_of_forall fun x => Finset.mem_map.mpr ⟨x, Finset.mem_univ _, emb_allLab x⟩

/-- Every word of the list names a row of the labels. -/
theorem idx_lt (hok : B.Ok) (j : Fin 5) (x : S32.Idx) :
    ((rowOf idxS j (inb_row j)).view.read (Elt F) (idxBuf B d L) x).toNat < S100000.size gathers_S100000_S32.axis := by
  rw [View.read_apply, emb_rowOf]
  exact hok d j _

/-- The row the list's word names at lane `r`. -/
abbrev pick (hok : B.Ok) (j : Fin 5) : Fin (S32.size gathers_S100000_S32.axis') → Fin (S100000.size gathers_S100000_S32.axis) :=
  SparseCore.rows ((rowOf idxS j (inb_row j)).view.read (Elt F) (idxBuf B d L)) rfl (idx_lt B d L hok j)

theorem lab_pay (hok : B.Ok) (j : Fin 5) (x : S32.Idx) :
    SparseCore.gatherPayload gathers_S100000_S32 ((allLab).view.read (Elt F) (B.lab d)) (pick B d L hok j) x = B.label d j (colAt (kL L) (x 0)) := by
  unfold SparseCore.gatherPayload
  rw [View.read_apply, emb_allLab]
  unfold Data.label
  refine congrArg (B.lab d) ?_
  refine (eq_ix1 _).trans (congrArg ix1 (Fin.ext ?_))
  have h1 : S32.rowMajor.symm (Fin.cast rfl (x 0) : Fin S32.numel) = x :=
    (Equiv.symm_apply_eq _).mpr (Fin.ext (Shape.rowMajor_val_one x).symm)
  show ((rowOf idxS j (inb_row j)).view.read (Elt F) (idxBuf B d L) (S32.rowMajor.symm (Fin.cast rfl (x 0) : Fin S32.numel))).toNat = _
  rw [h1, View.read_apply, emb_rowOf]
  exact (Nat.mod_eq_of_lt (hok d j _)).symm

/-- A gathered row of the label scratch, restated at `labBuf`. -/
theorem lab_row (hok : B.Ok) (j : Fin 5) (fl : Buf (Elt F) ((V d (cV L) (jV L)).loc cc0_scratch1)) :
    ((rowOf labS j (inb_row j)).view.loc (V d (cV L) (jV L)) ↦[(rowOf labS j (inb_row j)).view.set]{fullShare}
        (rowOf labS j (inb_row j)).view.write (Elt F) fl
          (SparseCore.gatherPayload gathers_S100000_S32 ((allLab).view.read (Elt F) (B.lab d)) (pick B d L hok j)) Finset.univ : sProp 𝕄)
      = (rowOf labS j (inb_row j)).view.loc (V d (cV L) (jV L)) ↦[(rowOf labS j (inb_row j)).view.set]{fullShare} labBuf B d L := by
  refine pointsTo_congr fun i hi => ?_
  obtain ⟨x, -, rfl⟩ := Finset.mem_map.mp hi
  apply View.eq_of_read_eq
  rw [View.read_write_univ, lab_pay, View.read_apply, emb_rowOf]
  rfl

theorem emb_outK (x : S32.Idx) : (outK L).view.emb x = (ix1 (colAt (kL L) (x 0)) : S1024.Idx) := by
  funext a; refine Fin.ext ?_
  show ((Rect.unit (s := S1024) (k0_off6 L) S32.size (k0_off6_inb L)).emb x a).val = _
  rw [Rect.emb_apply]; fin_cases a
  show k0_off6 L 0 + 1 * (x 0).val = 32 * (2 * (L 1).val + (L 0).val) + (x 0).val
  rw [show k0_off6 L 0 = 64 * (L 1).val + 32 * (L 0).val from congrFun (k0_off6_eq L) 0]
  omega

/-- The task's window of the answer, as the task addresses it. -/
theorem set_outK : (outK L).view.set = oSet (kL L) := by
  ext (i : S1024.Idx)
  refine Finset.mem_map.trans (Iff.trans ?_ Finset.mem_filter.symm)
  constructor
  · rintro ⟨x, -, rfl⟩
    refine ⟨Finset.mem_univ _, ?_⟩
    rw [emb_outK]
    have : (x 0).val < 32 := (x 0).isLt
    show (32 * (kL L).val + (x 0).val) / 32 = (kL L).val
    omega
  · rintro ⟨-, h⟩
    have hi : (i 0).val < 1024 := (i 0).isLt
    refine ⟨ix1 ⟨(i 0).val % 32, Nat.mod_lt _ (by decide)⟩, Finset.mem_univ _, ?_⟩
    rw [emb_outK]
    refine Eq.trans (congrArg ix1 (Fin.ext ?_)) (eq_ix1 i).symm
    show 32 * (kL L).val + (i 0).val % 32 = (i 0).val
    omega

theorem out_set (f : Buf (Elt F) (oLoc d)) :
    (outPts d (kL L) f : sProp 𝕄) = (outK L).view.loc (V d (cV L) (jV L)) ↦[(outK L).view.set]{fullShare} f := by
  rw [set_outK]

/-- The window of the answer once the winners are written to it, restated at the answer. -/
theorem out_row (f : Buf (Elt F) (oLoc d)) (w : S32.Idx → Elt F .i32) (hw : ∀ x, w x = vote5 fun j => B.label d j (colAt (kL L) (x 0))) :
    ((outK L).view.loc (V d (cV L) (jV L)) ↦[(outK L).view.set]{fullShare} (outK L).view.writes (Elt F) f [⟨Rect.whole S32, w⟩] : sProp 𝕄)
      = (outK L).view.loc (V d (cV L) (jV L)) ↦[(outK L).view.set]{fullShare} B.ans d := by
  refine pointsTo_congr fun i hi => ?_
  obtain ⟨x, -, rfl⟩ := Finset.mem_map.mp hi
  apply View.eq_of_read_eq
  rw [View.read_writes_whole, hw, View.read_apply, emb_outK]
  rfl

end Tile

end Cert.Proof.Vote

end
-- ==== Proof.VoteLanes.lean ====
/-
  The sixteen lanes of one of the task's two votes: what the kernel's arithmetic leaves in each lane is the vote of the
  lane's five labels.
-/
module

public import proofs.«01_k».proof.Proof.VoteRows
public import Idealize.ShloMosaic.Lib.Writes

@[expose] public section

noncomputable section

namespace Cert.Proof.Vote

open Cert.Vote Cert.Vote.Gen

open Idealize.ShloMosaic
open Idealize.ShloMosaic.SparseCore (S V T)
open Idealize.ShloMosaic.ValueIdx (ix1 ix2)

variable {F : FTy → Type} [FloatOps F]

/-- The first group's answer, from the five rows of labels loaded. -/
def lanesLo (v0 v1 v2 v3 v4 : Vec F S1x16 .i32) : IVec S16 32 :=
  k0_pay22 k0_pay2 (k0_pay3 0#32) (k0_pay7 v3) (k0_pay8 v4)
    (k0_pay19 k0_pay2 (k0_pay3 0#32) (k0_pay4 v0) (k0_pay5 v1) (k0_pay6 v2) (k0_pay7 v3) (k0_pay8 v4)
      (k0_pay9 k0_pay2 0#32 v0 v1 v2 v3 v4) (k0_pay10 k0_pay2 0#32 v0 v1 v2 v3 v4))
    (k0_pay20 k0_pay2 (k0_pay3 0#32) (k0_pay4 v0) (k0_pay5 v1) (k0_pay6 v2) (k0_pay7 v3) (k0_pay8 v4)
      (k0_pay9 k0_pay2 0#32 v0 v1 v2 v3 v4) (k0_pay10 k0_pay2 0#32 v0 v1 v2 v3 v4))
    (k0_pay21 k0_pay2 (k0_pay3 0#32) (k0_pay4 v0) (k0_pay5 v1) (k0_pay6 v2) (k0_pay8 v4))

/-- The second group's. -/
def lanesHi (v0 v1 v2 v3 v4 : Vec F S1x16 .i32) : IVec S16 32 :=
  k0_pay1 k0_pay2 (k0_pay3 0#32) (k0_pay23 v0) (k0_pay24 v1) (k0_pay25 v2) (k0_pay26 v3) (k0_pay27 v4)
    (k0_pay36 k0_pay2 (k0_pay3 0#32) (k0_pay23 v0) (k0_pay24 v1) (k0_pay25 v2) (k0_pay26 v3) (k0_pay27 v4)
      (k0_pay28 k0_pay2 (k0_pay3 0#32) v0 v1 v2 v3 v4) k0_pay29)
    (k0_pay37 k0_pay2 (k0_pay3 0#32) (k0_pay23 v0) (k0_pay24 v1) (k0_pay25 v2) (k0_pay26 v3) (k0_pay27 v4)
      (k0_pay28 k0_pay2 (k0_pay3 0#32) v0 v1 v2 v3 v4) k0_pay29)
    (k0_pay38 k0_pay2 (k0_pay3 0#32) (k0_pay23 v0) (k0_pay24 v1) (k0_pay25 v2) (k0_pay26 v3))
    (k0_pay39 k0_pay2 (k0_pay3 0#32) (k0_pay26 v3) (k0_pay27 v4))

theorem lanes_word (v : Fin 5 → Vec F S1x16 .i32) (x : S16.Idx) :
    (fun j => v j (Shape.reshapeEquiv shapeCasts_S1x16_S16 (Shape.reshapeEquiv shapeCasts_S16_S16 x))) = fun j => v j (ix2 0 (x 0) : S1x16.Idx) := by
  rw [show Shape.reshapeEquiv shapeCasts_S16_S16 x = x from Shape.reshapeEquiv_self _ x]
  exact funext fun j => congrArg (v j) (reshape_row _ x)

theorem lanesLo_apply (v : Fin 5 → Vec F S1x16 .i32) (x : S16.Idx) :
    lanesLo (v 0) (v 1) (v 2) (v 3) (v 4) x = vote5 fun j => v j (ix2 0 (x 0) : S1x16.Idx) := by
  rw [← voteL_eq, ← lanes_word v x]
  simp only [lanesLo, lanesHi, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, select, cmpi, addi, subi, muli, broadcast, shapeCast, IntOp.addi, IntOp.subi, IntOp.muli, voteL, leadL, scoreL, tallyL]

theorem lanesHi_apply (v : Fin 5 → Vec F S1x16 .i32) (x : S16.Idx) :
    lanesHi (v 0) (v 1) (v 2) (v 3) (v 4) x = vote5 fun j => v j (ix2 0 (x 0) : S1x16.Idx) := by
  rw [← voteL_eq, ← lanes_word v x]
  simp only [lanesLo, lanesHi, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, select, cmpi, addi, subi, muli, broadcast, shapeCast, IntOp.addi, IntOp.subi, IntOp.muli, voteL, leadL, scoreL, tallyL]

section Tile

variable (B : Data F) (d : Dev nD) (L : grid0.Coords)

theorem inb_lab (o : ℕ) (ho : o + 16 ≤ 32) (j : Fin 5) : ∀ a, (![j.val, o] : Fin S5x32.rank → ℕ) a + S1x16.size a ≤ S5x32.size a := by
  have := j.isLt
  intro a; fin_cases a
  · show j.val + 1 ≤ 5; omega
  · exact ho

/-- Sixteen labels of row `j` from lane `o` on, as the task loads them. -/
abbrev labLd (o : ℕ) (ho : o + 16 ≤ 32) (j : Fin 5) : Vec F S1x16 .i32 :=
  View.readAt (Elt F) (labS).view (Rect.unit (s := S5x32) ![j.val, o] S1x16.size (inb_lab o ho j)).toLoadRect (labBuf B d L)

theorem labLd_apply (o : ℕ) (ho : o + 16 ≤ 32) (j : Fin 5) (l : Fin 16) :
    labLd B d L o ho j (ix2 0 l) = B.label d j (colAt (kL L) ⟨o + l.val, by omega⟩) := by
  show labBuf B d L ((Rect.unit (s := S5x32) ![j.val, o] S1x16.size (inb_lab o ho j)).emb (ix2 0 l)) = _
  have e : (Rect.unit (s := S5x32) ![j.val, o] S1x16.size (inb_lab o ho j)).emb (ix2 0 l) = (ix2 j ⟨o + l.val, by omega⟩ : S5x32.Idx) :=
    Rect.emb_eq_of_coords _ _ _ fun a => by
      fin_cases a
      · show j.val = j.val + 1 * 0; omega
      · show o + l.val = o + 1 * l.val; omega
  rw [e]; rfl

/-- The answer scratch after a write of each half. -/
theorem ans_halves (fa : Buf (Elt F) ((V d (cV L) (jV L)).loc cc0_scratch2)) (h16 : ∀ a, (![16] : Fin S32.rank → ℕ) a + S16.size a ≤ S32.size a)
    (h0 : ∀ a, (![0] : Fin S32.rank → ℕ) a + S16.size a ≤ S32.size a) (hi lo : IVec S16 32) (G : Fin 32 → BitVec 32)
    (hhi : ∀ x, hi x = G ⟨16 + (x 0).val, Nat.add_lt_add_left (x 0).isLt 16⟩)
    (hlo : ∀ x, lo x = G ⟨0 + (x 0).val, lt_of_lt_of_le (Nat.add_lt_add_left (x 0).isLt 0) (by decide : 0 + 16 ≤ 32)⟩) (y : S32.Idx) :
    (ansS).view.read (Elt F) ((ansS).view.writes (Elt F) fa
        [⟨Rect.unit (s := S32) ![16] S16.size h16, hi⟩, ⟨Rect.unit (s := S32) ![0] S16.size h0, lo⟩]) y = G (y 0) := by
  have hy : (y 0).val < 32 := (y 0).isLt
  by_cases h : (y 0).val < 16
  · refine (View.read_writes_cons_miss_of_axis (ansS).view fa _ _ y 0 16 16 rfl rfl rfl (.inl h)).trans ?_
    refine (View.read_writes_cons_hit_of_coords (ansS).view fa _ _ _ (ix1 (⟨(y 0).val, h⟩ : Fin 16) : S16.Idx) y fun a => ?_).trans ?_
    · fin_cases a; show (y 0).val = 0 + 1 * (y 0).val; omega
    · exact (hlo _).trans (congrArg G (Fin.ext (Nat.zero_add _)))
  · refine (View.read_writes_cons_hit_of_coords (ansS).view fa _ _ _ (ix1 (⟨(y 0).val - 16, by omega⟩ : Fin 16) : S16.Idx) y fun a => ?_).trans ?_
    · fin_cases a; show (y 0).val = 16 + 1 * ((y 0).val - 16); omega
    · exact (hhi _).trans (congrArg G (Fin.ext (show 16 + ((y 0).val - 16) = (y 0).val by omega)))

theorem hi_word (x : S16.Idx) :
    lanesHi (labLd B d L 16 (by decide) 0) (labLd B d L 16 (by decide) 1) (labLd B d L 16 (by decide) 2) (labLd B d L 16 (by decide) 3)
        (labLd B d L 16 (by decide) 4) x
      = vote5 fun j => B.label d j (colAt (kL L) ⟨16 + (x 0).val, Nat.add_lt_add_left (x 0).isLt 16⟩) :=
  (lanesHi_apply (labLd B d L 16 (by decide)) x).trans (congrArg vote5 (funext fun j => labLd_apply B d L 16 _ j (x 0)))

theorem lo_word (x : S16.Idx) :
    lanesLo (labLd B d L 0 (by decide) 0) (labLd B d L 0 (by decide) 1) (labLd B d L 0 (by decide) 2) (labLd B d L 0 (by decide) 3)
        (labLd B d L 0 (by decide) 4) x
      = vote5 fun j => B.label d j (colAt (kL L) ⟨0 + (x 0).val, lt_of_lt_of_le (Nat.add_lt_add_left (x 0).isLt 0) (by decide : 0 + 16 ≤ 32)⟩) :=
  (lanesLo_apply (labLd B d L 0 (by decide)) x).trans (congrArg vote5 (funext fun j => labLd_apply B d L 0 _ j (x 0)))

end Tile

end Cert.Proof.Vote

end
-- ==== Proof.VoteTile.lean ====
/-
  One task of the vote, run once at a symbolic SparseCore and tile: the five windows of the picks fetched into the rows
  of the index scratch, the five gathers of labels on one semaphore (Gathers.lean), the two sixteen-lane votes, and the
  write-out of the task's window of the answer.
-/
module

public import proofs.«01_k».proof.Proof.VoteLanes

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

section Tile

variable (d : Dev nD) (L : grid0.Coords)

abbrev EC : UEmb Counters 𝕄 := countersEmb

/-- What row `r` of gather `j` delivers. -/
abbrev gOut (hok : B.Ok) (fl : Buf (Elt F) ((V d (cV L) (jV L)).loc cc0_scratch1)) (j : Fin 5) (r : Fin 32) : sProp 𝕄 :=
  Gathers.rowOut (V d (cV L) (jV L)) allLab (rowOf labS j (inb_row j)) gathers_S100000_S32 (rowOf idxS j (inb_row j)) rfl (by decide : 0 < 32)
    (pieceOf (rq (kL L)) 5 h5 j) fullShare (B.lab d) fl (idxBuf B d L) (pick B d L hok j) r

/-- The deliveries of the batch of the five gathers' rows, in the order of issue. -/
abbrev gAll (hok : B.Ok) (fl : Buf (Elt F) ((V d (cV L) (jV L)).loc cc0_scratch1)) (t : Fin (5 * 32)) : sProp 𝕄 :=
  gOut B d L hok fl t.divNat t.modNat

instance gAll_storable (hok : B.Ok) (fl : Buf (Elt F) ((V d (cV L) (jV L)).loc cc0_scratch1)) (t : Fin (5 * 32)) : Storable (upEmb : UEmb _ 𝕄) (gAll B d L hok fl t) :=
  Gathers.rowOut_storable _ _ _ _ _ _ _ _ _ _ _ _ _ _

theorem gAll_at (hok : B.Ok) (fl : Buf (Elt F) ((V d (cV L) (jV L)).loc cc0_scratch1)) (j : Fin 5) (r : Fin 32) (n : ℕ) (hn : n = 32 * j.val + r.val) (h : n < 5 * 32) :
    gAll B d L hok fl ⟨n, h⟩ = gOut B d L hok fl j r := by
  subst hn
  have h1 : (⟨32 * j.val + r.val, h⟩ : Fin (5 * 32)).divNat = j := Fin.ext (by
    show (32 * j.val + r.val) / 32 = j.val
    omega)
  have h2 : (⟨32 * j.val + r.val, h⟩ : Fin (5 * 32)).modNat = r := Fin.ext (by
    show (32 * j.val + r.val) % 32 = r.val
    omega)
  unfold gAll; rw [h1, h2]

/-- Every delivery in, gather by gather: each row of the label scratch at its labels, and the shares lent back. -/
theorem gAll_join (hok : B.Ok) (fl : Buf (Elt F) ((V d (cV L) (jV L)).loc cc0_scratch1)) :
    bigSep Finset.univ (gAll B d L hok fl)
      ⊢ iprop((bigSep Finset.univ fun j : Fin 5 => (rowOf labS j (inb_row j)).view.loc (V d (cV L) (jV L)) ↦[(rowOf labS j (inb_row j)).view.set]{fullShare} labBuf B d L)
        ∗ (bigSep Finset.univ fun j : Fin 5 => (allLab).view.loc (V d (cV L) (jV L)) ↦[(allLab).view.set]{pieceOf (rq (kL L)) 5 h5 j} B.lab d)
        ∗ (bigSep Finset.univ fun j : Fin 5 => (rowOf idxS j (inb_row j)).view.loc (V d (cV L) (jV L)) ↦[(rowOf idxS j (inb_row j)).view.set]{fullShare} idxBuf B d L)) := by
  rw [bigSep_univ_equiv finProdFinEquiv, bigSep_univ_prod]
  have hj : ∀ j : Fin 5, (bigSep Finset.univ fun r : Fin 32 => gAll B d L hok fl (finProdFinEquiv (j, r)))
      ⊢ iprop(((rowOf labS j (inb_row j)).view.loc (V d (cV L) (jV L)) ↦[(rowOf labS j (inb_row j)).view.set]{fullShare} labBuf B d L)
          ∗ ((allLab).view.loc (V d (cV L) (jV L)) ↦[(allLab).view.set]{pieceOf (rq (kL L)) 5 h5 j} B.lab d)
          ∗ ((rowOf idxS j (inb_row j)).view.loc (V d (cV L) (jV L)) ↦[(rowOf idxS j (inb_row j)).view.set]{fullShare} idxBuf B d L)) := fun j => by
    rw [← lab_row B d L hok j fl]
    refine (Entails.of_eq (bigSep_congr fun r _ => gAll_at B d L hok fl j r _ (Nat.add_comm _ _) _)).trans ?_
    exact Gathers.rowOut_join (V d (cV L) (jV L)) allLab (rowOf labS j (inb_row j)) gathers_S100000_S32 (rowOf idxS j (inb_row j)) rfl (by decide : 0 < 32)
      (pieceOf (rq (kL L)) 5 h5 j) fullShare (B.lab d) fl (idxBuf B d L) (pick B d L hok j)
  have hm : (bigSep Finset.univ fun j : Fin 5 => bigSep Finset.univ fun r : Fin 32 => gAll B d L hok fl (finProdFinEquiv (j, r)))
      ⊢ bigSep Finset.univ fun j : Fin 5 => iprop(((rowOf labS j (inb_row j)).view.loc (V d (cV L) (jV L)) ↦[(rowOf labS j (inb_row j)).view.set]{fullShare} labBuf B d L)
          ∗ ((allLab).view.loc (V d (cV L) (jV L)) ↦[(allLab).view.set]{pieceOf (rq (kL L)) 5 h5 j} B.lab d)
          ∗ ((rowOf idxS j (inb_row j)).view.loc (V d (cV L) (jV L)) ↦[(rowOf idxS j (inb_row j)).view.set]{fullShare} idxBuf B d L)) :=
    bigSep_mono fun j _ => hj j
  iintro H
  ihave H0 := hm $$ H
  ihave H1 := Transfers.bigSep_sep_out _ _ _ $$ H0
  icases H1 with ⟨Ha, Hb⟩
  ihave H2 := Transfers.bigSep_sep_out _ _ _ $$ Hb
  icases H2 with ⟨Hb, Hc⟩
  isplitl [Ha]; · iexact Ha
  isplitl [Hb]; · iexact Hb
  iexact Hc

/-- One row's credit. -/
abbrev rowN : ℕ := ((rowOf labS 0 (inb_row 0)).slice (S32.rowRect gathers_S100000_S32.axis' ⟨0, by decide⟩) (S32.stride_rowRect gathers_S100000_S32.axis' ⟨0, by decide⟩)).view.dmaCredit

/-- A program that starts with a value already returned. -/
theorem wp_ret_bind {α β : Type} [FloatOps F] (thr : Thread nD τ) (a : α) (k : α → Prog (TpuEff nD τ sig (Elt F) Λ₀ thr.2) β) (Q : β → sProp 𝕄) :
    wp frame (wpE (defs₀ (F := F)) 𝒱₀ thr none) Set.univ (k a) Q ⊢ wp frame (wpE (defs₀ (F := F)) 𝒱₀ thr none) Set.univ ((Prog.ret a).bind k) Q := .rfl

set_option maxHeartbeats 4000000 in
theorem tile_body (hF : (K (F := F)).Facts) [FloatOps F] (hok : B.Ok) (O : CellTallies nD τ sig (HIx 1)) (W : Waits sig (HIx 1)) (hO : ∀ g, O g none = 0) :
    iprop(levAts (K (F := F)).L (K (F := F)).lev ∗ emp
        ∗ (topPts B d (kL L) ∗ labPts B d (kL L) ∗ outPts d (kL L) (B.out d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_vote L topV (Memref.isWhole_whole _) labV (Memref.isWhole_whole _) outV (Memref.isWhole_whole _)
            idxS (Memref.isWhole_whole _) labS (Memref.isWhole_whole _) ansS (Memref.isWhole_whole _)
            cc0_scratch3 cc0_scoped0 cc0_scoped1 cc0_scoped2 cc0_scoped3 cc0_scoped4 cc0_scoped5)
          fun _ => iprop((topPts B d (kL L) ∗ labPts B d (kL L) ∗ outPts d (kL L) (B.ans d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_vote_eq_skeleton]; unfold cc0_vote_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Ht, Hy, Ho⟩, ⟨⟨%fi, Hidx⟩, ⟨%fl, Hlab⟩, ⟨%fa, Hans⟩, Hbufs⟩, ⟨⟨Hg, H0, H1, H2, H3, H4, H5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (show (topPts B d (kL L)) ⊢ ((topV).view.loc (V d (cV L) (jV L)) ↦{rq (kL L)} B.top d : sProp 𝕄) from Entails.of_eq rfl) $$ Ht
  ihave Hidx' := (show ((V d (cV L) (jV L)).loc cc0_scratch0 ↦{fullShare} fi : sProp 𝕄) ⊢ (idxS).view.loc (V d (cV L) (jV L)) ↦[(idxS).view.set]{fullShare} fi from
    Entails.of_eq (by rw [View.set_whole])) $$ Hidx
  ihave Hidx2 := (Entails.of_eq ((pts_rowOf (F := F) d L idxS fi).trans (bigSep_five _))) $$ Hidx'
  icases Hidx2 with ⟨Hi0, Hi1, Hi2, Hi3, Hi4⟩
  sl_exec
  ihave Hi0' := (Entails.of_eq (idx_row B d L k0_off1 k0_off1_inb 0 (k0_off1_eq L) fi (tile_body.sl.dma0 B d L) rfl)) $$ Hi0
  ihave Hi1' := (Entails.of_eq (idx_row B d L k0_off2 k0_off2_inb 1 (k0_off2_eq L) fi (tile_body.sl.dma0_1 B d L) rfl)) $$ Hi1
  ihave Hi2' := (Entails.of_eq (idx_row B d L k0_off3 k0_off3_inb 2 (k0_off3_eq L) fi (tile_body.sl.dma0_2 B d L) rfl)) $$ Hi2
  ihave Hi3' := (Entails.of_eq (idx_row B d L k0_off4 k0_off4_inb 3 (k0_off4_eq L) fi (tile_body.sl.dma0_3 B d L) rfl)) $$ Hi3
  ihave Hi4' := (Entails.of_eq (idx_row B d L k0_off5 k0_off5_inb 4 (k0_off5_eq L) fi (tile_body.sl.dma0_4 B d L) rfl)) $$ Hi4
  ihave Hlab' := (show ((V d (cV L) (jV L)).loc cc0_scratch1 ↦{fullShare} fl : sProp 𝕄) ⊢ (labS).view.loc (V d (cV L) (jV L)) ↦[(labS).view.set]{fullShare} fl from
    Entails.of_eq (by rw [View.set_whole])) $$ Hlab
  ihave Hlab2 := (Entails.of_eq ((pts_rowOf (F := F) d L labS fl).trans (bigSep_five _))) $$ Hlab'
  icases Hlab2 with ⟨Hl0, Hl1, Hl2, Hl3, Hl4⟩
  ihave Hy' := (show (labPts B d (kL L) : sProp 𝕄) ⊢ (allLab).view.loc (V d (cV L) (jV L)) ↦[(allLab).view.set]{rq (kL L)} B.lab d from
    Entails.of_eq (by rw [set_allLab])) $$ Hy
  ihave Hy2 := (Entails.of_eq ((pointsTo_piecesOf ((allLab).view.set) (B.lab d) h5 (rq (kL L))).trans (bigSep_five _))) $$ Hy'
  icases Hy2 with ⟨Hy0, Hy1, Hy2, Hy3, Hy4⟩
  ihave Hg' := (show (semVal (V d (cV L) (jV L), SemLoc.dma cc0_scratch3.sem) 0 : sProp 𝕄) ⊢ |={Set.univ}=> Transfers.Batch EC (V d (cV L) (jV L)) (.dma cc0_scratch3.sem) (default : HIx 1) rowN (gAll B d L hok fl) 0 0 from
    Transfers.batch_alloc' EC (V d (cV L) (jV L)) (default : HIx 1) rowN (gAll B d L hok fl)) $$ Hg
  imod Hg' with Hb
  iapply (Gathers.wp_gatherInBatch EC 𝒱₀ (V d (cV L) (jV L)) none (default : HIx 1) rowN (fun _ => rfl) (by decide : 0 < 32) (idx_lt B d L hok 0)
      (D := gAll B d L hok fl) (j := 0) (u := 0) (by decide) (Nat.zero_le _) (fun r => Entails.of_eq (gAll_at B d L hok fl 0 r _ rfl _).symm)) $$ [Hl0 Hi0' Hy0 Hb]
  · isplitl [Hy0]; · iexact Hy0
    isplitl [Hl0]; · iexact Hl0
    isplitl [Hi0']; · iexact Hi0'
    iexact Hb
  iintro Hb
  iapply (Gathers.wp_gatherInBatch EC 𝒱₀ (V d (cV L) (jV L)) none (default : HIx 1) rowN (fun _ => rfl) (by decide : 0 < 32) (idx_lt B d L hok 1)
      (D := gAll B d L hok fl) (j := 32) (u := 0) (by decide) (Nat.zero_le _) (fun r => Entails.of_eq (gAll_at B d L hok fl 1 r _ rfl _).symm)) $$ [Hl1 Hi1' Hy1 Hb]
  · isplitl [Hy1]; · iexact Hy1
    isplitl [Hl1]; · iexact Hl1
    isplitl [Hi1']; · iexact Hi1'
    iexact Hb
  iintro Hb
  iapply (Gathers.wp_gatherInBatch EC 𝒱₀ (V d (cV L) (jV L)) none (default : HIx 1) rowN (fun _ => rfl) (by decide : 0 < 32) (idx_lt B d L hok 2)
      (D := gAll B d L hok fl) (j := 64) (u := 0) (by decide) (Nat.zero_le _) (fun r => Entails.of_eq (gAll_at B d L hok fl 2 r _ rfl _).symm)) $$ [Hl2 Hi2' Hy2 Hb]
  · isplitl [Hy2]; · iexact Hy2
    isplitl [Hl2]; · iexact Hl2
    isplitl [Hi2']; · iexact Hi2'
    iexact Hb
  iintro Hb
  iapply (Gathers.wp_gatherInBatch EC 𝒱₀ (V d (cV L) (jV L)) none (default : HIx 1) rowN (fun _ => rfl) (by decide : 0 < 32) (idx_lt B d L hok 3)
      (D := gAll B d L hok fl) (j := 96) (u := 0) (by decide) (Nat.zero_le _) (fun r => Entails.of_eq (gAll_at B d L hok fl 3 r _ rfl _).symm)) $$ [Hl3 Hi3' Hy3 Hb]
  · isplitl [Hy3]; · iexact Hy3
    isplitl [Hl3]; · iexact Hl3
    isplitl [Hi3']; · iexact Hi3'
    iexact Hb
  iintro Hb
  iapply (Gathers.wp_gatherInBatch EC 𝒱₀ (V d (cV L) (jV L)) none (default : HIx 1) rowN (fun _ => rfl) (by decide : 0 < 32) (idx_lt B d L hok 4)
      (D := gAll B d L hok fl) (j := 128) (u := 0) (by decide) (Nat.zero_le _) (fun r => Entails.of_eq (gAll_at B d L hok fl 4 r _ rfl _).symm)) $$ [Hl4 Hi4' Hy4 Hb]
  · isplitl [Hy4]; · iexact Hy4
    isplitl [Hl4]; · iexact Hl4
    isplitl [Hi4']; · iexact Hi4'
    iexact Hb
  iintro Hb
  ihave Hm := Transfers.MayWaits.elim (SemLoc.dma cc0_scratch3.sem) $$ Hmw
  iapply (Transfers.wp_waitBatchMulO EC 𝒱₀ (V d (cV L) (jV L)) none (default : HIx 1) 32 rfl (N := rowN) (D := gAll B d L hok fl) (j := 5 * 32) (u := 0 * rowN) (by decide)) $$ [Hb HO Hm]
  · isplitl [Hb]; · iexact Hb
    isplitl [HO]; · iexact HO
    iexact Hm
  iintro ⟨Hb, HO⟩
  ihave Hm := Transfers.MayWaits.elim (SemLoc.dma cc0_scratch3.sem) $$ Hmw
  iapply (Transfers.wp_waitBatchMulO EC 𝒱₀ (V d (cV L) (jV L)) none (default : HIx 1) 32 rfl (N := rowN) (D := gAll B d L hok fl) (j := 5 * 32) (u := 32 * rowN) (by decide)) $$ [Hb HO Hm]
  · isplitl [Hb]; · iexact Hb
    isplitl [HO]; · iexact HO
    iexact Hm
  iintro ⟨Hb, HO⟩
  ihave Hm := Transfers.MayWaits.elim (SemLoc.dma cc0_scratch3.sem) $$ Hmw
  iapply (Transfers.wp_waitBatchMulO EC 𝒱₀ (V d (cV L) (jV L)) none (default : HIx 1) 32 rfl (N := rowN) (D := gAll B d L hok fl) (j := 5 * 32) (u := 64 * rowN) (by decide)) $$ [Hb HO Hm]
  · isplitl [Hb]; · iexact Hb
    isplitl [HO]; · iexact HO
    iexact Hm
  iintro ⟨Hb, HO⟩
  ihave Hm := Transfers.MayWaits.elim (SemLoc.dma cc0_scratch3.sem) $$ Hmw
  iapply (Transfers.wp_waitBatchMulO EC 𝒱₀ (V d (cV L) (jV L)) none (default : HIx 1) 32 rfl (N := rowN) (D := gAll B d L hok fl) (j := 5 * 32) (u := 96 * rowN) (by decide)) $$ [Hb HO Hm]
  · isplitl [Hb]; · iexact Hb
    isplitl [HO]; · iexact HO
    iexact Hm
  iintro ⟨Hb, HO⟩
  ihave Hm := Transfers.MayWaits.elim (SemLoc.dma cc0_scratch3.sem) $$ Hmw
  iapply (Transfers.wp_waitBatchAllO EC 𝒱₀ (V d (cV L) (jV L)) none (default : HIx 1) (J := 32 * rowN) rfl (N := rowN) (D := gAll B d L hok fl) (u := 128 * rowN) (by decide) (by decide)) $$ [Hb HO Hm]
  · isplitl [Hb]; · iexact Hb
    isplitl [HO]; · iexact HO
    iexact Hm
  iintro ⟨HD, Hg, HO⟩
  ihave HJ := (gAll_join B d L hok fl) $$ HD
  icases HJ with ⟨Hl, Hy, Hi⟩
  ihave Hl2 := (Entails.of_eq (pts_rowOf (F := F) d L labS (labBuf B d L)).symm) $$ Hl
  ihave Hi2 := (Entails.of_eq (pts_rowOf (F := F) d L idxS (idxBuf B d L)).symm) $$ Hi
  ihave Hy2 := (Entails.of_eq (pointsTo_piecesOf ((allLab).view.set) (B.lab d) h5 (rq (kL L))).symm) $$ Hy
  ihave Hl3 := (show ((labS).view.loc (V d (cV L) (jV L)) ↦[(labS).view.set]{fullShare} labBuf B d L : sProp 𝕄) ⊢ (labS).view.loc (V d (cV L) (jV L)) ↦{fullShare} labBuf B d L from
    Entails.of_eq (by rw [View.set_whole])) $$ Hl2
  ihave Ha2 := (show ((V d (cV L) (jV L)).loc cc0_scratch2 ↦{fullShare} fa : sProp 𝕄) ⊢ (ansS).view.loc (V d (cV L) (jV L)) ↦{fullShare} fa from Entails.of_eq rfl) $$ Hans
  ihave Ho2 := (Entails.of_eq (out_set d L (B.out d))) $$ Ho
  iapply (wp_ret_bind (V d (cV L) (jV L)) PUnit.unit _ _)
  sl_exec
  have hw : ∀ x, tile_body.sl.dma14 B d L fa x = vote5 fun j => B.label d j (colAt (kL L) (x 0)) := fun x =>
    ans_halves d L fa inb_S32_S16_16 inb_S32_S16_0 _ _ (fun l => vote5 fun j => B.label d j (colAt (kL L) l)) (hi_word B d L) (lo_word B d L) x
  ihave Ho3 := (show ((outK L).view.loc (V d (cV L) (jV L)) ↦[(outK L).view.set]{fullShare}
        (outK L).view.writes (Elt F) (B.out d) [⟨Rect.whole S32, tile_body.sl.dma14 B d L fa⟩] : sProp 𝕄) ⊢ outPts d (kL L) (B.ans d) from
    Entails.of_eq (by rw [out_set]; exact out_row B d L _ _ hw)) $$ Ho2
  sl_step
  isplitl [Ht' Hy2 Ho3]
  · isplitl [Ht']; · iexact Ht'
    isplitl [Hy2]
    · iapply (show ((allLab).view.loc (V d (cV L) (jV L)) ↦[(allLab).view.set]{rq (kL L)} B.lab d : sProp 𝕄) ⊢ labPts B d (kL L) from
        Entails.of_eq (by rw [set_allLab]))
      iexact Hy2
    iexact Ho3
  isplitl [Hi2 Hl3 Ha2 Hbufs]
  · isplitl [Hi2]
    · iexists (idxBuf B d L)
      iapply (show ((idxS).view.loc (V d (cV L) (jV L)) ↦[(idxS).view.set]{fullShare} idxBuf B d L : sProp 𝕄) ⊢ (V d (cV L) (jV L)).loc cc0_scratch0 ↦{fullShare} idxBuf B d L from
        Entails.of_eq (by rw [View.set_whole]))
      iexact Hi2
    isplitl [Hl3]; · iexists _; iexact Hl3
    isplitl [Ha2]; · iexists _; iexact Ha2
    iexact Hbufs
  isplitl [Hg H0 H1 H2 H3 H4 H5 Hsems]
  · isplitr [Hsems]
    · isplitl [Hg]; · iexact Hg
      isplitl [H0]; · iexact H0
      isplitl [H1]; · iexact H1
      isplitl [H2]; · iexact H2
      isplitl [H3]; · iexact H3
      isplitl [H4]; · iexact H4
      iexact H5
    iexact Hsems
  iexists _; isplitr
  swap; · iexact HO
  ipureintro; intro p hp
  simp only [Finset.mem_insert] at hp
  rcases hp with hp | hp | hp | hp | hp | hp | hp | hp | hp | hp | hp | hp
  all_goals first | exact .inl hp | exact .inr (hp ▸ rfl)

end Tile

end Cert.Proof.Vote

end
-- ==== Proof.VoteLaunch.lean ====
/-
  The vote call's launch: what the call hands its sequencers and these their tasks, each task's obligation
  (VoteTile.lean), and the three arrays as the thirty-two tasks' parts of them.
-/
module

public import proofs.«01_k».proof.Proof.VoteTile

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

/-! ## What the call hands out -/

/-- What task `k` holds, its window of the answer at `f`. -/
abbrev task (d : Dev nD) (f : Buf (Elt F) (oLoc d)) (k : Fin 32) : sProp 𝕄 := iprop(topPts B d k ∗ labPts B d k ∗ outPts d k f)

/-- The number of the task on subcore `i` of SparseCore `c`. -/
abbrev taskNo (c : Fin ((K (F := F)).nCore 0)) (i : Fin ((K (F := F)).nSub 0)) : Fin 32 := wid (Fin.cast nCore_zero c) (Fin.cast nSub_zero i)

/-- A SparseCore's sixteen tasks. -/
abbrev coreTasks (d : Dev nD) (f : Buf (Elt F) (oLoc d)) (c : Fin ((K (F := F)).nCore 0)) : sProp 𝕄 :=
  bigSep Finset.univ fun i : Fin ((K (F := F)).nSub 0) => task B d f (taskNo (F := F) c i)

def P : (K (F := F)).Pay (nD := nD) (Val := Elt F) (Name := ℕ) (U := UU) where
  st := fun q d c => match q with | 0 => coreTasks B d (B.out d) c
  dn := fun q d c => match q with | 0 => coreTasks B d (B.ans d) c
  go := fun q d c i => match q with | 0 => task B d (B.out d) (taskNo (F := F) c i)
  td := fun q d c i => match q with | 0 => task B d (B.ans d) (taskNo (F := F) c i)
  x := fun _ _ => iprop(emp)

instance task_storable (d : Dev nD) (f : Buf (Elt F) (oLoc d)) (k : Fin 32) : BI.Storable (upEmb : UEmb _ 𝕄) (task B d f k) :=
  (inferInstance : BI.Storable (upEmb : UEmb _ 𝕄) iprop(topPts B d k ∗ labPts B d k ∗ outPts d k f))

instance P_storable : (P B).IsStorable where
  st q d c := match q with | 0 => (inferInstance : BI.Storable (upEmb : UEmb _ 𝕄) (coreTasks B d (B.out d) c))
  dn q d c := match q with | 0 => (inferInstance : BI.Storable (upEmb : UEmb _ 𝕄) (coreTasks B d (B.ans d) c))
  go q d c i := match q with | 0 => task_storable B d (B.out d) (taskNo (F := F) c i)
  td q d c i := match q with | 0 => task_storable B d (B.ans d) (taskNo (F := F) c i)

theorem vecSplit : (K (F := F)).VecSplit' (P B) 0 := by
  intro d c
  show coreTasks B d (B.out d) c ⊢ |={Set.univ}=> iprop(coreTasks B d (B.out d) c ∗ (coreTasks B d (B.ans d) c -∗ coreTasks B d (B.ans d) c))
  iintro H; imodintro
  isplitl [H]; · iexact H
  iintro H; iexact H

/-! ## A task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_vote (coordsV c s) topV (Memref.isWhole_whole _) labV (Memref.isWhole_whole _) outV (Memref.isWhole_whole _)
          idxS (Memref.isWhole_whole _) labS (Memref.isWhole_whole _) ansS (Memref.isWhole_whole _)
          cc0_scratch3 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hF : (K (F := F)).Facts) (hok : B.Ok) : (K (F := F)).TileObl (D (F := F)) 𝒱 (P B) v₀ 0 := by
  intro d c i O W hO _ _
  simp only [show (P B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body B d (coordsV ⟨_, hci.1⟩ ⟨_, hci.2⟩) hF hok O W hO).trans (wp_mono frame _ _ fun _ => obl_post)

/-! ## The arrays as the tasks' parts -/

theorem oSet_disjoint : ∀ k ∈ (Finset.univ : Finset (Fin 32)), ∀ k' ∈ (Finset.univ : Finset (Fin 32)), k ≠ k' → Disjoint (oSet k) (oSet k') :=
  fun k _ k' _ h => Finset.disjoint_left.mpr fun x hx hx' =>
    h (Fin.ext ((Finset.mem_filter.mp hx).2.symm.trans (Finset.mem_filter.mp hx').2))

theorem oSet_cover : (Finset.univ : Finset (Fin 32)).biUnion oSet = Finset.univ :=
  Finset.eq_univ_of_forall fun x => Finset.mem_biUnion.mpr ⟨⟨(x 0).val / 32, by
    have : (x 0).val < 1024 := (x 0).isLt
    omega⟩, Finset.mem_univ _, Finset.mem_filter.mpr ⟨Finset.mem_univ _, rfl⟩⟩

/-- The tasks, by SparseCore and subcore. -/
def taskEquiv : Fin 2 × Fin 16 ≃ Fin 32 where
  toFun p := wid p.1 p.2
  invFun k := (⟨k.val % 2, by omega⟩, ⟨k.val / 2, by omega⟩)
  left_inv p := by
    have h0 := p.1.isLt
    have h1 := p.2.isLt
    refine Prod.ext (Fin.ext ?_) (Fin.ext ?_)
    · show (2 * p.2.val + p.1.val) % 2 = p.1.val; omega
    · show (2 * p.2.val + p.1.val) / 2 = p.2.val; omega
  right_inv k := by
    refine Fin.ext ?_
    show 2 * (k.val / 2) + k.val % 2 = k.val; omega

theorem bigSep_tasks (Φ : Fin 32 → sProp 𝕄) :
    (bigSep Finset.univ fun c : Fin ((K (F := F)).nCore 0) => bigSep Finset.univ fun i : Fin ((K (F := F)).nSub 0) => Φ (taskNo (F := F) c i))
      = bigSep Finset.univ Φ := by
  rw [bigSep_univ_equiv taskEquiv Φ, bigSep_univ_prod]
  rfl

/-- The three arrays whole are the tasks' parts. -/
theorem arrays_tasks (d : Dev nD) (f : Buf (Elt F) (oLoc d)) :
    (bigSep Finset.univ fun c : Fin ((K (F := F)).nCore 0) => coreTasks B d f c)
      = (iprop((tLoc d ↦{fullShare} B.top d) ∗ (yLoc d ↦{fullShare} B.lab d) ∗ oLoc d ↦{fullShare} f) : sProp 𝕄) := by
  have ht : (tLoc d ↦{fullShare} B.top d : sProp 𝕄) = bigSep Finset.univ fun k : Fin 32 => topPts B d k := pointsTo_piecesOf Finset.univ (B.top d) h32 fullShare
  have hy : (yLoc d ↦{fullShare} B.lab d : sProp 𝕄) = bigSep Finset.univ fun k : Fin 32 => labPts B d k := pointsTo_piecesOf Finset.univ (B.lab d) h32 fullShare
  have ho : (oLoc d ↦{fullShare} f : sProp 𝕄) = bigSep Finset.univ fun k : Fin 32 => outPts d k f := by
    rw [← pointsTo_biUnion Finset.univ (ℓ := oLoc d) oSet oSet_disjoint, oSet_cover]
  rw [ht, hy, ho, bigSep_tasks (task B d f), ← bigSep_sep', ← bigSep_sep']

end Cert.Proof.Vote

end
-- ==== Proof.VoteRun.lean ====
/-
  The vote call's program run from any memory whose picks are row numbers: it ends with the arguments as they were, every
  semaphore at zero and, for each query, the winner of the vote of its five labels.
-/
module

public import proofs.«01_k».proof.Proof.VoteLaunch
public import proofs.«01_k».proof.Proof.Gen.Pre_rows_in_range

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ) (ρ : Dev nD → PrngReg)

/-- What the call starts from. -/
abbrev B₀ : Data F := ⟨fun d => m (tLoc d), fun d => m (yLoc d), fun d => m (oLoc d)⟩

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (B : Data F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P B).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P B).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (yLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (B : Data F) (d : Dev nD) : (bigSep Finset.univ fun c : Fin ((K (F := F)).nCore 0) => (P B).st 0 d c)
    = (iprop((tLoc d ↦{fullShare} B.top d) ∗ (yLoc d ↦{fullShare} B.lab d) ∗ oLoc d ↦{fullShare} B.out d) : sProp 𝕄) := arrays_tasks B d (B.out d)
theorem dn0_eq (B : Data F) (d : Dev nD) : (bigSep Finset.univ fun c : Fin ((K (F := F)).nCore 0) => (P B).dn 0 d c)
    = (iprop((tLoc d ↦{fullShare} B.top d) ∗ (yLoc d ↦{fullShare} B.lab d) ∗ oLoc d ↦{fullShare} B.ans d) : sProp 𝕄) := arrays_tasks B d (B.ans d)

abbrev FIN (B : Data F) (d : Dev nD) : sProp 𝕄 :=
  iprop((tLoc d ↦{fullShare} B.top d) ∗ (yLoc d ↦{fullShare} B.lab d) ∗ oLoc d ↦{fullShare} B.ans d)

theorem hmain (κ : GSem nD τ sig → ℕ) (d : Dev nD) :
    iprop((K (F := F)).ctx EH (P (B₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN (B₀ m) d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P (B₀ m)) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq (B₀ m) d)) $$ Hdn
  icases Hdn' with ⟨Hi, Hx, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (tLoc d) = m (tLoc d) ∧ s'.mem.mem (yLoc d) = m (yLoc d) ∧ s'.mem.mem (oLoc d) = (B₀ m).ans d

theorem agree_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN (B₀ m) d ∗ SI s') ⊢ (⌜fq m d s'⌝ : sProp 𝕄) := by
  iintro ⟨⟨Hi, Hx, Ho⟩, HSI⟩
  ihave H := (agree_whole s' (tLoc d) (m (tLoc d))) $$ [HSI Hi]
  · isplitl [HSI] <;> iassumption
  icases H with ⟨%h1, HSI⟩
  ihave H := (agree_whole s' (yLoc d) (m (yLoc d))) $$ [HSI Hx]
  · isplitl [HSI] <;> iassumption
  icases H with ⟨%h2, HSI⟩
  ihave H := (agree_whole s' (oLoc d) ((B₀ m).ans d)) $$ [HSI Ho]
  · isplitl [HSI] <;> iassumption
  icases H with ⟨%h3, -⟩
  ipureintro; exact ⟨h1, h2, h3⟩

/-! ## The program's run -/

def QC : PUnit × MemSt nD τ sig (Elt F) → Prop := fun r =>
  (∀ c : Dev nD, r.2.mem (tLoc c) = m (tLoc c) ∧ r.2.mem (yLoc c) = m (yLoc c) ∧ r.2.mem (oLoc c) = (B₀ m).ans c) ∧ r.2.sem = fun _ => 0

theorem run_main [∀ e, Nonempty (Elt F e)] (hok : (B₀ m).Ok) :
    θ_run (Cert.Vote.defs (F := F)) (Cert.Vote.threads (F := F)) ⟨m, fun _ => 0, ρ⟩ (QC m) :=
  SparseCore.Cfg.θ_run_sc_quiescent (K := K (F := F)) (D := D (F := F)) (𝒱 := 𝒱) (EH := EH) (P := P (B₀ m)) (A := ∅) facts v₀
    (fun q hq => match q with | 0 => nomatch hq)
    (fun q _ => match q with | 0 => tileObl (B₀ m) facts hok)
    (fun q _ => match q with | 0 => SparseCore.Cfg.VecSplit.of_plain (vecSplit (B₀ m)))
    m ρ main (fun _ => iprop(emp)) (FIN (B₀ m)) (u₀ (F := F)) (sep_elim_left.trans (hu₀ (B₀ m))) (hmain m ρ) (fq m) (hfin m) (QC m) (fun _ h hz => ⟨h, hz⟩)

/-- The precondition, as computed, gives that every pick of the five rows is a row number of the labels. -/
theorem ok_of_pre (m : (ℓ : Loc nD τ sig) → Buf (Elt Bits) ℓ) (h : Cert.Pre_Vote m) : (B₀ (F := Bits) m).Ok := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100000#32) = 1#1 → v.toNat < 100000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro d j x
  have e := congrFun (h d) (ix2 j x : Pre_rows_in_range.S5x1024.Idx)
  simp only [Pre_rows_in_range.fn, andi, cmpi, broadcastInDim, constantI, extractStridedSlice] at e
  refine key _ (Eq.trans ?_ e)
  congr 2 <;> refine congrArg _ ?_ <;> funext a <;> refine Fin.ext ?_ <;> fin_cases a <;>
    first | exact (Nat.zero_add _).symm | rfl

/-- The vote's frame. -/
theorem frame : Cert.quiescent_Vote := fun m ρ hpre =>
  (θ_run Cert.Vote.defs _ _).mono (fun _ h => ⟨fun c => ⟨(h.1 c).1, (h.1 c).2.1⟩, h.2⟩) (run_main (F := Bits) m ρ (ok_of_pre m hpre))

end Cert.Proof.Vote

end
-- ==== Proof.VoteClaims.lean ====
/-
  The claims about the vote: the reference's frame, and that the two programs leave the same winners.
-/
module

public import proofs.«01_k».proof.Defs
public import proofs.«01_k».proof.Proof.VoteRefValue
public import proofs.«01_k».proof.Proof.VoteRun

@[expose] public section

noncomputable section

namespace Cert.Proof.VoteRef

open Cert.VoteReference Cert.VoteReference.Gen Idealize.ShloMosaic Idealize.SL.Sem Idealize.ShloMosaic.ValueIdx

/-- The reference has no semaphores, so its counters are zero in any state. -/
theorem sems_zero (s : MemSt nD τ sig (Elt Bits)) : s.sem = fun _ => 0 := by
  funext g
  match g with
  | (_, .reg k) => exact k.elim0
  | (_, .dma k) => exact k.elim0

/-- The reference ends, leaves its arguments as they were and no counter raised. -/
theorem ends (m : (ℓ : Loc nD τ sig) → Buf (Elt Bits) ℓ) (ρ : Dev nD → PrngReg) :
    θ_run defs (onTc (τ := τ) (main (F := Bits))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_arg0).trans (ops_arg0 _), (h c main_arg1).trans (ops_arg1 _)⟩, sems_zero r.2⟩)
    (run_all m ρ)

theorem frame : Cert.quiescent_VoteReference := fun m ρ _ => ends m ρ

theorem frame_in_range : Cert.quiescent_VoteReference_pre_rows_in_range := fun m ρ _ => ends m ρ

/-- The first five rows, read query first. -/
theorem turned_at {α : Type} (v : S8x1024.Idx → α) (x : Fin 1024) (j : Fin 5) :
    transpose S1024x5 [1, 0] (extractStridedSlice S5x1024 ![0, 0] v slices_S8x1024_S5x1024_0_0)
        transposes_S5x1024_S1024x5_1_0 (ix2 x j)
      = v (ix2 (Fin.castLE (by decide) j) x) := by
  unfold transpose extractStridedSlice
  refine congrArg v (funext fun a => ?_)
  refine Fin.ext ?_
  fin_cases a <;> first | exact Nat.zero_add _ | rfl

/-- The reference's winners at a query, of picks in range. -/
theorem winners (top : S8x1024.Idx → BitVec 32) (y : S100000.Idx → BitVec 32)
    (h : ∀ (j : Fin 5) (x : Fin 1024), (top (ix2 (Fin.castLE (by decide) j) x)).toNat < 100000) (x : Fin 1024) :
    winT (takeT y (transpose S1024x5 [1, 0] (extractStridedSlice S5x1024 ![0, 0] top slices_S8x1024_S5x1024_0_0)
        transposes_S5x1024_S1024x5_1_0)) (ix1 x)
      = vote5 fun j => y (ix1 (Fin.ofNat 100000 (top (ix2 (Fin.castLE (by decide) j) x)).toNat)) := by
  rw [winT_apply]
  refine congrArg vote5 (funext fun j => ?_)
  rw [takeT_apply _ _ _ _ (by rw [turned_at]; exact h j x), turned_at]

/-- Both programs leave, at each query, the winner among the labels of its five picks. -/
theorem agree : Cert.bitexact_Vote_VoteReference := fun m ρ m' ρ' hpre hargs =>
  have ok := Cert.Proof.Vote.ok_of_pre m hpre
  ⟨fun c => (Cert.Proof.Vote.B₀ (F := Bits) m).ans c,
    (θ_run Cert.Vote.defs _ _).mono (fun _ h c => ⟨(h.1 c).2.2, (h.1 c).1, (h.1 c).2.1⟩)
      (Cert.Proof.Vote.run_main (F := Bits) m ρ ok),
    (θ_run defs _ _).mono (fun r h c => ⟨by
        refine (h c main_v16).trans ((ops_res _).trans ?_)
        funext x
        have e0 := (hargs c).1
        have e1 := (hargs c).2
        obtain ⟨x, rfl⟩ : ∃ k : Fin 1024, x = ix1 k := ⟨x 0, by funext a; match a with | ⟨0, _⟩ => rfl⟩
        refine (winners _ _ (fun j x => ?_) x).trans ?_
        · exact lt_of_eq_of_lt (congrArg (fun t : S8x1024.Idx → BitVec 32 => (t (ix2 (Fin.castLE (by decide) j) x)).toNat) e0) (ok c j x)
        · exact congrArg₂ (fun (t : S8x1024.Idx → BitVec 32) (y : S100000.Idx → BitVec 32) =>
            vote5 fun j => y (ix1 (Fin.ofNat 100000 (t (ix2 (Fin.castLE (by decide) j) x)).toNat))) e0 e1,
      (h c main_arg0).trans (ops_arg0 _), (h c main_arg1).trans (ops_arg1 _)⟩) (run_all m' ρ')⟩

end Cert.Proof.VoteRef

end
-- ==== Proof.WholeSetup.lean ====
/-
  The vote call as the launch theorem sees it, and what its tasks are handed. Thirty-two tasks, sixteen on each of the
  two SparseCores; task `(c, s)` answers queries `32·(2·s + c) …+31`. Each task holds a thirty-second SHARE of the
  table of picks and of the labels (it reads five windows of the one and gathers from all of the other) and its own
  window of the answer outright; it brings the shares back and its window holding the winners.
-/
module

public import proofs.«01_k».proof.Defs
public import proofs.«01_k».proof.Proof.Gathers
public import proofs.«01_k».proof.Proof.VoteWords
public import proofs.«01_k».proof.Proof.Cells
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program, its handshakes' facts, its ghost state -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v1
abbrev yLoc (d : Dev nD) : Loc nD τ sig := (SparseCore.T d).loc main_arg2
abbrev oLoc (d : Dev nD) : Loc nD τ sig := (SparseCore.T d).loc main_v2

abbrev topV : Memref sig .scVector .hbm S8x1024 .i32 := Memref.whole main_v1_scv
abbrev labV : Memref sig .scVector .hbm S100000 .i32 := Memref.whole main_arg2_scv
abbrev outV : Memref sig .scVector .hbm S1024 .i32 := Memref.whole main_v2_scv
abbrev idxS : Memref sig .scVector .vmem S5x32 .i32 := Memref.whole cc1_scratch0
abbrev labS : Memref sig .scVector .vmem S5x32 .i32 := Memref.whole cc1_scratch1
abbrev ansS : Memref sig .scVector .vmem S32 .i32 := Memref.whole cc1_scratch2

/-- Task `k`'s window of the answer. -/
abbrev oSet (k : Fin 32) : Finset S1024.Idx := Finset.univ.filter fun x => (x 0).val / 32 = k.val

/-- Task `(c, s)`'s number. -/
abbrev wid (c : Fin 2) (s : Fin 16) : Fin 32 := ⟨2 * s.val + c.val, by omega⟩

/-- Lane `l` of task `k`'s window: the query it answers. -/
abbrev colAt (k l : Fin 32) : Fin 1024 := ⟨32 * k.val + l.val, by omega⟩

theorem h32 : 0 < 32 := by decide
theorem h5 : 0 < 5 := by decide
/-- Task `k`'s share of what every task reads. -/
abbrev rq (k : Fin 32) : PosShare TreeShare := pieceOf fullShare 32 h32 k

/-- The picks and the labels the call starts from. -/
structure Data (F : FTy → Type) where
  top : (d : Dev nD) → Buf (Elt F) (tLoc d)
  lab : (d : Dev nD) → Buf (Elt F) (yLoc d)
  out : (d : Dev nD) → Buf (Elt F) (oLoc d)

variable (B : Data F)

/-- Every pick of the five rows read is a row number of the labels. -/
def Data.Ok : Prop := ∀ (d : Dev nD) (j : Fin 5) (x : Fin 1024), (B.top d (ix2 (Fin.castLE (by decide) j) x)).toNat < 100000

/-- The label of query `x`'s pick `j`. -/
def Data.label (d : Dev nD) (j : Fin 5) (x : Fin 1024) : BitVec 32 :=
  B.lab d (ix1 (Fin.ofNat 100000 (B.top d (ix2 (Fin.castLE (by decide) j) x)).toNat))

/-- The answer: for each query the winner of the vote of its five labels. -/
def Data.ans (d : Dev nD) : Buf (Elt F) (oLoc d) := fun x => vote5 fun j => B.label d j (x 0)

abbrev topPts (d : Dev nD) (k : Fin 32) : sProp 𝕄 := tLoc d ↦{rq k} B.top d
abbrev labPts (d : Dev nD) (k : Fin 32) : sProp 𝕄 := yLoc d ↦{rq k} B.lab d
abbrev outPts (d : Dev nD) (k : Fin 32) (f : Buf (Elt F) (oLoc d)) : sProp 𝕄 := oLoc d ↦[oSet k]{fullShare} f

end Cert.Proof.Whole

end
-- ==== Proof.WholeRows.lean ====
/-
  What one task of the vote holds, and where its rows sit: the task's scratch and semaphores among its subcore's, the five
  rows of each scratch, the contents of the index scratch after the fetches and of the label scratch after the gathers.
-/
module

public import proofs.«01_k».proof.Proof.WholeSetup
public import proofs.«01_k».proof.Proof.Gathers
public import Idealize.ShloMosaic.Lib.ViewIndex

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's number, from its coordinates. -/
abbrev kL (L : grid1.Coords) : Fin 32 := wid (Fin.cast bound_zero (L 0)) (Fin.cast bound_one (L 1))

/-- Row `j` of a five-row scratch, squeezed, as the task addresses it. -/
abbrev rowOf (b : Memref sig .scVector .vmem S5x32 .i32) (j : Fin 5) (h : ∀ a, (![j.val, 0] : Fin S5x32.rank → ℕ) a + S1x32.size a ≤ S5x32.size a) :
    Memref sig .scVector .vmem S32 .i32 :=
  (b.slice (Rect.unit (s := S5x32) ![j.val, 0] S1x32.size h) (fun _ => rfl)).squeeze S32 squeezes_S1x32_S32

abbrev allLab : Memref sig .scVector .hbm S100000 .i32 :=
  (labV).slice (Rect.unit (s := S100000) ![0] S100000.size inb_S100000_S100000_0) (fun _ => rfl)

abbrev outK (L : grid1.Coords) : Memref sig .scVector .hbm S32 .i32 :=
  (outV).slice (Rect.unit (s := S1024) (k1_off6 L) S32.size (k1_off6_inb L)) (fun _ => rfl)

abbrev cell (d : Dev nD) (c : Fin τ.nSC) (i : Fin τ.nSub) (s : DmaSems sig S_) : GSem nD τ sig := (V d c i, .dma s.sem)

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b := fun h e =>
    h (Proc.devRef_injective _ e)
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨hne (show cc1_scratch1 ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨hne (show cc1_scratch2 ≠ cc1_scratch1 by decide),
      Finset.mem_erase.mpr ⟨hne (show cc1_scratch2 ≠ cc1_scratch0 by decide), SparseCore.Cfg.mem_ownRefs_of_owner (p := Proc.scVector (cV L) (jV L)) (b := (Proc.scVector (cV L) (jV L)).devRef cc1_scratch2) rfl⟩⟩)]

/-- The seven DMA semaphores the task uses: the gathers', the five fetches', the write-out's. -/
abbrev taskSems : Finset (SemLoc sig) :=
  {.dma cc1_scratch3.sem, .dma cc1_scoped0.sem, .dma cc1_scoped1.sem, .dma cc1_scoped2.sem, .dma cc1_scoped3.sem, .dma cc1_scoped4.sem, .dma cc1_scoped5.sem}

abbrev atThr (thr : Thread nD τ) : SemLoc sig ↪ GSem nD τ sig := ⟨fun s => (thr, s), fun _ _ e => (Prod.mk.inj e).2⟩

/-- The task's cells are among the subcore's own. -/
theorem ownSems0_V :
    (ownSems0 (V d (cV L) (jV L)) : sProp 𝕄)
      = iprop((semVal (V d (cV L) (jV L), .dma cc1_scratch3.sem) 0 ∗ semVal (V d (cV L) (jV L), .dma cc1_scoped0.sem) 0
          ∗ semVal (V d (cV L) (jV L), .dma cc1_scoped1.sem) 0 ∗ semVal (V d (cV L) (jV L), .dma cc1_scoped2.sem) 0
          ∗ semVal (V d (cV L) (jV L), .dma cc1_scoped3.sem) 0 ∗ semVal (V d (cV L) (jV L), .dma cc1_scoped4.sem) 0
          ∗ semVal (V d (cV L) (jV L), .dma cc1_scoped5.sem) 0)
          ∗ bigSep (ownCells (V d (cV L) (jV L)) \ taskSems.map (atThr (V d (cV L) (jV L)))) fun g => semVal g 0) := by
  unfold SparseCore.Cfg.ownSems0
  have hsub : taskSems.map (atThr (V d (cV L) (jV L))) ⊆ ownCells (V d (cV L) (jV L)) := fun g hg => by
    obtain ⟨s, hs, rfl⟩ := Finset.mem_map.mp hg
    refine mem_ownCells.mpr ⟨rfl, ?_⟩
    exact (show ∀ s ∈ taskSems, (s : SemLoc sig).isScoped .scVector = true by decide) s hs
  rw [SparseCore.bigSep_sdiff_split' hsub, bigSep_map]
  congr 1
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem inb_row (j : Fin 5) : ∀ a, (![j.val, 0] : Fin S5x32.rank → ℕ) a + S1x32.size a ≤ S5x32.size a := by revert j; decide

theorem set_rowOf (b : Memref sig .scVector .vmem S5x32 .i32) (j : Fin 5) :
    (rowOf b j (inb_row j)).view.set = (b.view.slice (S5x32.rowRect 0 j)).set := by
  show ((b.view.slice (Rect.unit (s := S5x32) ![j.val, 0] S1x32.size (inb_row j))).reshape S32 squeezes_S1x32_S32.numel_eq).set = _
  rw [View.set_reshape]
  have ho : (![j.val, 0] : Fin S5x32.rank → ℕ) = fun b => if b = 0 then j.val else 0 := by funext a; fin_cases a <;> rfl
  have hs : S1x32.size = (S5x32.rowShape 0).size := by funext a; fin_cases a <;> rfl
  have key : ∀ (o o' z z' : Fin S5x32.rank → ℕ) (h : ∀ a, o a + z a ≤ S5x32.size a) (h' : ∀ a, o' a + z' a ≤ S5x32.size a), o = o' → z = z' →
      (b.view.slice (Rect.unit (s := S5x32) o z h)).set = (b.view.slice (Rect.unit (s := S5x32) o' z' h')).set := by
    intro o o' z z' h h' e e'; subst e; subst e'; rfl
  exact key _ _ _ _ _ _ ho hs

theorem pts_rowOf (b : Memref sig .scVector .vmem S5x32 .i32) (f : Buf (Elt F) (b.view.loc (V d (cV L) (jV L)))) :
    (b.view.loc (V d (cV L) (jV L)) ↦[b.view.set]{fullShare} f : sProp 𝕄)
      = bigSep Finset.univ fun j : Fin 5 => (rowOf b j (inb_row j)).view.loc (V d (cV L) (jV L)) ↦[(rowOf b j (inb_row j)).view.set]{fullShare} f := by
  rw [pointsTo_rows (V d (cV L) (jV L)) b.view 0 fullShare f]
  exact bigSep_congr fun j _ => congrArg (fun I => (b.view.loc (V d (cV L) (jV L)) ↦[I]{fullShare} f : sProp 𝕄)) (set_rowOf b j).symm

/-- The index scratch after the fetches: the task's window of the five rows of picks. -/
def idxBuf : Buf (Elt F) ((V d (cV L) (jV L)).loc cc1_scratch0) :=
  fun x : S5x32.Idx => B.top d (ix2 (Fin.castLE (by decide) (x 0)) (colAt (kL L) (x 1)))

/-- The label scratch after the gathers: the window's labels. -/
def labBuf : Buf (Elt F) ((V d (cV L) (jV L)).loc cc1_scratch1) :=
  fun x : S5x32.Idx => B.label d (x 0) (colAt (kL L) (x 1))

theorem emb_rowOf (b : Memref sig .scVector .vmem S5x32 .i32) (j : Fin 5) (x : S32.Idx) :
    (rowOf b j (inb_row j)).view.emb x = b.view.emb (ix2 j (x 0)) := by
  refine (emb_row b.view ![j.val, 0] j 0 rfl (inb_row j) squeezes_S1x32_S32.numel_eq x ((Nat.zero_add _).symm ▸ (x 0).isLt)).trans ?_
  congr 2; exact Fin.ext (Nat.zero_add _)

/-- Window `j` of the picks, as the task addresses it. -/
abbrev topK (off : grid1.Coords → Fin 2 → ℕ) (h : ∀ L a, off L a + S1x32.size a ≤ S8x1024.size a) (L : grid1.Coords) : Memref sig .scVector .hbm S32 .i32 :=
  ((topV).slice (Rect.unit (s := S8x1024) (off L) S1x32.size (h L)) (fun _ => rfl)).squeeze S32 squeezes_S1x32_S32

theorem emb_topK (off : grid1.Coords → Fin 2 → ℕ) (h : ∀ L a, off L a + S1x32.size a ≤ S8x1024.size a) (L : grid1.Coords) (j : Fin 5)
    (ho : off L = ![j.val, 64 * (L 1).val + 32 * (L 0).val]) (x : S32.Idx) :
    (topK off h L).view.emb x = ix2 (Fin.castLE (by decide) j : Fin 8) (colAt (kL L) (x 0)) := by
  have h0 : (L 0).val < 2 := (L 0).isLt
  have h1 : (L 1).val < 16 := (L 1).isLt
  have hx : (x 0).val < 32 := (x 0).isLt
  refine (emb_row (topV).view (off L) (Fin.castLE (by decide) j) (64 * (L 1).val + 32 * (L 0).val) ho (h L) squeezes_S1x32_S32.numel_eq x (by omega)).trans ?_
  show ix2 _ _ = ix2 _ _
  congr 1; refine Fin.ext ?_
  show 64 * (L 1).val + 32 * (L 0).val + (x 0).val = 32 * (2 * (L 1).val + (L 0).val) + (x 0).val
  omega

/-- A fetched row of the index scratch, restated at `idxBuf`. -/
theorem idx_row (off : grid1.Coords → Fin 2 → ℕ) (h : ∀ L a, off L a + S1x32.size a ≤ S8x1024.size a) (j : Fin 5)
    (ho : off L = ![j.val, 64 * (L 1).val + 32 * (L 0).val]) (fi : Buf (Elt F) ((V d (cV L) (jV L)).loc cc1_scratch0)) (w : S32.Idx → Elt F .i32)
    (hw : w = (topK off h L).view.read (Elt F) (B.top d)) :
    ((rowOf idxS j (inb_row j)).view.loc (V d (cV L) (jV L)) ↦[(rowOf idxS j (inb_row j)).view.set]{fullShare}
        (rowOf idxS j (inb_row j)).view.writes (Elt F) fi [⟨Rect.whole S32, w⟩] : sProp 𝕄)
      = (rowOf idxS j (inb_row j)).view.loc (V d (cV L) (jV L)) ↦[(rowOf idxS j (inb_row j)).view.set]{fullShare} idxBuf B d L := by
  refine pointsTo_congr fun i hi => ?_
  obtain ⟨x, -, rfl⟩ := Finset.mem_map.mp hi
  apply View.eq_of_read_eq
  rw [View.read_writes_whole, hw, View.read_apply, View.read_apply, emb_topK off h L j ho, emb_rowOf]
  rfl

theorem emb_allLab (x : S100000.Idx) : (allLab).view.emb x = x := by
  funext a; refine Fin.ext ?_
  show ((Rect.unit (s := S100000) ![0] S100000.size inb_S100000_S100000_0).emb x a).val = _
  rw [Rect.emb_apply]; fin_cases a
  show 0 + 1 * (x 0).val = (x 0).val
  omega

theorem set_allLab : (allLab).view.set = Finset.univ :=
  Finset.eq_univ_of_forall fun x => Finset.mem_map.mpr ⟨x, Finset.mem_univ _, emb_allLab x⟩

/-- Every word of the list names a row of the labels. -/
theorem idx_lt (hok : B.Ok) (j : Fin 5) (x : S32.Idx) :
    ((rowOf idxS j (inb_row j)).view.read (Elt F) (idxBuf B d L) x).toNat < S100000.size gathers_S100000_S32.axis := by
  rw [View.read_apply, emb_rowOf]
  exact hok d j _

/-- The row the list's word names at lane `r`. -/
abbrev pick (hok : B.Ok) (j : Fin 5) : Fin (S32.size gathers_S100000_S32.axis') → Fin (S100000.size gathers_S100000_S32.axis) :=
  SparseCore.rows ((rowOf idxS j (inb_row j)).view.read (Elt F) (idxBuf B d L)) rfl (idx_lt B d L hok j)

theorem lab_pay (hok : B.Ok) (j : Fin 5) (x : S32.Idx) :
    SparseCore.gatherPayload gathers_S100000_S32 ((allLab).view.read (Elt F) (B.lab d)) (pick B d L hok j) x = B.label d j (colAt (kL L) (x 0)) := by
  unfold SparseCore.gatherPayload
  rw [View.read_apply, emb_allLab]
  unfold Data.label
  refine congrArg (B.lab d) ?_
  refine (eq_ix1 _).trans (congrArg ix1 (Fin.ext ?_))
  have h1 : S32.rowMajor.symm (Fin.cast rfl (x 0) : Fin S32.numel) = x :=
    (Equiv.symm_apply_eq _).mpr (Fin.ext (Shape.rowMajor_val_one x).symm)
  show ((rowOf idxS j (inb_row j)).view.read (Elt F) (idxBuf B d L) (S32.rowMajor.symm (Fin.cast rfl (x 0) : Fin S32.numel))).toNat = _
  rw [h1, View.read_apply, emb_rowOf]
  exact (Nat.mod_eq_of_lt (hok d j _)).symm

/-- A gathered row of the label scratch, restated at `labBuf`. -/
theorem lab_row (hok : B.Ok) (j : Fin 5) (fl : Buf (Elt F) ((V d (cV L) (jV L)).loc cc1_scratch1)) :
    ((rowOf labS j (inb_row j)).view.loc (V d (cV L) (jV L)) ↦[(rowOf labS j (inb_row j)).view.set]{fullShare}
        (rowOf labS j (inb_row j)).view.write (Elt F) fl
          (SparseCore.gatherPayload gathers_S100000_S32 ((allLab).view.read (Elt F) (B.lab d)) (pick B d L hok j)) Finset.univ : sProp 𝕄)
      = (rowOf labS j (inb_row j)).view.loc (V d (cV L) (jV L)) ↦[(rowOf labS j (inb_row j)).view.set]{fullShare} labBuf B d L := by
  refine pointsTo_congr fun i hi => ?_
  obtain ⟨x, -, rfl⟩ := Finset.mem_map.mp hi
  apply View.eq_of_read_eq
  rw [View.read_write_univ, lab_pay, View.read_apply, emb_rowOf]
  rfl

theorem emb_outK (x : S32.Idx) : (outK L).view.emb x = (ix1 (colAt (kL L) (x 0)) : S1024.Idx) := by
  funext a; refine Fin.ext ?_
  show ((Rect.unit (s := S1024) (k1_off6 L) S32.size (k1_off6_inb L)).emb x a).val = _
  rw [Rect.emb_apply]; fin_cases a
  show k1_off6 L 0 + 1 * (x 0).val = 32 * (2 * (L 1).val + (L 0).val) + (x 0).val
  rw [show k1_off6 L 0 = 64 * (L 1).val + 32 * (L 0).val from congrFun (k1_off6_eq L) 0]
  omega

/-- The task's window of the answer, as the task addresses it. -/
theorem set_outK : (outK L).view.set = oSet (kL L) := by
  ext (i : S1024.Idx)
  refine Finset.mem_map.trans (Iff.trans ?_ Finset.mem_filter.symm)
  constructor
  · rintro ⟨x, -, rfl⟩
    refine ⟨Finset.mem_univ _, ?_⟩
    rw [emb_outK]
    have : (x 0).val < 32 := (x 0).isLt
    show (32 * (kL L).val + (x 0).val) / 32 = (kL L).val
    omega
  · rintro ⟨-, h⟩
    have hi : (i 0).val < 1024 := (i 0).isLt
    refine ⟨ix1 ⟨(i 0).val % 32, Nat.mod_lt _ (by decide)⟩, Finset.mem_univ _, ?_⟩
    rw [emb_outK]
    refine Eq.trans (congrArg ix1 (Fin.ext ?_)) (eq_ix1 i).symm
    show 32 * (kL L).val + (i 0).val % 32 = (i 0).val
    omega

theorem out_set (f : Buf (Elt F) (oLoc d)) :
    (outPts d (kL L) f : sProp 𝕄) = (outK L).view.loc (V d (cV L) (jV L)) ↦[(outK L).view.set]{fullShare} f := by
  rw [set_outK]

/-- The window of the answer once the winners are written to it, restated at the answer. -/
theorem out_row (f : Buf (Elt F) (oLoc d)) (w : S32.Idx → Elt F .i32) (hw : ∀ x, w x = vote5 fun j => B.label d j (colAt (kL L) (x 0))) :
    ((outK L).view.loc (V d (cV L) (jV L)) ↦[(outK L).view.set]{fullShare} (outK L).view.writes (Elt F) f [⟨Rect.whole S32, w⟩] : sProp 𝕄)
      = (outK L).view.loc (V d (cV L) (jV L)) ↦[(outK L).view.set]{fullShare} B.ans d := by
  refine pointsTo_congr fun i hi => ?_
  obtain ⟨x, -, rfl⟩ := Finset.mem_map.mp hi
  apply View.eq_of_read_eq
  rw [View.read_writes_whole, hw, View.read_apply, emb_outK]
  rfl

end Tile

end Cert.Proof.Whole

end
-- ==== Proof.WholeLanes.lean ====
/-
  The sixteen lanes of one of the task's two votes: what the kernel's arithmetic leaves in each lane is the vote of the
  lane's five labels.
-/
module

public import proofs.«01_k».proof.Proof.WholeRows
public import Idealize.ShloMosaic.Lib.Writes

@[expose] public section

noncomputable section

namespace Cert.Proof.Whole

open Cert.KernelIdeal Cert.KernelIdeal.Gen

open Idealize.ShloMosaic
open Idealize.ShloMosaic.SparseCore (S V T)
open Idealize.ShloMosaic.ValueIdx (ix1 ix2)

variable {F : FTy → Type} [FloatOps F] [Named F]

/-- The first group's answer, from the five rows of labels loaded. -/
def lanesLo (v0 v1 v2 v3 v4 : Vec F S1x16 .i32) : IVec S16 32 :=
  k1_pay22 k1_pay2 (k1_pay3 0#32) (k1_pay7 v3) (k1_pay8 v4)
    (k1_pay19 k1_pay2 (k1_pay3 0#32) (k1_pay4 v0) (k1_pay5 v1) (k1_pay6 v2) (k1_pay7 v3) (k1_pay8 v4)
      (k1_pay9 k1_pay2 0#32 v0 v1 v2 v3 v4) (k1_pay10 k1_pay2 0#32 v0 v1 v2 v3 v4))
    (k1_pay20 k1_pay2 (k1_pay3 0#32) (k1_pay4 v0) (k1_pay5 v1) (k1_pay6 v2) (k1_pay7 v3) (k1_pay8 v4)
      (k1_pay9 k1_pay2 0#32 v0 v1 v2 v3 v4) (k1_pay10 k1_pay2 0#32 v0 v1 v2 v3 v4))
    (k1_pay21 k1_pay2 (k1_pay3 0#32) (k1_pay4 v0) (k1_pay5 v1) (k1_pay6 v2) (k1_pay8 v4))

/-- The second group's. -/
def lanesHi (v0 v1 v2 v3 v4 : Vec F S1x16 .i32) : IVec S16 32 :=
  k1_pay1 k1_pay2 (k1_pay3 0#32) (k1_pay23 v0) (k1_pay24 v1) (k1_pay25 v2) (k1_pay26 v3) (k1_pay27 v4)
    (k1_pay36 k1_pay2 (k1_pay3 0#32) (k1_pay23 v0) (k1_pay24 v1) (k1_pay25 v2) (k1_pay26 v3) (k1_pay27 v4)
      (k1_pay28 k1_pay2 (k1_pay3 0#32) v0 v1 v2 v3 v4) k1_pay29)
    (k1_pay37 k1_pay2 (k1_pay3 0#32) (k1_pay23 v0) (k1_pay24 v1) (k1_pay25 v2) (k1_pay26 v3) (k1_pay27 v4)
      (k1_pay28 k1_pay2 (k1_pay3 0#32) v0 v1 v2 v3 v4) k1_pay29)
    (k1_pay38 k1_pay2 (k1_pay3 0#32) (k1_pay23 v0) (k1_pay24 v1) (k1_pay25 v2) (k1_pay26 v3))
    (k1_pay39 k1_pay2 (k1_pay3 0#32) (k1_pay26 v3) (k1_pay27 v4))

theorem lanes_word (v : Fin 5 → Vec F S1x16 .i32) (x : S16.Idx) :
    (fun j => v j (Shape.reshapeEquiv shapeCasts_S1x16_S16 (Shape.reshapeEquiv shapeCasts_S16_S16 x))) = fun j => v j (ix2 0 (x 0) : S1x16.Idx) := by
  rw [show Shape.reshapeEquiv shapeCasts_S16_S16 x = x from Shape.reshapeEquiv_self _ x]
  exact funext fun j => congrArg (v j) (reshape_row _ x)

theorem lanesLo_apply (v : Fin 5 → Vec F S1x16 .i32) (x : S16.Idx) :
    lanesLo (v 0) (v 1) (v 2) (v 3) (v 4) x = vote5 fun j => v j (ix2 0 (x 0) : S1x16.Idx) := by
  rw [← voteL_eq, ← lanes_word v x]
  simp only [lanesLo, lanesHi, k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, select, cmpi, addi, subi, muli, broadcast, shapeCast, IntOp.addi, IntOp.subi, IntOp.muli, voteL, leadL, scoreL, tallyL]

theorem lanesHi_apply (v : Fin 5 → Vec F S1x16 .i32) (x : S16.Idx) :
    lanesHi (v 0) (v 1) (v 2) (v 3) (v 4) x = vote5 fun j => v j (ix2 0 (x 0) : S1x16.Idx) := by
  rw [← voteL_eq, ← lanes_word v x]
  simp only [lanesLo, lanesHi, k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, select, cmpi, addi, subi, muli, broadcast, shapeCast, IntOp.addi, IntOp.subi, IntOp.muli, voteL, leadL, scoreL, tallyL]

section Tile

variable (B : Data F) (d : Dev nD) (L : grid1.Coords)

theorem inb_lab (o : ℕ) (ho : o + 16 ≤ 32) (j : Fin 5) : ∀ a, (![j.val, o] : Fin S5x32.rank → ℕ) a + S1x16.size a ≤ S5x32.size a := by
  have := j.isLt
  intro a; fin_cases a
  · show j.val + 1 ≤ 5; omega
  · exact ho

/-- Sixteen labels of row `j` from lane `o` on, as the task loads them. -/
abbrev labLd (o : ℕ) (ho : o + 16 ≤ 32) (j : Fin 5) : Vec F S1x16 .i32 :=
  View.readAt (Elt F) (labS).view (Rect.unit (s := S5x32) ![j.val, o] S1x16.size (inb_lab o ho j)).toLoadRect (labBuf B d L)

theorem labLd_apply (o : ℕ) (ho : o + 16 ≤ 32) (j : Fin 5) (l : Fin 16) :
    labLd B d L o ho j (ix2 0 l) = B.label d j (colAt (kL L) ⟨o + l.val, by omega⟩) := by
  show labBuf B d L ((Rect.unit (s := S5x32) ![j.val, o] S1x16.size (inb_lab o ho j)).emb (ix2 0 l)) = _
  have e : (Rect.unit (s := S5x32) ![j.val, o] S1x16.size (inb_lab o ho j)).emb (ix2 0 l) = (ix2 j ⟨o + l.val, by omega⟩ : S5x32.Idx) :=
    Rect.emb_eq_of_coords _ _ _ fun a => by
      fin_cases a
      · show j.val = j.val + 1 * 0; omega
      · show o + l.val = o + 1 * l.val; omega
  rw [e]; rfl

/-- The answer scratch after a write of each half. -/
theorem ans_halves (fa : Buf (Elt F) ((V d (cV L) (jV L)).loc cc1_scratch2)) (h16 : ∀ a, (![16] : Fin S32.rank → ℕ) a + S16.size a ≤ S32.size a)
    (h0 : ∀ a, (![0] : Fin S32.rank → ℕ) a + S16.size a ≤ S32.size a) (hi lo : IVec S16 32) (G : Fin 32 → BitVec 32)
    (hhi : ∀ x, hi x = G ⟨16 + (x 0).val, Nat.add_lt_add_left (x 0).isLt 16⟩)
    (hlo : ∀ x, lo x = G ⟨0 + (x 0).val, lt_of_lt_of_le (Nat.add_lt_add_left (x 0).isLt 0) (by decide : 0 + 16 ≤ 32)⟩) (y : S32.Idx) :
    (ansS).view.read (Elt F) ((ansS).view.writes (Elt F) fa
        [⟨Rect.unit (s := S32) ![16] S16.size h16, hi⟩, ⟨Rect.unit (s := S32) ![0] S16.size h0, lo⟩]) y = G (y 0) := by
  have hy : (y 0).val < 32 := (y 0).isLt
  by_cases h : (y 0).val < 16
  · refine (View.read_writes_cons_miss_of_axis (ansS).view fa _ _ y 0 16 16 rfl rfl rfl (.inl h)).trans ?_
    refine (View.read_writes_cons_hit_of_coords (ansS).view fa _ _ _ (ix1 (⟨(y 0).val, h⟩ : Fin 16) : S16.Idx) y fun a => ?_).trans ?_
    · fin_cases a; show (y 0).val = 0 + 1 * (y 0).val; omega
    · exact (hlo _).trans (congrArg G (Fin.ext (Nat.zero_add _)))
  · refine (View.read_writes_cons_hit_of_coords (ansS).view fa _ _ _ (ix1 (⟨(y 0).val - 16, by omega⟩ : Fin 16) : S16.Idx) y fun a => ?_).trans ?_
    · fin_cases a; show (y 0).val = 16 + 1 * ((y 0).val - 16); omega
    · exact (hhi _).trans (congrArg G (Fin.ext (show 16 + ((y 0).val - 16) = (y 0).val by omega)))

theorem hi_word (x : S16.Idx) :
    lanesHi (labLd B d L 16 (by decide) 0) (labLd B d L 16 (by decide) 1) (labLd B d L 16 (by decide) 2) (labLd B d L 16 (by decide) 3)
        (labLd B d L 16 (by decide) 4) x
      = vote5 fun j => B.label d j (colAt (kL L) ⟨16 + (x 0).val, Nat.add_lt_add_left (x 0).isLt 16⟩) :=
  (lanesHi_apply (labLd B d L 16 (by decide)) x).trans (congrArg vote5 (funext fun j => labLd_apply B d L 16 _ j (x 0)))

theorem lo_word (x : S16.Idx) :
    lanesLo (labLd B d L 0 (by decide) 0) (labLd B d L 0 (by decide) 1) (labLd B d L 0 (by decide) 2) (labLd B d L 0 (by decide) 3)
        (labLd B d L 0 (by decide) 4) x
      = vote5 fun j => B.label d j (colAt (kL L) ⟨0 + (x 0).val, lt_of_lt_of_le (Nat.add_lt_add_left (x 0).isLt 0) (by decide : 0 + 16 ≤ 32)⟩) :=
  (lanesLo_apply (labLd B d L 0 (by decide)) x).trans (congrArg vote5 (funext fun j => labLd_apply B d L 0 _ j (x 0)))

end Tile

end Cert.Proof.Whole

end
-- ==== Proof.WholeTile.lean ====
/-
  One task of the vote, run once at a symbolic SparseCore and tile: the five windows of the picks fetched into the rows
  of the index scratch, the five gathers of labels on one semaphore (Gathers.lean), the two sixteen-lane votes, and the
  write-out of the task's window of the answer.
-/
module

public import proofs.«01_k».proof.Proof.WholeLanes

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

section Tile

variable (d : Dev nD) (L : grid1.Coords)

abbrev EC : UEmb Counters 𝕄 := countersEmb

/-- What row `r` of gather `j` delivers. -/
abbrev gOut (hok : B.Ok) (fl : Buf (Elt F) ((V d (cV L) (jV L)).loc cc1_scratch1)) (j : Fin 5) (r : Fin 32) : sProp 𝕄 :=
  Gathers.rowOut (V d (cV L) (jV L)) allLab (rowOf labS j (inb_row j)) gathers_S100000_S32 (rowOf idxS j (inb_row j)) rfl (by decide : 0 < 32)
    (pieceOf (rq (kL L)) 5 h5 j) fullShare (B.lab d) fl (idxBuf B d L) (pick B d L hok j) r

/-- The deliveries of the batch of the five gathers' rows, in the order of issue. -/
abbrev gAll (hok : B.Ok) (fl : Buf (Elt F) ((V d (cV L) (jV L)).loc cc1_scratch1)) (t : Fin (5 * 32)) : sProp 𝕄 :=
  gOut B d L hok fl t.divNat t.modNat

instance gAll_storable (hok : B.Ok) (fl : Buf (Elt F) ((V d (cV L) (jV L)).loc cc1_scratch1)) (t : Fin (5 * 32)) : Storable (upEmb : UEmb _ 𝕄) (gAll B d L hok fl t) :=
  Gathers.rowOut_storable _ _ _ _ _ _ _ _ _ _ _ _ _ _

theorem gAll_at (hok : B.Ok) (fl : Buf (Elt F) ((V d (cV L) (jV L)).loc cc1_scratch1)) (j : Fin 5) (r : Fin 32) (n : ℕ) (hn : n = 32 * j.val + r.val) (h : n < 5 * 32) :
    gAll B d L hok fl ⟨n, h⟩ = gOut B d L hok fl j r := by
  subst hn
  have h1 : (⟨32 * j.val + r.val, h⟩ : Fin (5 * 32)).divNat = j := Fin.ext (by
    show (32 * j.val + r.val) / 32 = j.val
    omega)
  have h2 : (⟨32 * j.val + r.val, h⟩ : Fin (5 * 32)).modNat = r := Fin.ext (by
    show (32 * j.val + r.val) % 32 = r.val
    omega)
  unfold gAll; rw [h1, h2]

/-- Every delivery in, gather by gather: each row of the label scratch at its labels, and the shares lent back. -/
theorem gAll_join (hok : B.Ok) (fl : Buf (Elt F) ((V d (cV L) (jV L)).loc cc1_scratch1)) :
    bigSep Finset.univ (gAll B d L hok fl)
      ⊢ iprop((bigSep Finset.univ fun j : Fin 5 => (rowOf labS j (inb_row j)).view.loc (V d (cV L) (jV L)) ↦[(rowOf labS j (inb_row j)).view.set]{fullShare} labBuf B d L)
        ∗ (bigSep Finset.univ fun j : Fin 5 => (allLab).view.loc (V d (cV L) (jV L)) ↦[(allLab).view.set]{pieceOf (rq (kL L)) 5 h5 j} B.lab d)
        ∗ (bigSep Finset.univ fun j : Fin 5 => (rowOf idxS j (inb_row j)).view.loc (V d (cV L) (jV L)) ↦[(rowOf idxS j (inb_row j)).view.set]{fullShare} idxBuf B d L)) := by
  rw [bigSep_univ_equiv finProdFinEquiv, bigSep_univ_prod]
  have hj : ∀ j : Fin 5, (bigSep Finset.univ fun r : Fin 32 => gAll B d L hok fl (finProdFinEquiv (j, r)))
      ⊢ iprop(((rowOf labS j (inb_row j)).view.loc (V d (cV L) (jV L)) ↦[(rowOf labS j (inb_row j)).view.set]{fullShare} labBuf B d L)
          ∗ ((allLab).view.loc (V d (cV L) (jV L)) ↦[(allLab).view.set]{pieceOf (rq (kL L)) 5 h5 j} B.lab d)
          ∗ ((rowOf idxS j (inb_row j)).view.loc (V d (cV L) (jV L)) ↦[(rowOf idxS j (inb_row j)).view.set]{fullShare} idxBuf B d L)) := fun j => by
    rw [← lab_row B d L hok j fl]
    refine (Entails.of_eq (bigSep_congr fun r _ => gAll_at B d L hok fl j r _ (Nat.add_comm _ _) _)).trans ?_
    exact Gathers.rowOut_join (V d (cV L) (jV L)) allLab (rowOf labS j (inb_row j)) gathers_S100000_S32 (rowOf idxS j (inb_row j)) rfl (by decide : 0 < 32)
      (pieceOf (rq (kL L)) 5 h5 j) fullShare (B.lab d) fl (idxBuf B d L) (pick B d L hok j)
  have hm : (bigSep Finset.univ fun j : Fin 5 => bigSep Finset.univ fun r : Fin 32 => gAll B d L hok fl (finProdFinEquiv (j, r)))
      ⊢ bigSep Finset.univ fun j : Fin 5 => iprop(((rowOf labS j (inb_row j)).view.loc (V d (cV L) (jV L)) ↦[(rowOf labS j (inb_row j)).view.set]{fullShare} labBuf B d L)
          ∗ ((allLab).view.loc (V d (cV L) (jV L)) ↦[(allLab).view.set]{pieceOf (rq (kL L)) 5 h5 j} B.lab d)
          ∗ ((rowOf idxS j (inb_row j)).view.loc (V d (cV L) (jV L)) ↦[(rowOf idxS j (inb_row j)).view.set]{fullShare} idxBuf B d L)) :=
    bigSep_mono fun j _ => hj j
  iintro H
  ihave H0 := hm $$ H
  ihave H1 := Transfers.bigSep_sep_out _ _ _ $$ H0
  icases H1 with ⟨Ha, Hb⟩
  ihave H2 := Transfers.bigSep_sep_out _ _ _ $$ Hb
  icases H2 with ⟨Hb, Hc⟩
  isplitl [Ha]; · iexact Ha
  isplitl [Hb]; · iexact Hb
  iexact Hc

/-- One row's credit. -/
abbrev rowN : ℕ := ((rowOf labS 0 (inb_row 0)).slice (S32.rowRect gathers_S100000_S32.axis' ⟨0, by decide⟩) (S32.stride_rowRect gathers_S100000_S32.axis' ⟨0, by decide⟩)).view.dmaCredit

/-- A program that starts with a value already returned. -/
theorem wp_ret_bind {α β : Type} [FloatOps F] [Named F] (thr : Thread nD τ) (a : α) (k : α → Prog (TpuEff nD τ sig (Elt F) Λ₀ thr.2) β) (Q : β → sProp 𝕄) :
    wp frame (wpE (defs₀ (F := F)) 𝒱₀ thr none) Set.univ (k a) Q ⊢ wp frame (wpE (defs₀ (F := F)) 𝒱₀ thr none) Set.univ ((Prog.ret a).bind k) Q := .rfl

set_option maxHeartbeats 4000000 in
theorem tile_body (hF : (K (F := F)).Facts) [FloatOps F] [Named F] (hok : B.Ok) (O : CellTallies nD τ sig (HIx 1)) (W : Waits sig (HIx 1)) (hO : ∀ g, O g none = 0) :
    iprop(levAts (K (F := F)).L (K (F := F)).lev ∗ emp
        ∗ (topPts B d (kL L) ∗ labPts B d (kL L) ∗ outPts d (kL L) (B.out d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_vote L topV (Memref.isWhole_whole _) labV (Memref.isWhole_whole _) outV (Memref.isWhole_whole _)
            idxS (Memref.isWhole_whole _) labS (Memref.isWhole_whole _) ansS (Memref.isWhole_whole _)
            cc1_scratch3 cc1_scoped0 cc1_scoped1 cc1_scoped2 cc1_scoped3 cc1_scoped4 cc1_scoped5)
          fun _ => iprop((topPts B d (kL L) ∗ labPts B d (kL L) ∗ outPts d (kL L) (B.ans d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_vote_eq_skeleton]; unfold cc1_vote_skel
  simp only [k1_part1_eq_skeleton, k1_part2_eq_skeleton, k1_part3_eq_skeleton, k1_part4_eq_skeleton,
    k1_part5_eq_skeleton, k1_part6_eq_skeleton, k1_part7_eq_skeleton, k1_part8_eq_skeleton]
  unfold k1_part1_skel k1_part2_skel k1_part3_skel k1_part4_skel k1_part5_skel k1_part6_skel k1_part7_skel k1_part8_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Ht, Hy, Ho⟩, ⟨⟨%fi, Hidx⟩, ⟨%fl, Hlab⟩, ⟨%fa, Hans⟩, Hbufs⟩, ⟨⟨Hg, H0, H1, H2, H3, H4, H5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (show (topPts B d (kL L)) ⊢ ((topV).view.loc (V d (cV L) (jV L)) ↦{rq (kL L)} B.top d : sProp 𝕄) from Entails.of_eq rfl) $$ Ht
  ihave Hidx' := (show ((V d (cV L) (jV L)).loc cc1_scratch0 ↦{fullShare} fi : sProp 𝕄) ⊢ (idxS).view.loc (V d (cV L) (jV L)) ↦[(idxS).view.set]{fullShare} fi from
    Entails.of_eq (by rw [View.set_whole])) $$ Hidx
  ihave Hidx2 := (Entails.of_eq ((pts_rowOf (F := F) d L idxS fi).trans (bigSep_five _))) $$ Hidx'
  icases Hidx2 with ⟨Hi0, Hi1, Hi2, Hi3, Hi4⟩
  sl_exec
  ihave Hi0' := (Entails.of_eq (idx_row B d L k1_off1 k1_off1_inb 0 (k1_off1_eq L) fi (tile_body.sl.dma0 B d L) rfl)) $$ Hi0
  ihave Hi1' := (Entails.of_eq (idx_row B d L k1_off2 k1_off2_inb 1 (k1_off2_eq L) fi (tile_body.sl.dma0_1 B d L) rfl)) $$ Hi1
  ihave Hi2' := (Entails.of_eq (idx_row B d L k1_off3 k1_off3_inb 2 (k1_off3_eq L) fi (tile_body.sl.dma0_2 B d L) rfl)) $$ Hi2
  ihave Hi3' := (Entails.of_eq (idx_row B d L k1_off4 k1_off4_inb 3 (k1_off4_eq L) fi (tile_body.sl.dma0_3 B d L) rfl)) $$ Hi3
  ihave Hi4' := (Entails.of_eq (idx_row B d L k1_off5 k1_off5_inb 4 (k1_off5_eq L) fi (tile_body.sl.dma0_4 B d L) rfl)) $$ Hi4
  ihave Hlab' := (show ((V d (cV L) (jV L)).loc cc1_scratch1 ↦{fullShare} fl : sProp 𝕄) ⊢ (labS).view.loc (V d (cV L) (jV L)) ↦[(labS).view.set]{fullShare} fl from
    Entails.of_eq (by rw [View.set_whole])) $$ Hlab
  ihave Hlab2 := (Entails.of_eq ((pts_rowOf (F := F) d L labS fl).trans (bigSep_five _))) $$ Hlab'
  icases Hlab2 with ⟨Hl0, Hl1, Hl2, Hl3, Hl4⟩
  ihave Hy' := (show (labPts B d (kL L) : sProp 𝕄) ⊢ (allLab).view.loc (V d (cV L) (jV L)) ↦[(allLab).view.set]{rq (kL L)} B.lab d from
    Entails.of_eq (by rw [set_allLab])) $$ Hy
  ihave Hy2 := (Entails.of_eq ((pointsTo_piecesOf ((allLab).view.set) (B.lab d) h5 (rq (kL L))).trans (bigSep_five _))) $$ Hy'
  icases Hy2 with ⟨Hy0, Hy1, Hy2, Hy3, Hy4⟩
  ihave Hg' := (show (semVal (V d (cV L) (jV L), SemLoc.dma cc1_scratch3.sem) 0 : sProp 𝕄) ⊢ |={Set.univ}=> Transfers.Batch EC (V d (cV L) (jV L)) (.dma cc1_scratch3.sem) (default : HIx 1) rowN (gAll B d L hok fl) 0 0 from
    Transfers.batch_alloc' EC (V d (cV L) (jV L)) (default : HIx 1) rowN (gAll B d L hok fl)) $$ Hg
  imod Hg' with Hb
  iapply (Gathers.wp_gatherInBatch EC 𝒱₀ (V d (cV L) (jV L)) none (default : HIx 1) rowN (fun _ => rfl) (by decide : 0 < 32) (idx_lt B d L hok 0)
      (D := gAll B d L hok fl) (j := 0) (u := 0) (by decide) (Nat.zero_le _) (fun r => Entails.of_eq (gAll_at B d L hok fl 0 r _ rfl _).symm)) $$ [Hl0 Hi0' Hy0 Hb]
  · isplitl [Hy0]; · iexact Hy0
    isplitl [Hl0]; · iexact Hl0
    isplitl [Hi0']; · iexact Hi0'
    iexact Hb
  iintro Hb
  iapply (Gathers.wp_gatherInBatch EC 𝒱₀ (V d (cV L) (jV L)) none (default : HIx 1) rowN (fun _ => rfl) (by decide : 0 < 32) (idx_lt B d L hok 1)
      (D := gAll B d L hok fl) (j := 32) (u := 0) (by decide) (Nat.zero_le _) (fun r => Entails.of_eq (gAll_at B d L hok fl 1 r _ rfl _).symm)) $$ [Hl1 Hi1' Hy1 Hb]
  · isplitl [Hy1]; · iexact Hy1
    isplitl [Hl1]; · iexact Hl1
    isplitl [Hi1']; · iexact Hi1'
    iexact Hb
  iintro Hb
  iapply (Gathers.wp_gatherInBatch EC 𝒱₀ (V d (cV L) (jV L)) none (default : HIx 1) rowN (fun _ => rfl) (by decide : 0 < 32) (idx_lt B d L hok 2)
      (D := gAll B d L hok fl) (j := 64) (u := 0) (by decide) (Nat.zero_le _) (fun r => Entails.of_eq (gAll_at B d L hok fl 2 r _ rfl _).symm)) $$ [Hl2 Hi2' Hy2 Hb]
  · isplitl [Hy2]; · iexact Hy2
    isplitl [Hl2]; · iexact Hl2
    isplitl [Hi2']; · iexact Hi2'
    iexact Hb
  iintro Hb
  iapply (Gathers.wp_gatherInBatch EC 𝒱₀ (V d (cV L) (jV L)) none (default : HIx 1) rowN (fun _ => rfl) (by decide : 0 < 32) (idx_lt B d L hok 3)
      (D := gAll B d L hok fl) (j := 96) (u := 0) (by decide) (Nat.zero_le _) (fun r => Entails.of_eq (gAll_at B d L hok fl 3 r _ rfl _).symm)) $$ [Hl3 Hi3' Hy3 Hb]
  · isplitl [Hy3]; · iexact Hy3
    isplitl [Hl3]; · iexact Hl3
    isplitl [Hi3']; · iexact Hi3'
    iexact Hb
  iintro Hb
  iapply (Gathers.wp_gatherInBatch EC 𝒱₀ (V d (cV L) (jV L)) none (default : HIx 1) rowN (fun _ => rfl) (by decide : 0 < 32) (idx_lt B d L hok 4)
      (D := gAll B d L hok fl) (j := 128) (u := 0) (by decide) (Nat.zero_le _) (fun r => Entails.of_eq (gAll_at B d L hok fl 4 r _ rfl _).symm)) $$ [Hl4 Hi4' Hy4 Hb]
  · isplitl [Hy4]; · iexact Hy4
    isplitl [Hl4]; · iexact Hl4
    isplitl [Hi4']; · iexact Hi4'
    iexact Hb
  iintro Hb
  ihave Hm := Transfers.MayWaits.elim (SemLoc.dma cc1_scratch3.sem) $$ Hmw
  iapply (Transfers.wp_waitBatchMulO EC 𝒱₀ (V d (cV L) (jV L)) none (default : HIx 1) 32 rfl (N := rowN) (D := gAll B d L hok fl) (j := 5 * 32) (u := 0 * rowN) (by decide)) $$ [Hb HO Hm]
  · isplitl [Hb]; · iexact Hb
    isplitl [HO]; · iexact HO
    iexact Hm
  iintro ⟨Hb, HO⟩
  ihave Hm := Transfers.MayWaits.elim (SemLoc.dma cc1_scratch3.sem) $$ Hmw
  iapply (Transfers.wp_waitBatchMulO EC 𝒱₀ (V d (cV L) (jV L)) none (default : HIx 1) 32 rfl (N := rowN) (D := gAll B d L hok fl) (j := 5 * 32) (u := 32 * rowN) (by decide)) $$ [Hb HO Hm]
  · isplitl [Hb]; · iexact Hb
    isplitl [HO]; · iexact HO
    iexact Hm
  iintro ⟨Hb, HO⟩
  ihave Hm := Transfers.MayWaits.elim (SemLoc.dma cc1_scratch3.sem) $$ Hmw
  iapply (Transfers.wp_waitBatchMulO EC 𝒱₀ (V d (cV L) (jV L)) none (default : HIx 1) 32 rfl (N := rowN) (D := gAll B d L hok fl) (j := 5 * 32) (u := 64 * rowN) (by decide)) $$ [Hb HO Hm]
  · isplitl [Hb]; · iexact Hb
    isplitl [HO]; · iexact HO
    iexact Hm
  iintro ⟨Hb, HO⟩
  ihave Hm := Transfers.MayWaits.elim (SemLoc.dma cc1_scratch3.sem) $$ Hmw
  iapply (Transfers.wp_waitBatchMulO EC 𝒱₀ (V d (cV L) (jV L)) none (default : HIx 1) 32 rfl (N := rowN) (D := gAll B d L hok fl) (j := 5 * 32) (u := 96 * rowN) (by decide)) $$ [Hb HO Hm]
  · isplitl [Hb]; · iexact Hb
    isplitl [HO]; · iexact HO
    iexact Hm
  iintro ⟨Hb, HO⟩
  ihave Hm := Transfers.MayWaits.elim (SemLoc.dma cc1_scratch3.sem) $$ Hmw
  iapply (Transfers.wp_waitBatchAllO EC 𝒱₀ (V d (cV L) (jV L)) none (default : HIx 1) (J := 32 * rowN) rfl (N := rowN) (D := gAll B d L hok fl) (u := 128 * rowN) (by decide) (by decide)) $$ [Hb HO Hm]
  · isplitl [Hb]; · iexact Hb
    isplitl [HO]; · iexact HO
    iexact Hm
  iintro ⟨HD, Hg, HO⟩
  ihave HJ := (gAll_join B d L hok fl) $$ HD
  icases HJ with ⟨Hl, Hy, Hi⟩
  ihave Hl2 := (Entails.of_eq (pts_rowOf (F := F) d L labS (labBuf B d L)).symm) $$ Hl
  ihave Hi2 := (Entails.of_eq (pts_rowOf (F := F) d L idxS (idxBuf B d L)).symm) $$ Hi
  ihave Hy2 := (Entails.of_eq (pointsTo_piecesOf ((allLab).view.set) (B.lab d) h5 (rq (kL L))).symm) $$ Hy
  ihave Hl3 := (show ((labS).view.loc (V d (cV L) (jV L)) ↦[(labS).view.set]{fullShare} labBuf B d L : sProp 𝕄) ⊢ (labS).view.loc (V d (cV L) (jV L)) ↦{fullShare} labBuf B d L from
    Entails.of_eq (by rw [View.set_whole])) $$ Hl2
  ihave Ha2 := (show ((V d (cV L) (jV L)).loc cc1_scratch2 ↦{fullShare} fa : sProp 𝕄) ⊢ (ansS).view.loc (V d (cV L) (jV L)) ↦{fullShare} fa from Entails.of_eq rfl) $$ Hans
  ihave Ho2 := (Entails.of_eq (out_set d L (B.out d))) $$ Ho
  iapply (wp_ret_bind (V d (cV L) (jV L)) PUnit.unit _ _)
  sl_exec
  have hw : ∀ x, tile_body.sl.dma14 B d L fa x = vote5 fun j => B.label d j (colAt (kL L) (x 0)) := fun x =>
    ans_halves d L fa inb_S32_S16_16 inb_S32_S16_0 _ _ (fun l => vote5 fun j => B.label d j (colAt (kL L) l)) (hi_word B d L) (lo_word B d L) x
  ihave Ho3 := (show ((outK L).view.loc (V d (cV L) (jV L)) ↦[(outK L).view.set]{fullShare}
        (outK L).view.writes (Elt F) (B.out d) [⟨Rect.whole S32, tile_body.sl.dma14 B d L fa⟩] : sProp 𝕄) ⊢ outPts d (kL L) (B.ans d) from
    Entails.of_eq (by rw [out_set]; exact out_row B d L _ _ hw)) $$ Ho2
  sl_step
  isplitl [Ht' Hy2 Ho3]
  · isplitl [Ht']; · iexact Ht'
    isplitl [Hy2]
    · iapply (show ((allLab).view.loc (V d (cV L) (jV L)) ↦[(allLab).view.set]{rq (kL L)} B.lab d : sProp 𝕄) ⊢ labPts B d (kL L) from
        Entails.of_eq (by rw [set_allLab]))
      iexact Hy2
    iexact Ho3
  isplitl [Hi2 Hl3 Ha2 Hbufs]
  · isplitl [Hi2]
    · iexists (idxBuf B d L)
      iapply (show ((idxS).view.loc (V d (cV L) (jV L)) ↦[(idxS).view.set]{fullShare} idxBuf B d L : sProp 𝕄) ⊢ (V d (cV L) (jV L)).loc cc1_scratch0 ↦{fullShare} idxBuf B d L from
        Entails.of_eq (by rw [View.set_whole]))
      iexact Hi2
    isplitl [Hl3]; · iexists _; iexact Hl3
    isplitl [Ha2]; · iexists _; iexact Ha2
    iexact Hbufs
  isplitl [Hg H0 H1 H2 H3 H4 H5 Hsems]
  · isplitr [Hsems]
    · isplitl [Hg]; · iexact Hg
      isplitl [H0]; · iexact H0
      isplitl [H1]; · iexact H1
      isplitl [H2]; · iexact H2
      isplitl [H3]; · iexact H3
      isplitl [H4]; · iexact H4
      iexact H5
    iexact Hsems
  iexists _; isplitr
  swap; · iexact HO
  ipureintro; intro p hp
  simp only [Finset.mem_insert] at hp
  rcases hp with hp | hp | hp | hp | hp | hp | hp | hp | hp | hp | hp | hp
  all_goals first | exact .inl hp | exact .inr (hp ▸ rfl)

end Tile

end Cert.Proof.Whole

end
-- ==== Proof.WholeLaunch.lean ====
/-
  The vote call's launch: what the call hands its sequencers and these their tasks, each task's obligation
  (VoteTile.lean), and the three arrays as the thirty-two tasks' parts of them.
-/
module

public import proofs.«01_k».proof.Proof.WholeTile

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (B : Data F)

/-! ## What the call hands out -/

/-- What task `k` holds, its window of the answer at `f`. -/
abbrev task (d : Dev nD) (f : Buf (Elt F) (oLoc d)) (k : Fin 32) : sProp 𝕄 := iprop(topPts B d k ∗ labPts B d k ∗ outPts d k f)

/-- The number of the task on subcore `i` of SparseCore `c`. -/
abbrev taskNo (c : Fin ((K (F := F)).nCore 0)) (i : Fin ((K (F := F)).nSub 0)) : Fin 32 := wid (Fin.cast nCore_zero c) (Fin.cast nSub_zero i)

/-- A SparseCore's sixteen tasks. -/
abbrev coreTasks (d : Dev nD) (f : Buf (Elt F) (oLoc d)) (c : Fin ((K (F := F)).nCore 0)) : sProp 𝕄 :=
  bigSep Finset.univ fun i : Fin ((K (F := F)).nSub 0) => task B d f (taskNo (F := F) c i)

def P : (K (F := F)).Pay (nD := nD) (Val := Elt F) (Name := ℕ) (U := UU) where
  st := fun q d c => match q with | 0 => coreTasks B d (B.out d) c
  dn := fun q d c => match q with | 0 => coreTasks B d (B.ans d) c
  go := fun q d c i => match q with | 0 => task B d (B.out d) (taskNo (F := F) c i)
  td := fun q d c i => match q with | 0 => task B d (B.ans d) (taskNo (F := F) c i)
  x := fun _ _ => iprop(emp)

instance task_storable (d : Dev nD) (f : Buf (Elt F) (oLoc d)) (k : Fin 32) : BI.Storable (upEmb : UEmb _ 𝕄) (task B d f k) :=
  (inferInstance : BI.Storable (upEmb : UEmb _ 𝕄) iprop(topPts B d k ∗ labPts B d k ∗ outPts d k f))

instance P_storable : (P B).IsStorable where
  st q d c := match q with | 0 => (inferInstance : BI.Storable (upEmb : UEmb _ 𝕄) (coreTasks B d (B.out d) c))
  dn q d c := match q with | 0 => (inferInstance : BI.Storable (upEmb : UEmb _ 𝕄) (coreTasks B d (B.ans d) c))
  go q d c i := match q with | 0 => task_storable B d (B.out d) (taskNo (F := F) c i)
  td q d c i := match q with | 0 => task_storable B d (B.ans d) (taskNo (F := F) c i)

theorem vecSplit : (K (F := F)).VecSplit' (P B) 0 := by
  intro d c
  show coreTasks B d (B.out d) c ⊢ |={Set.univ}=> iprop(coreTasks B d (B.out d) c ∗ (coreTasks B d (B.ans d) c -∗ coreTasks B d (B.ans d) c))
  iintro H; imodintro
  isplitl [H]; · iexact H
  iintro H; iexact H

/-! ## A task's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] [Named F] (c : Fin τ.nSC) (s : Fin τ.nSub) :
    defs₀ (F := F) (.scVector c s) 1 ()
      = SparseCore.onTile hcore1 hsub1 (fun c s => cc1_vote (coordsV c s) topV (Memref.isWhole_whole _) labV (Memref.isWhole_whole _) outV (Memref.isWhole_whole _)
          idxS (Memref.isWhole_whole _) labS (Memref.isWhole_whole _) ansS (Memref.isWhole_whole _)
          cc1_scratch3 cc1_scoped0 cc1_scoped1 cc1_scoped2 cc1_scoped3 cc1_scoped4 cc1_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] [Named F] (hF : (K (F := F)).Facts) (hok : B.Ok) : (K (F := F)).TileObl (D (F := F)) 𝒱 (P B) v₀ 0 := by
  intro d c i O W hO _ _
  simp only [show (P B).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body B d (coordsV ⟨_, hci.1⟩ ⟨_, hci.2⟩) hF hok O W hO).trans (wp_mono frame _ _ fun _ => obl_post)

/-! ## The arrays as the tasks' parts -/

theorem oSet_disjoint : ∀ k ∈ (Finset.univ : Finset (Fin 32)), ∀ k' ∈ (Finset.univ : Finset (Fin 32)), k ≠ k' → Disjoint (oSet k) (oSet k') :=
  fun k _ k' _ h => Finset.disjoint_left.mpr fun x hx hx' =>
    h (Fin.ext ((Finset.mem_filter.mp hx).2.symm.trans (Finset.mem_filter.mp hx').2))

theorem oSet_cover : (Finset.univ : Finset (Fin 32)).biUnion oSet = Finset.univ :=
  Finset.eq_univ_of_forall fun x => Finset.mem_biUnion.mpr ⟨⟨(x 0).val / 32, by
    have : (x 0).val < 1024 := (x 0).isLt
    omega⟩, Finset.mem_univ _, Finset.mem_filter.mpr ⟨Finset.mem_univ _, rfl⟩⟩

/-- The tasks, by SparseCore and subcore. -/
def taskEquiv : Fin 2 × Fin 16 ≃ Fin 32 where
  toFun p := wid p.1 p.2
  invFun k := (⟨k.val % 2, by omega⟩, ⟨k.val / 2, by omega⟩)
  left_inv p := by
    have h0 := p.1.isLt
    have h1 := p.2.isLt
    refine Prod.ext (Fin.ext ?_) (Fin.ext ?_)
    · show (2 * p.2.val + p.1.val) % 2 = p.1.val; omega
    · show (2 * p.2.val + p.1.val) / 2 = p.2.val; omega
  right_inv k := by
    refine Fin.ext ?_
    show 2 * (k.val / 2) + k.val % 2 = k.val; omega

theorem bigSep_tasks (Φ : Fin 32 → sProp 𝕄) :
    (bigSep Finset.univ fun c : Fin ((K (F := F)).nCore 0) => bigSep Finset.univ fun i : Fin ((K (F := F)).nSub 0) => Φ (taskNo (F := F) c i))
      = bigSep Finset.univ Φ := by
  rw [bigSep_univ_equiv taskEquiv Φ, bigSep_univ_prod]
  rfl

/-- The three arrays whole are the tasks' parts. -/
theorem arrays_tasks (d : Dev nD) (f : Buf (Elt F) (oLoc d)) :
    (bigSep Finset.univ fun c : Fin ((K (F := F)).nCore 0) => coreTasks B d f c)
      = (iprop((tLoc d ↦{fullShare} B.top d) ∗ (yLoc d ↦{fullShare} B.lab d) ∗ oLoc d ↦{fullShare} f) : sProp 𝕄) := by
  have ht : (tLoc d ↦{fullShare} B.top d : sProp 𝕄) = bigSep Finset.univ fun k : Fin 32 => topPts B d k := pointsTo_piecesOf Finset.univ (B.top d) h32 fullShare
  have hy : (yLoc d ↦{fullShare} B.lab d : sProp 𝕄) = bigSep Finset.univ fun k : Fin 32 => labPts B d k := pointsTo_piecesOf Finset.univ (B.lab d) h32 fullShare
  have ho : (oLoc d ↦{fullShare} f : sProp 𝕄) = bigSep Finset.univ fun k : Fin 32 => outPts d k f := by
    rw [← pointsTo_biUnion Finset.univ (ℓ := oLoc d) oSet oSet_disjoint, oSet_cover]
  rw [ht, hy, ho, bigSep_tasks (task B d f), ← bigSep_sep', ← bigSep_sep']

end Cert.Proof.Whole

end
-- ==== Proof.NearRuns.lean ====
/-
  The nearest-rows call inside the whole kernel: what its three kinds of grid point share (the windows' blocks, where
  the branches fall, where the result's window is idle), over the whole kernel's ghost state.
-/
module

public import proofs.«01_k».proof.Proof.WholeSetup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.KernelIdeal Cert.KernelIdeal.Gen
open Cert.Proof.Whole (UU)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The host operation before the nearest-rows call: the queries transposed. -/
abbrev hostOps0 : List (HloOp τ sig (Elt F)) :=
  [StableHlo.unary main_arg1 main_v0 ((transpose S32x1024 [1, 0] · transposes_S1024x32_S32x1024_1_0) : (⟨S1024x32, .f32⟩ : BufTy).Contents (Elt F) → (⟨S32x1024, .f32⟩ : BufTy).Contents (Elt F))]

/-- What the nearest-rows call finds in core `c`'s buffers. -/
abbrev V (c : Dev nD) (b : Ref sig .tc) : Buf (Elt F) ((c : Thread nD τ).loc b) := StableHlo.after hostOps0 (fun b => m (c, b)) b

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_v2 (c : Dev nD) : V m c main_v2 = m ((c : Thread nD τ).loc main_v2) :=
  StableHlo.after_of_forall_not_mem (b := Proc.devRef .tc main_v2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) (HIx 1) ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 1) ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

abbrev VO0_2 : View sig .tc .vmem S8x1024 .i32 := (Memref.whole cc0_stg2_0 : Memref sig .tc .vmem S8x1024 .i32).view
abbrev ms0_0 (t : Fin cfg0.N) : Memref sig .tc .vmem S2000x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .i32 := win0_2.stage (cfg0.slots t 2)
abbrev hs0_2 (t : Fin cfg0.N) : (ms0_2 t).IsWhole := hstage0_2 ((cfg0.slots t 2).cast nbuf0_2)
abbrev scM0_0 : Memref sig .tc .vmem S8x1024 .f32 := Memref.whole cc0_scratch0
abbrev scM0_1 : Memref sig .tc .vmem S8x1024 .i32 := Memref.whole cc0_scratch1
abbrev VS0_0 : View sig .tc .vmem S8x1024 .f32 := scM0_0.view
abbrev VS0_1 : View sig .tc .vmem S8x1024 .i32 := scM0_1.view

/-- What the call holds beside its windows before the first grid point: its two kept arrays and the generator's
    register, each at anything. -/
def entry (c : Dev nD) : sProp 𝕄 := iprop(Pipeline.scopedRest spec0 c ∗ (∃ r, prngReg c r))

theorem PhiA0_eq (c : Dev nD) :
    (entry (F := F) c : sProp 𝕄)
      = iprop(iprop((∃ d, owns (c : Thread nD τ) scM0_0 fullShare d) ∗ (∃ d, owns (c : Thread nD τ) scM0_1 fullShare d)) ∗ (∃ r, prngReg c r)) := by
  unfold entry; rw [scopedRest0_eq]; simp only [scM0_0, scM0_1, owns_whole]; try rfl

end Cert.KernelIdeal.Near

end
-- ==== Proof.NearRunA.lean ====
/-
  The nearest-rows call at the first grid point, run.
-/
module

public import proofs.«01_k».proof.Proof.NearRuns

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.KernelIdeal Cert.KernelIdeal.Gen
open Cert.Proof.Whole (UU)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)
set_option maxHeartbeats 1000000 in
/-- The stores of the first grid point, found by running it, and that it runs. -/
noncomputable def kernelRun0_A (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) :
    Σ' (L2 : List (View.Piece (Elt F) S8x1024 .i32)), Σ' (LS0 : List (View.Piece (Elt F) S8x1024 .f32)), { LS1 : List (View.Piece (Elt F) S8x1024 .i32) //
      ∀ (xi2 : Vec F S8x1024 .i32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_body i arg1 harg1 arg2 harg2 arg3 harg3 arg4 harg4 arg5 harg5) K } := by
  refine ⟨[], ?_, ?_, fun xi2 E K => ?run⟩
  case run =>
    simp only [cc0_body_eq_skeleton]; unfold cc0_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Near

end
-- ==== Proof.NearRunB.lean ====
/-
  The nearest-rows call at a grid point between the first and the last, run.
-/
module

public import proofs.«01_k».proof.Proof.NearRunA

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.KernelIdeal Cert.KernelIdeal.Gen
open Cert.Proof.Whole (UU)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)
set_option maxHeartbeats 1000000 in
/-- The stores of a grid point between the first and the last, found by running it, and that it runs. -/
noncomputable def kernelRun0_B (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : ¬cond0_1 i)
    (x0 : Vec F S2000x32 .f32) (x1 : Vec F S32x1024 .f32) (xs0 : Vec F S8x1024 .f32) (xs1 : Vec F S8x1024 .i32) :
    Σ' (L2 : List (View.Piece (Elt F) S8x1024 .i32)), Σ' (LS0 : List (View.Piece (Elt F) S8x1024 .f32)), { LS1 : List (View.Piece (Elt F) S8x1024 .i32) //
      ∀ (xi2 : Vec F S8x1024 .i32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (arg4.view.loc (c : Thread nD τ) ↦[arg4.view.set]{fullShare} arg4.view.writes (Elt F) (harg4.unread xs0) LS0) ∗ (arg5.view.loc (c : Thread nD τ) ↦[arg5.view.set]{fullShare} arg5.view.writes (Elt F) (harg5.unread xs1) LS1)) -∗ K ⟨⟩))
          ⊢ wp frame (wpE (defs₀ (F := F)) Variants.none c none) E (cc0_body i arg1 harg1 arg2 harg2 arg3 harg3 arg4 harg4 arg5 harg5) K } := by
  refine ⟨[], ?_, ?_, fun xi2 E K => ?run⟩
  case run =>
    simp only [cc0_body_eq_skeleton]; unfold cc0_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexact HS0
    iexact HS1

end Cert.KernelIdeal.Near

end
-- ==== Proof.NearRunC.lean ====
/-
  The nearest-rows call at the last grid point, run.
-/
module

public import proofs.«01_k».proof.Proof.NearRunB

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.KernelIdeal Cert.KernelIdeal.Gen
open Cert.Proof.Whole (UU)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)
set_option maxHeartbeats 1000000 in
/-- The stores of the last grid point, found by running it, and that it runs. -/
noncomputable def kernelRun0_C (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : cond0_1 i)
    (x0 : Vec F S2000x32 .f32) (x1 : Vec F S32x1024 .f32) (xs0 : Vec F S8x1024 .f32) (xs1 : Vec F S8x1024 .i32) :
    Σ' (L2 : List (View.Piece (Elt F) S8x1024 .i32)), Σ' (LS0 : List (View.Piece (Elt F) S8x1024 .f32)), { LS1 : List (View.Piece (Elt F) S8x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (arg4.view.loc (c : Thread nD τ) ↦[arg4.view.set]{fullShare} arg4.view.writes (Elt F) (harg4.unread xs0) LS0) ∗ (arg5.view.loc (c : Thread nD τ) ↦[arg5.view.set]{fullShare} arg5.view.writes (Elt F) (harg5.unread xs1) LS1)) -∗ K ⟨⟩))
          ⊢ wp frame (wpE (defs₀ (F := F)) Variants.none c none) E (cc0_body i arg1 harg1 arg2 harg2 arg3 harg3 arg4 harg4 arg5 harg5) K } := by
  refine ⟨?_, ?_, ?_, fun E K => ?run⟩
  case run =>
    simp only [cc0_body_eq_skeleton]; unfold cc0_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexact HS0
    iexact HS1

end Cert.KernelIdeal.Near

end
-- ==== Proof.NearFrame.lean ====
/-
  The nearest-rows call inside the whole kernel: what its result and its two kept arrays hold after each grid point,
  and that each point carries them on. The core owes the SparseCores their start signals throughout.
-/
module

public import proofs.«01_k».proof.Proof.NearRunC

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.SparseCore (T)
open Cert.KernelIdeal Cert.KernelIdeal.Gen
open Cert.Proof.Whole (UU K)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)
def out0_A_2 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) : Vec F S8x1024 .i32 :=
  VO0_2.read (Elt F) (VO0_2.writes (Elt F) VO0_2.junk (kernelRun0_A c i arg1 harg1 arg2 harg2 arg3 harg3 arg4 harg4 arg5 harg5 hc0 hc1 x0 x1).1)

theorem scover0_A_0 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) (y : S8x1024.Idx) :
    ∃ pc ∈ (kernelRun0_A c i arg1 harg1 arg2 harg2 arg3 harg3 arg4 harg4 arg5 harg5 hc0 hc1 x0 x1).2.1, y ∈ pc.1.set :=
  View.cover_of_wholeMem (kernelRun0_A c i arg1 harg1 arg2 harg2 arg3 harg3 arg4 harg4 arg5 harg5 hc0 hc1 x0 x1).2.1 (by sl_whole_mem) y

def sout0_A_0 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) : Vec F S8x1024 .f32 :=
  VS0_0.read (Elt F) (VS0_0.writes (Elt F) VS0_0.junk (kernelRun0_A c i arg1 harg1 arg2 harg2 arg3 harg3 arg4 harg4 arg5 harg5 hc0 hc1 x0 x1).2.1)

theorem scover0_A_1 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) (y : S8x1024.Idx) :
    ∃ pc ∈ (kernelRun0_A c i arg1 harg1 arg2 harg2 arg3 harg3 arg4 harg4 arg5 harg5 hc0 hc1 x0 x1).2.2.1, y ∈ pc.1.set :=
  View.cover_of_wholeMem (kernelRun0_A c i arg1 harg1 arg2 harg2 arg3 harg3 arg4 harg4 arg5 harg5 hc0 hc1 x0 x1).2.2.1 (by sl_whole_mem) y

def sout0_A_1 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : cond0_0 i) (hc1 : ¬cond0_1 i)
    (x0 : Vec F S2000x32 .f32) (x1 : Vec F S32x1024 .f32) : Vec F S8x1024 .i32 :=
  VS0_1.read (Elt F) (VS0_1.writes (Elt F) VS0_1.junk (kernelRun0_A c i arg1 harg1 arg2 harg2 arg3 harg3 arg4 harg4 arg5 harg5 hc0 hc1 x0 x1).2.2.1)

def out0_B_2 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : ¬cond0_1 i)
    (x0 : Vec F S2000x32 .f32) (x1 : Vec F S32x1024 .f32) (xs0 : Vec F S8x1024 .f32) (xs1 : Vec F S8x1024 .i32) : Vec F S8x1024 .i32 :=
  VO0_2.read (Elt F) (VO0_2.writes (Elt F) VO0_2.junk (kernelRun0_B c i arg1 harg1 arg2 harg2 arg3 harg3 arg4 harg4 arg5 harg5 hc0 hc1 x0 x1 xs0 xs1).1)

def sout0_B_0 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : ¬cond0_1 i)
    (x0 : Vec F S2000x32 .f32) (x1 : Vec F S32x1024 .f32) (xs0 : Vec F S8x1024 .f32) (xs1 : Vec F S8x1024 .i32) : Vec F S8x1024 .f32 :=
  arg4.view.read (Elt F) (arg4.view.writes (Elt F) (harg4.unread xs0) (kernelRun0_B c i arg1 harg1 arg2 harg2 arg3 harg3 arg4 harg4 arg5 harg5 hc0 hc1 x0 x1 xs0 xs1).2.1)

def sout0_B_1 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : ¬cond0_1 i)
    (x0 : Vec F S2000x32 .f32) (x1 : Vec F S32x1024 .f32) (xs0 : Vec F S8x1024 .f32) (xs1 : Vec F S8x1024 .i32) : Vec F S8x1024 .i32 :=
  arg5.view.read (Elt F) (arg5.view.writes (Elt F) (harg5.unread xs1) (kernelRun0_B c i arg1 harg1 arg2 harg2 arg3 harg3 arg4 harg4 arg5 harg5 hc0 hc1 x0 x1 xs0 xs1).2.2.1)

theorem cover0_C_2 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : cond0_1 i)
    (x0 : Vec F S2000x32 .f32) (x1 : Vec F S32x1024 .f32) (xs0 : Vec F S8x1024 .f32) (xs1 : Vec F S8x1024 .i32) (y : S8x1024.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S8x1024.size (by sl_kernel_rfl) y

def out0_C_2 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : cond0_1 i)
    (x0 : Vec F S2000x32 .f32) (x1 : Vec F S32x1024 .f32) (xs0 : Vec F S8x1024 .f32) (xs1 : Vec F S8x1024 .i32) : Vec F S8x1024 .i32 :=
  VO0_2.read (Elt F) (VO0_2.writes (Elt F) VO0_2.junk (kernelRun0_C c i arg1 harg1 arg2 harg2 arg3 harg3 arg4 harg4 arg5 harg5 hc0 hc1 x0 x1 xs0 xs1).1)

def sout0_C_0 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : cond0_1 i)
    (x0 : Vec F S2000x32 .f32) (x1 : Vec F S32x1024 .f32) (xs0 : Vec F S8x1024 .f32) (xs1 : Vec F S8x1024 .i32) : Vec F S8x1024 .f32 :=
  arg4.view.read (Elt F) (arg4.view.writes (Elt F) (harg4.unread xs0) (kernelRun0_C c i arg1 harg1 arg2 harg2 arg3 harg3 arg4 harg4 arg5 harg5 hc0 hc1 x0 x1 xs0 xs1).2.1)

def sout0_C_1 (c : Dev nD) (i : grid0.Coords) (arg1 : Memref sig .tc .vmem S2000x32 .f32) (harg1 : arg1.IsWhole) (arg2 : Memref sig .tc .vmem S32x1024 .f32) (harg2 : arg2.IsWhole) (arg3 : Memref sig .tc .vmem S8x1024 .i32) (harg3 : arg3.IsWhole) (arg4 : Memref sig .tc .vmem S8x1024 .f32) (harg4 : arg4.IsWhole) (arg5 : Memref sig .tc .vmem S8x1024 .i32) (harg5 : arg5.IsWhole) (hc0 : ¬cond0_0 i) (hc1 : cond0_1 i)
    (x0 : Vec F S2000x32 .f32) (x1 : Vec F S32x1024 .f32) (xs0 : Vec F S8x1024 .f32) (xs1 : Vec F S8x1024 .i32) : Vec F S8x1024 .i32 :=
  arg5.view.read (Elt F) (arg5.view.writes (Elt F) (harg5.unread xs1) (kernelRun0_C c i arg1 harg1 arg2 harg2 arg3 harg3 arg4 harg4 arg5 harg5 hc0 hc1 x0 x1 xs0 xs1).2.2.1)

def outsAt0 (c : Dev nD) : (n : ℕ) → n < cfg0.N → Vec F S8x1024 .i32 × Vec F S8x1024 .f32 × Vec F S8x1024 .i32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 50 = 0 then
      if h1 : (n + 1) % 50 = 49 then
        False.elim (by have hN : n + 1 < 50 := lt_of_lt_of_eq hn (show cfg0.N = 50 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 50 = 0) (h1 : ¬t.val % 50 = 49) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 50 = 0) (h1 : t.val % 50 = 49) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => entry (F := F) c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = entry (F := F) c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

def dats (_ : Fin 1) (c : Dev nD) : Dat τ (Elt F) (HIx 1) ℕ UU ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := (K (F := F)).Otc c 0
  recorded _ := {p | (K (F := F)).lev (T c, p.1) p.2 ≤ 0}

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt none t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt none t.succ = (dats m 0 c).owesAt none t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _)
          iexact Hg
        isplitl [Ho]; · iexact Ho
        isplitl [H0]; · iexact H0
        isplitl [H1]; · iexact H1
        iexists _; iexact H2
      · exfalso; have hN : t.val < 50 := lt_of_lt_of_eq t.isLt (show cfg0.N = 50 from N_0); omega
  · by_cases h1 : t.val % 50 = 49
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1)], after0_2]
      by_cases hz : t.val = 0
      · exfalso; have hN : t.val < 50 := lt_of_lt_of_eq t.isLt (show cfg0.N = 50 from N_0); omega
      · rw [PhiS_castSucc m c t, PhiS_pos m c _ _ hz]
        rw [outsAt0_C m c t h0 h1]
        unfold out0_C_2 sout0_C_0 sout0_C_1; (try dsimp only)
        iintro ⟨⟨⟨HS0, HS1⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk m c 0 t) (iblk m c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 50 := lt_of_lt_of_eq t.isLt (show cfg0.N = 50 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk m c 0 t) (iblk m c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        iexists _; iexact H2

theorem defs₀_row (t : Fin cfg0.N) :
    defs₀ (F := F) .tc cfg0.body (cfg0.bodyArgs t (cfg0.slots t)) = bodyAt0 t := by
  rfl

theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

theorem hin (c : Dev nD) : entry (F := F) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ entry (F := F) c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ entry (F := F) c :=
  Phi_out m c _ (by rw [Fin.val_last]; have : cfg0.N = 50 := N_0; omega)
end Cert.KernelIdeal.Near

end
-- ==== Proof.WholeRegion.lean ====
/-
  The nearest-rows call in the whole kernel's @main: entered with every array as the launch found it but the transposed
  queries, left with its result in place; the core's start signals to the SparseCores stay owed across it.
-/
module

public import proofs.«01_k».proof.Proof.NearFrame
public import Idealize.ShloMosaic.Lib.Pipeline.RegionsLoop

@[expose] public section

noncomputable section

namespace Cert.Proof.Whole

open Cert.KernelIdeal Cert.KernelIdeal.Gen

open Idealize.ShloMosaic Idealize.ShloMosaic.TcCoe
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Near (dats)

variable {F : FTy → Type} [FloatOps F] [Named F]

local notation "𝕄" => MT nD τ sig (HIx 1) (Elt F) ℕ UU ℕ

variable (m : (ℓ : Loc nD τ sig) → Buf (Elt F) ℓ)

/-- No prefetched table. -/
abbrev adm : (p : Fin 1) → (pcfgs (F := F) p).Adm := fun p => (cfgs p).toPCfg_adm

/-- What the call leaves as the kept rows' numbers. -/
def kept (d : Dev nD) : Buf (Elt F) (tLoc d) := (dats m 0 d).arrAt 2 cfg0.N

/-- The arrays after the call. -/
def Vp (c : Dev nD) : (b : Ref sig .tc) → Buf (Elt F) ((c : Thread nD τ).loc b) := Function.update (Cert.KernelIdeal.Near.V m c) main_v1 (kept m c)

theorem Vp_v1 (c : Dev nD) : Vp m c main_v1 = kept m c := Function.update_self _ _ _
theorem Vp_ne (c : Dev nD) (b : Ref sig .tc) (h : b ≠ main_v1) : Vp m c b = Cert.KernelIdeal.Near.V m c b := Function.update_of_ne h _ _

theorem Otc_none (d : Dev nD) (g : GSem nD τ sig) : (K (F := F)).Otc (N := 1) d 0 g none = 0 := by
  by_contra h
  exact absurd (SparseCore.Cfg.lev_of_Otc_pos (K := K (F := F)) (Nat.pos_of_ne_zero h)) (by simp [SparseCore.Cfg.lev])

/-- What the core owes before the SparseCore call. -/
def owesTc (d : Dev nD) : sProp 𝕄 := iprop(∃ W, ⌜(K (F := F)).WBelow (T d) W (8 * 0)⌝ ∗ owes (T d) ((K (F := F)).Otc d 0) W)

set_option backward.isDefEq.respectTransparency.types false in
/-- The call's region. -/
def reg : Pipeline.RegionSeg (pcfgs (F := F)) adm (dats m) none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (Cert.KernelIdeal.Near.body_obligation m c).loose
  hwaits c := Pipeline.cellsWaits_intro (Pipeline.pin (pcfgs (F := F)) adm) (dats m) none 0 c fun w s t =>
    (K (F := F)).mayWait_none _ (Otc_none c)
  pre c := iprop(unscopedBufs c (Cert.KernelIdeal.Near.V m c) ∗ (∃ r, prngReg c r) ∗ owesTc c)
  post c := iprop(unscopedBufs c (Vp m c) ∗ (∃ r, prngReg c r) ∗ owesTc c)
  X c := iprop(∃ r, prngReg c r)
  Y c := iprop(∃ r, prngReg c r)
  Z c := Pipeline.unscopedRest (Ix := HIx 1) (Name := ℕ) (U := UU) (Lvl := ℕ) spec0 c (Cert.KernelIdeal.Near.V m c)
  hentry c := by
    rw [Pipeline.ownSems0_none]
    have hsplit := Pipeline.arrays_of_unscopedBufs (p := 0) (pcfgs (F := F)) adm (dats m) launch0.win launch0.arr_whole c
      ((dats m 0 c).share_full fun _ => rfl) (Cert.KernelIdeal.Near.V m c) (Cert.KernelIdeal.Near.A_eq m c)
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc Pipeline.Dat.owesAt Pipeline.owesWithin
      icases HO with ⟨%W, %hW, HO⟩; iexists W
      isplitr; · ipureintro; exact fun p hp => Or.inl (hW p hp)
      iexact HO
    isplitl [Hg] <;> iassumption
  hin c := by
    have h (A : sProp 𝕄) : iprop((∃ r, prngReg c r) ∗ A ∗ Pipeline.scopedRest spec0 c) ⊢ (Cert.KernelIdeal.Near.entry (F := F) c : sProp 𝕄) := by
      unfold Cert.KernelIdeal.Near.entry
      iintro ⟨Hg, -, Hr⟩
      isplitl [Hr] <;> iassumption
    exact (h _).trans (Cert.KernelIdeal.Near.hin m c)
  hout c := by
    rw [Pipeline.ownSems0_none]
    refine (Cert.KernelIdeal.Near.hout m c).trans ?_
    unfold Cert.KernelIdeal.Near.entry
    iintro ⟨Hr, Hg⟩
    isplitl [Hg]; · iexact Hg
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (dats m) ((dats m 0 c).share_full fun _ => rfl) (Cert.KernelIdeal.Near.V m c) (Vp m c) ((dats m 0 c).arrAt · cfg0.N)
      (fun w => by
        fin_cases w
        · exact ((dats m 0 c).arrAt_in 0 rfl _).trans ((Cert.KernelIdeal.Near.A_eq m c 0).trans (Vp_ne m c _ (by decide)).symm)
        · exact ((dats m 0 c).arrAt_in 1 rfl _).trans ((Cert.KernelIdeal.Near.A_eq m c 1).trans (Vp_ne m c _ (by decide)).symm)
        · exact (Vp_v1 m c).symm)
      (fun b hb => Vp_ne m c b fun h => hb (h ▸ Finset.mem_image.mpr ⟨2, Finset.mem_univ _, rfl⟩))
    iintro ⟨Ha, HO, Hg, Hrest⟩
    imodintro
    isplitl [Ha Hrest]
    · iapply hjoin; isplitl [Ha] <;> iassumption
    isplitl [Hg]; · iexact Hg
    unfold owesTc Pipeline.Dat.owesAt Pipeline.owesWithin
    icases HO with ⟨%W, %hW, HO⟩; iexists W
    isplitr
    · ipureintro
      intro p hp
      rcases hW hp with h | h
      · exact h
      · obtain ⟨w, s, rfl⟩ := h; exact Nat.le_refl 0
    iexact HO

theorem reg_pre (c : Dev nD) : (reg m).pre c = iprop(unscopedBufs c (Cert.KernelIdeal.Near.V m c) ∗ (∃ r, prngReg c r) ∗ owesTc c) := rfl
theorem reg_post (c : Dev nD) : (reg m).post c = iprop(unscopedBufs c (Vp m c) ∗ (∃ r, prngReg c r) ∗ owesTc c) := rfl

end Cert.Proof.Whole

end
-- ==== Proof.WholeRun.lean ====
/-
  The whole kernel's program run from any memory whose kept numbers are row numbers: it ends with the arguments as they
  were, every semaphore at zero and, for each query, the winner of the vote of the labels of the rows the first call kept.
-/
module

public import proofs.«01_k».proof.Proof.WholeLaunch
public import proofs.«01_k».proof.Proof.WholeRegion

@[expose] public section

noncomputable section

namespace Cert.Proof.Whole

open Cert.KernelIdeal Cert.KernelIdeal.Gen

open Idealize.ShloMosaic Idealize.ShloMosaic.TcCoe
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Near (dats)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What the vote starts from: the numbers the first call kept, the labels, the winners' array. -/
abbrev B₀ : Data F := ⟨fun d => kept m d, fun d => m (yLoc d), fun d => m (oLoc d)⟩

/-! ## The launch element of the ghost state -/

/-- The rounds of the first call's staging cells: the second of the three factors. -/
def EP : Emb UP 𝕄 := (Emb.inl : Emb UP (UP × Counters)).trans ((Emb.inr : Emb (UP × Counters) UU).trans
  (uEmb (nD := nD) (τ := τ) (sig := sig) (Ix := HIx 1) (Val := Elt F) (Name := ℕ) (U := UU) (Lvl := ℕ)).toEmb)

instance EP_landsIn : (EP (F := F)).LandsIn (upEmb : UEmb _ 𝕄) := by unfold EP; infer_instance

theorem phinj : Function.Injective (Pipeline.cellOf (nD := nD) (τ := τ) (Pipeline.pin (pcfgs (F := F)) adm)) := cellOf_inj

/-- The first call's cells and tokens at their start. -/
def u₁ : UP := initOf (Pipeline.cells (Pipeline.pin (pcfgs (F := F)) adm) (phinj (F := F))) (Pipeline.launchToks (Pipeline.pin (pcfgs (F := F)) adm) (phinj (F := F)))

def u₀ : UU := (initOf (K (F := F)).hsCells (K (F := F)).hsToks, (u₁ (F := F), 1))

theorem own_halves (a : UH) (b : UP) : (ownU ((a, (b, 1)) : UU) : sProp 𝕄) ⊢ iprop(BI.own (EH a) ∗ BI.own (EP b)) :=
  (ownU_pair a ((b, 1) : UP × Counters)).trans (Entails.of_eq rfl)

/-- What core `d` holds of the first call's ghost state. -/
def G (d : Dev nD) : sProp 𝕄 := iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ (B : Data F) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P B).x q thr) := by
  unfold u₀
  iintro Hu
  ihave H := (own_halves (F := F) (initOf (K (F := F)).hsCells (K (F := F)).hsToks) (u₁ (F := F))) $$ Hu
  icases H with ⟨HH, HP⟩
  unfold u₁
  imod (Pipeline.fund_ghost (Pipeline.pin (pcfgs (F := F)) adm) (EP (F := F)) (phinj (F := F))) $$ HP with ⟨Hg, Ht⟩
  imodintro
  isplitl [HH]; · iexact HH
  isplitl [Hg Ht]
  · unfold G
    rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  rw [show (bigSep Finset.univ fun thr : Thread nD τ => bigSep Finset.univ fun q : Fin 1 => (P B).x q thr) = bigSep Finset.univ fun _ => iprop(emp) from
    bigSep_congr fun _ _ => bigSep_univ_of_subsingleton (0 : Fin 1), bigSep_emp']
  iempintro

/-! ## @main on the TensorCore -/

/-- @main's arrays. -/
abbrev arrs : Finset (DevRef τ sig) := Pipeline.ucRefs τ sig

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ (tLoc d ↦{fullShare} W main_v1) ∗ (yLoc d ↦{fullShare} W main_arg2) ∗ oLoc d ↦{fullShare} W main_v2) := by
  unfold unscopedBufs
  rw [show (Finset.univ.filter fun b : Ref sig .tc => ¬ b.isScoped) = {main_arg0, main_arg1, main_v0, main_v1, main_arg2, main_v2} by decide,
    SparseCore.bigSep_insert' (by decide), SparseCore.bigSep_insert' (by decide), SparseCore.bigSep_insert' (by decide),
    SparseCore.bigSep_insert' (by decide), SparseCore.bigSep_insert' (by decide), bigSep_singleton]

/-- @main's arrays after the first call. -/
theorem arrays_after (d : Dev nD) : (unscopedBufs d (Vp m d) : sProp 𝕄)
    = iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_v0 ↦{fullShare} Vp m d main_v0) ∗ (tLoc d ↦{fullShare} kept m d) ∗ (yLoc d ↦{fullShare} m (yLoc d)) ∗ oLoc d ↦{fullShare} m (oLoc d)) := by
  rw [unscopedBufs_eq, Vp_v1, Vp_ne m d main_arg0 (by decide), Vp_ne m d main_arg1 (by decide), Vp_ne m d main_arg2 (by decide), Vp_ne m d main_v2 (by decide),
    Cert.KernelIdeal.Near.V_main_arg0, Cert.KernelIdeal.Near.V_main_arg1, Cert.KernelIdeal.Near.V_main_arg2, Cert.KernelIdeal.Near.V_main_v2]

theorem st0_eq (B : Data F) (d : Dev nD) : (bigSep Finset.univ fun c : Fin ((K (F := F)).nCore 0) => (P B).st 0 d c)
    = (iprop((tLoc d ↦{fullShare} B.top d) ∗ (yLoc d ↦{fullShare} B.lab d) ∗ oLoc d ↦{fullShare} B.out d) : sProp 𝕄) := arrays_tasks B d (B.out d)
theorem dn0_eq (B : Data F) (d : Dev nD) : (bigSep Finset.univ fun c : Fin ((K (F := F)).nCore 0) => (P B).dn 0 d c)
    = (iprop((tLoc d ↦{fullShare} B.top d) ∗ (yLoc d ↦{fullShare} B.lab d) ∗ oLoc d ↦{fullShare} B.ans d) : sProp 𝕄) := arrays_tasks B d (B.ans d)

abbrev FIN (B : Data F) (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (yLoc d ↦{fullShare} B.lab d) ∗ oLoc d ↦{fullShare} B.ans d)

/-- The first call's region, in the program without the SparseCore call. -/
def nearCall : Prog (TpuEff nD τ sig (Elt F) (ΛP (F := F)) .tc) PUnit := .op (.customCall (Pipeline.entry 0) ()) .ret

theorem lift_nearCall : (Prog.lift (.customCall (SparseCore.inner (Pipeline.entry 0)) ())
    : Prog (TpuEff nD τ sig (Elt F) (SparseCore.Sig (ΛP (F := F)) 1) .tc) PUnit) = SparseCore.liftProg nearCall := rfl

/-- The first call in the program without the SparseCore call, -/
theorem near_region [∀ e, Nonempty (Elt F e)] (d : Dev nD) (Q : PUnit → sProp 𝕄) :
    iprop((iprop(boundary (d.tc : Thread nD τ) ∗ unscopedBufs d (Vp m d) ∗ (∃ r, prngReg d r) ∗ owesTc (F := F) d) -∗ Q ⟨⟩)
        ∗ boundary (d.tc : Thread nD τ) ∗ (unscopedBufs d (Cert.KernelIdeal.Near.V m d) ∗ (∃ r, prngReg d r) ∗ owesTc (F := F) d)
        ∗ levAts (K (F := F)).L (K (F := F)).lev ∗ G (F := F) d)
      ⊢ wp frame (wpE (D (F := F)) 𝒱 (d.tc : Thread nD τ) none) Set.univ nearCall Q := by
  refine BI.BIBase.Entails.trans ?_ (Pipeline.RegionSeg.wp (pcfgs (F := F)) adm (dats m) none (phinj (F := F)) (EP (F := F)) defs₀ Variants.none
    (K (F := F)).L (K (F := F)).lev (reg m) d none (fun _ h => nomatch h) .ret Q)
  rw [reg_pre, reg_post]
  unfold G
  iintro ⟨HQ, Hb, Hpre, Hl, Hg, Ht⟩
  isplitl [HQ]
  · iintro ⟨Hb, Hpost⟩
    rw [wp_ret]
    imodintro
    iapply HQ
    isplitl [Hb]; · iexact Hb
    iexact Hpost
  isplitl [Hb]; · iexact Hb
  isplitl [Hpre]; · iexact Hpre
  isplitl [Hl]; · iexact Hl
  isplitl [Hg] <;> iassumption

/-- and in the program with it. -/
theorem near_step [∀ e, Nonempty (Elt F e)] (d : Dev nD) (Q : PUnit → sProp 𝕄) :
    iprop((iprop(boundary (SparseCore.T d) ∗ unscopedBufs d (Vp m d) ∗ (∃ r, prngReg d r) ∗ owesTc (F := F) d) -∗ Q ⟨⟩)
        ∗ boundary (SparseCore.T d) ∗ (unscopedBufs d (Cert.KernelIdeal.Near.V m d) ∗ (∃ r, prngReg d r) ∗ owesTc (F := F) d)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [lift_nearCall]
  exact (near_region m d Q).trans ((K (F := F)).wp_liftProg (D (F := F)) 𝒱 (SparseCore.T d) Set.univ none nearCall Q)

/-- The transpose of the queries. -/
abbrev op0 : HloOp τ sig (Elt F) := StableHlo.unary main_arg1 main_v0 ((transpose S32x1024 [1, 0] · transposes_S1024x32_S32x1024_1_0) : (⟨S1024x32, .f32⟩ : BufTy).Contents (Elt F) → (⟨S32x1024, .f32⟩ : BufTy).Contents (Elt F))

theorem op0_arrs : (op0 (F := F)).bufs ⊆ arrs := Pipeline.sub_ucRefs _ (StableHlo.unary_bufs_sub ..)

theorem held_start (d : Dev nD) : (unscopedBufs d (fun b => m ((SparseCore.T d).loc b)) : sProp 𝕄) = StableHlo.held (SparseCore.T d) arrs (fun b => m (d, b)) :=
  Pipeline.unscopedBufs_held d (fun b => m (d, b))

theorem V_eq (d : Dev nD) : Cert.KernelIdeal.Near.V m d = fun b : Ref sig .tc => (op0 (F := F)).result (fun b => m (d, b)) b := by
  funext b
  show StableHlo.after [op0 (F := F)] (fun b => m (d, b)) b = _
  rw [StableHlo.after_cons, StableHlo.after_nil]

theorem held_op0 (d : Dev nD) : (StableHlo.held (SparseCore.T d) arrs ((op0 (F := F)).result fun b => m (d, b)) : sProp 𝕄) = unscopedBufs d (Cert.KernelIdeal.Near.V m d) := by
  rw [V_eq]; exact (Pipeline.unscopedBufs_held d _).symm

/-- What else the core holds before the SparseCore call: its places in the handshakes. -/
def places (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : ((K (F := F)).tcSt EH d 0 : sProp 𝕄) = iprop(owesTc (F := F) d ∗ places (F := F) d) := rfl

theorem hmain [∀ e, Nonempty (Elt F e)] (κ : GSem nD τ sig → ℕ) (d : Dev nD) :
    iprop((K (F := F)).ctx EH (P (B₀ m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (B₀ m) d ∗ (K (F := F)).tcEnd d) := by
  unfold SparseCore.Cfg.tcRes SparseCore.Cfg.tcEnd
  rw [held_start]
  simp only [main, wp_bind, wp_pure]
  iintro ⟨#Hctx, Hst, ⟨Hb, Hu, Hts, Hp⟩, HG⟩
  iapply (StableHlo.wp_hlo_within 𝒱 (SparseCore.T d) none Set.univ (op := op0 (F := F)) (S := arrs) op0_arrs (V := fun b => m (d, b))) $$ [Hb Hu]
  · isplitl [Hb] <;> iassumption
  iintro ⟨Hb, Hu⟩
  ihave Hu' := (Entails.of_eq (held_op0 m d)) $$ Hu
  rw [wp_ret]
  imodintro
  ihave Hst' := (Entails.of_eq (tcSt_eq (F := F) d)) $$ Hst
  icases Hst' with ⟨HO, Hat⟩
  ihave Hl := ((K (F := F)).ctx_levAts (EH := EH) (P := P (B₀ m)) κ) $$ Hctx
  iapply (near_step m d)
  isplitl [Hat Hts]
  · iintro ⟨Hb, Hu, -, HO⟩
    ihave Hu' := (Entails.of_eq (arrays_after m d)) $$ Hu
    icases Hu' with ⟨Hx, Hq, -, Hi, Hy, Ho⟩
    iapply ((K (F := F)).wp_run (D (F := F)) 𝒱 (EH := EH) (P := P (B₀ m)) κ d 0) $$ [HO Hat Hi Hx Hq Hy Ho Hb Hts]
    isplitr; · iexact Hctx
    isplitl [HO Hat]
    · iapply (Entails.of_eq (tcSt_eq (F := F) d).symm)
      isplitl [HO] <;> iassumption
    isplitl [Hi Hy Ho]
    · rw [st0_eq]
      isplitl [Hi]; · iexact Hi
      isplitl [Hy]; · iexact Hy
      iexact Ho
    iintro ⟨Hst, Hdn⟩
    ihave Hdn' := (Entails.of_eq (dn0_eq (B₀ m) d)) $$ Hdn
    icases Hdn' with ⟨-, Hy, Ho⟩
    imodintro
    isplitl [Hst]; · iexact Hst
    isplitr [Hb Hts]
    · isplitl [Hx]; · iexact Hx
      isplitl [Hq]; · iexact Hq
      isplitl [Hy]; · iexact Hy
      iexact Ho
    isplitl [Hb] <;> iassumption
  isplitl [Hb]; · iexact Hb
  isplitl [Hu' Hp HO]
  · isplitl [Hu']; · iexact Hu'
    isplitl [Hp]; · iexists ρ d; iexact Hp
    iexact HO
  isplitl [Hl]; · iexact Hl
  iexact HG

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (yLoc d) = m (yLoc d) ∧ s'.mem.mem (oLoc d) = (B₀ m).ans d

theorem agree_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m (B₀ m) d ∗ SI s') ⊢ (⌜fq m d s'⌝ : sProp 𝕄) := by
  iintro ⟨⟨Hx, Hq, Hy, Ho⟩, HSI⟩
  ihave H := (agree_whole s' ((SparseCore.T d).loc main_arg0) (m ((SparseCore.T d).loc main_arg0))) $$ [HSI Hx]
  · isplitl [HSI] <;> iassumption
  icases H with ⟨%h1, HSI⟩
  ihave H := (agree_whole s' ((SparseCore.T d).loc main_arg1) (m ((SparseCore.T d).loc main_arg1))) $$ [HSI Hq]
  · isplitl [HSI] <;> iassumption
  icases H with ⟨%h2, HSI⟩
  ihave H := (agree_whole s' (yLoc d) (m (yLoc d))) $$ [HSI Hy]
  · isplitl [HSI] <;> iassumption
  icases H with ⟨%h3, HSI⟩
  ihave H := (agree_whole s' (oLoc d) ((B₀ m).ans d)) $$ [HSI Ho]
  · isplitl [HSI] <;> iassumption
  icases H with ⟨%h4, -⟩
  ipureintro; exact ⟨h1, h2, h3, h4⟩

/-! ## The program's run -/

def QC : PUnit × MemSt nD τ sig (Elt F) → Prop := fun r => (∀ d : Dev nD,
  r.2.mem ((SparseCore.T d).loc main_arg0) = m ((SparseCore.T d).loc main_arg0) ∧ r.2.mem ((SparseCore.T d).loc main_arg1) = m ((SparseCore.T d).loc main_arg1)
    ∧ r.2.mem (yLoc d) = m (yLoc d) ∧ r.2.mem (oLoc d) = (B₀ m).ans d) ∧ r.2.sem = fun _ => 0

theorem run_main [∀ e, Nonempty (Elt F e)] (hok : (B₀ m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (B₀ m)) (A := ∅) facts v₀
    (fun q hq => match q with | 0 => nomatch hq)
    (fun q _ => match q with | 0 => tileObl (B₀ m) facts hok)
    (fun q _ => match q with | 0 => SparseCore.Cfg.VecSplit.of_plain (vecSplit (B₀ m)))
    m ρ main (G (F := F)) (FIN m (B₀ m)) (u₀ (F := F)) (sep_elim_left.trans (hu₀ (B₀ m))) (hmain m ρ) (fq m) (hfin m) (QC m) (fun _ h hz => ⟨h, hz⟩)

end Cert.Proof.Whole

end
-- ==== Proof.Ranges.lean ====
/-
The row numbers the nearest-rows kernel keeps are rows of the table, whatever the distances are: a round takes an entry
at the least distance, and where that is +∞ every row of the tile is at it.
-/
module

public import proofs.«01_k».proof.Proof.Steps

@[expose] public section

noncomputable section

namespace Cert.Proof.Near

open Idealize.ShloMosaic Idealize.ShloMosaic.ValueIdx

/-- A row number of the table. -/
def Valid (w : BitVec 32) : Prop := w.toNat < 100000

theorem valid_iff (w : BitVec 32) : Valid w ↔ 0 ≤ w.toInt ∧ w.toInt < 100000 := by
  unfold Valid
  have := w.isLt
  rw [BitVec.toInt_eq_toNat_cond]
  split <;> omega

/-- A kept entry is a row of the table, or no row and at distance +∞. -/
def Sound (d : EReal) (w : BitVec 32) : Prop := (w = 2147483647#32 ∧ d = ⊤) ∨ Valid w

theorem none_toInt : (2147483647#32).toInt = 2147483647 := by decide

theorem Sound.nonneg {d : EReal} {w : BitVec 32} (h : Sound d w) : 0 ≤ w.toInt := by
  rcases h with ⟨rfl, -⟩ | h
  · rw [none_toInt]; omega
  · exact ((valid_iff w).mp h).1

theorem Sound.drop {d : EReal} {w p : BitVec 32} (h : Sound d w) : Sound (if w = p then ⊤ else d) w := by
  refine h.imp (fun ⟨e, e'⟩ => ⟨e, ?_⟩) id
  split
  · rfl
  · exact e'

variable {n n' : ℕ}

/-- A round over a tile of rows and sound kept entries takes a row of the table. -/
theorem round_valid {d : Fin (n + 1) → EReal} {w : Fin (n + 1) → BitVec 32} {d' : Fin n' → EReal} {w' : Fin n' → BitVec 32}
    (h : ∀ r, Valid (w r)) (h' : ∀ r, Sound (d' r) (w' r)) {m m1 m2 : EReal} {u1 u2 : BitVec 32}
    (hm : m = min m1 m2) (le1 : ∀ r, m1 ≤ d r) (mem1 : m1 = ⊤ ∨ ∃ r, m1 = d r)
    (mem2 : m2 = ⊤ ∨ ∃ r, m2 = d' r) (wle1 : ∀ r, d r = m → u1.toInt ≤ (w r).toInt)
    (wmem1 : u1 = 2147483647#32 ∨ ∃ r, d r = m ∧ u1 = w r) (wle2 : ∀ r, d' r = m → u2.toInt ≤ (w' r).toInt)
    (wmem2 : u2 = 2147483647#32 ∨ ∃ r, d' r = m ∧ u2 = w' r) : Valid (IntOp.minsi u1 u2) := by
  have atTop : m = ⊤ → ∃ r, d r = m := fun e => by
    refine ⟨0, ?_⟩
    have h1 : m ≤ m1 := hm ▸ min_le_left _ _
    rw [e] at h1 ⊢
    exact top_le_iff.mp (h1.trans (le1 0))
  have found : (∃ r, d r = m) ∨ ∃ r, d' r = m ∧ Valid (w' r) := by
    rcases min_choice m1 m2 with e | e <;> rw [e] at hm
    · rcases mem1 with h1 | ⟨r, h1⟩
      · exact .inl (atTop (hm.trans h1))
      · exact .inl ⟨r, (hm.trans h1).symm⟩
    · rcases mem2 with h1 | ⟨r, h1⟩
      · exact .inl (atTop (hm.trans h1))
      · rcases h' r with ⟨-, h2⟩ | h2
        · exact .inl (atTop (hm.trans (h1.trans h2)))
        · exact .inr ⟨r, (hm.trans h1).symm, h2⟩
  have p1 : 0 ≤ u1.toInt := by
    rcases wmem1 with rfl | ⟨r, -, rfl⟩
    · rw [none_toInt]; omega
    · exact ((valid_iff _).mp (h r)).1
  have p2 : 0 ≤ u2.toInt := by
    rcases wmem2 with rfl | ⟨r, -, rfl⟩
    · rw [none_toInt]; omega
    · exact (h' r).nonneg
  rw [valid_iff, SortNet.toInt_minsi]
  refine ⟨le_min p1 p2, ?_⟩
  rcases found with ⟨r, e⟩ | ⟨r, e, v⟩
  · exact (min_le_left _ _).trans_lt ((wle1 r e).trans_lt ((valid_iff _).mp (h r)).2)
  · exact (min_le_right _ _).trans_lt ((wle2 r e).trans_lt ((valid_iff _).mp v).2)

variable (S : Sides)

theorem first_valid (g : IVec (Blk 2000) 32) (ri : IVec (Blk 8) 32) (d : FVec Ideal (Blk 2000) .f32)
    (rd : FVec Ideal (Blk 8) .f32) (x : Fin 1024) (h : ∀ r : Fin 2000, Valid (g (ix2 r x)))
    (h' : ∀ r : Fin 8, Sound (rd (ix2 r x)) (ri (ix2 r x))) : Valid (first S g ri d rd (ix2 0 x)) := by
  have hm : (least S d rd (ix2 0 x) : EReal)
      = min (minRow S.rt S.cast d (ix2 0 x) : EReal) (minRow S.rk S.cast rd (ix2 0 x)) := by
    unfold least; exact minimumf_apply _ _ _
  have hf : first S g ri d rd (ix2 0 x) = IntOp.minsi (wordRow S.rt S.cast S.bt d g (least S d rd) (ix2 0 x))
      (wordRow S.rk S.cast S.bk rd ri (least S d rd) (ix2 0 x)) := by
    unfold first; exact minsi_apply _ _ _
  rw [hf]
  generalize least S d rd = M at hm ⊢
  exact round_valid (n := 1999) (d := fun r => d (ix2 r x)) (d' := fun r => rd (ix2 r x)) h h' hm (minRow_le _ _ d x)
    (minRow_mem _ _ d x) (minRow_mem _ _ rd x) (wordRow_le _ _ _ d g M x) (wordRow_mem _ _ _ d g M x)
    (wordRow_le _ _ _ rd ri M x) (wordRow_mem _ _ _ rd ri M x)

/-- The kept entries stay sound from round to round. -/
theorem state_sound (g : IVec (Blk 2000) 32) (ri : IVec (Blk 8) 32) (d : FVec Ideal (Blk 2000) .f32)
    (rd : FVec Ideal (Blk 8) .f32) (x : Fin 1024) (h' : ∀ r : Fin 8, Sound (rd (ix2 r x)) (ri (ix2 r x))) (k : ℕ)
    (r : Fin 8) : Sound ((state S g ri d rd k).2 (ix2 r x)) (ri (ix2 r x)) := by
  induction k with
  | zero => exact h' r
  | succ k ih =>
    rw [← state_succ_snd, dropRow_apply]
    exact ih.drop

/-- A tile's first five kept entries are rows of the table. -/
theorem step_valid (g : IVec (Blk 2000) 32) (ri : IVec (Blk 8) 32) (d : FVec Ideal (Blk 2000) .f32)
    (rd : FVec Ideal (Blk 8) .f32) (x : Fin 1024) (h : ∀ r : Fin 2000, Valid (g (ix2 r x)))
    (h' : ∀ r : Fin 8, Sound (rd (ix2 r x)) (ri (ix2 r x))) (j : Fin 8) (hj : j.val < 5) :
    Valid (stepI S g ri d rd (ix2 j x)) := by
  have e : stepI S g ri d rd (ix2 j x)
      = first S g ri (state S g ri d rd j.val).1 (state S g ri d rd j.val).2 (ix2 0 x) := if_pos hj
  rw [e]
  exact first_valid S g ri _ _ x h fun r => state_sound S g ri d rd x h' j.val r

/-- A tile leaves the kept entries sound. -/
theorem step_sound (g : IVec (Blk 2000) 32) (ri : IVec (Blk 8) 32) (d : FVec Ideal (Blk 2000) .f32)
    (rd : FVec Ideal (Blk 8) .f32) (x : Fin 1024) (h : ∀ r : Fin 2000, Valid (g (ix2 r x)))
    (h' : ∀ r : Fin 8, Sound (rd (ix2 r x)) (ri (ix2 r x))) (j : Fin 8) :
    Sound (stepD S g ri d rd (ix2 j x)) (stepI S g ri d rd (ix2 j x)) := by
  by_cases hj : j.val < 5
  · exact .inr (step_valid S g ri d rd x h h' j hj)
  · have e : stepD S g ri d rd (ix2 j x) = rd (ix2 j x) := if_neg hj
    have e' : stepI S g ri d rd (ix2 j x) = ri (ix2 j x) := if_neg hj
    rw [e, e']
    exact h' j

end Cert.Proof.Near
-- ==== Proof.NearTiles.lean ====
/-
The nearest-rows call tile by tile: a tile's distances and row numbers at each place, and, after each tile, the nearest
rows of the tiles so far in the kept arrays.
-/
module

public import proofs.«01_k».proof.Proof.Dists
public import proofs.«01_k».proof.Proof.NearSteps
public import Idealize.ShloMosaic.Lib.Pipeline.Value

@[expose] public section

noncomputable section

namespace Cert.KernelIdeal.Near

open Idealize.ShloMosaic Idealize.ShloMosaic.TcCoe Idealize.ShloMosaic.ValueIdx Idealize.SL.Sem
open Cert.KernelIdeal Cert.KernelIdeal.Gen Cert.Proof.Near

/-! ### One tile's values -/

theorem dot_apply (x : Vec Ideal S2000x32 .f32) (y : Vec Ideal S32x1024 .f32) (r : Fin 2000) (c : Fin 1024) :
    (matmul (F := Ideal) (φ₁ := .f32) (φ₂ := .f32) dot_S2000x32_S32x1024_S2000x1024_1_0_0_1_n_n none x y (constant S2000x1024 .f32 0x00000000#32) (ix2 r c) : EReal)
      = ∑ k : Fin 32, (x (ix2 r k) : EReal) * y (ix2 k c) := by
  refine (Ideal.matmul_constant_zero_apply _ _ _ _ _).trans ?_
  refine (Equiv.sum_comp (contrEquiv1 dot_S2000x32_S32x1024_S2000x1024_1_0_0_1_n_n 32 rfl rfl).symm _).symm.trans
    (Finset.sum_congr rfl fun k _ => ?_)
  have el : dot_S2000x32_S32x1024_S2000x1024_1_0_0_1_n_n.lhsIdx (ix2 r c)
      ((contrEquiv1 dot_S2000x32_S32x1024_S2000x1024_1_0_0_1_n_n 32 rfl rfl).symm k) = ix2 r k := by
    funext a; fin_cases a <;> rfl
  have er : dot_S2000x32_S32x1024_S2000x1024_1_0_0_1_n_n.rhsIdx (ix2 r c)
      ((contrEquiv1 dot_S2000x32_S32x1024_S2000x1024_1_0_0_1_n_n 32 rfl rfl).symm k) = ix2 k c := by
    funext a; fin_cases a <;> rfl
  rw [el, er]

theorem rows_apply (x : FVec Ideal S2000x32 .f32) (r : Fin 2000) (c : Fin 1024) :
    (broadcastTo S2000x1024 (shapeCast S2000x1 (multiReduction .add [1] S2000 x 0x00000000#32 reduces_S2000x32_S2000
      (.inl rfl) rfl) shapeCasts_S2000_S2000x1) broadcasts_S2000x1_S2000x1024 (ix2 r c) : EReal)
      = ∑ k : Fin 32, (x (ix2 r k) : EReal) := by
  refine (broadcastTo_apply _ _ _ (ix2 r 0) (by intro a; fin_cases a <;> simp)).trans ?_
  refine (shapeCast_apply _ _ _ (ix1 r) (by rw [Shape.rowMajor_val_one, Shape.rowMajor_val_two]; simp)).trans ?_
  refine (Ideal.multiReduction_add_single _ _ _ _ _ _).trans (Finset.sum_congr rfl fun k _ => congrArg x ?_)
  funext a; fin_cases a <;> rfl

theorem cols_apply (y : FVec Ideal S32x1024 .f32) (r : Fin 2000) (c : Fin 1024) :
    (broadcastTo S2000x1024 (shapeCast S1x1024 (multiReduction .add [0] S1024 y 0x00000000#32 reduces_S32x1024_S1024
      (.inl rfl) rfl) shapeCasts_S1024_S1x1024) broadcasts_S1x1024_S2000x1024 (ix2 r c) : EReal)
      = ∑ k : Fin 32, (y (ix2 k c) : EReal) := by
  refine (broadcastTo_apply _ _ _ (ix2 0 c) (by intro a; fin_cases a <;> simp)).trans ?_
  refine (shapeCast_apply _ _ _ (ix1 c) (by rw [Shape.rowMajor_val_one, Shape.rowMajor_val_two]; simp)).trans ?_
  refine (Ideal.multiReduction_add_single _ _ _ _ _ _).trans (Finset.sum_congr rfl fun k _ => congrArg y ?_)
  funext a; fin_cases a <;> rfl

/-- A tile's distances. -/
theorem pay5_apply (x : Vec Ideal S2000x32 .f32) (y : Vec Ideal S32x1024 .f32) (r : Fin 2000) (c : Fin 1024) :
    (k0_pay5 x y (ix2 r c) : EReal) = distOf (fun k => x (ix2 r k)) fun k => y (ix2 k c) := by
  have h := congrArg Ideal.sqrt (congrArg₂ (fun s p : EReal => max (s - Ideal.ofBits .f32 0x40000000#32 * p) (Ideal.ofBits .f32 0x00000000#32))
    (congrArg₂ (· + ·) (cols_apply (mulf y y) r c) (rows_apply (mulf x x) r c)) (dot_apply x y r c))
  rw [Ideal.ofBits_zero_f32] at h
  refine Eq.trans ?_ h
  rw [← Ideal.ofBits_zero_f32]
  unfold k0_pay5
  dsimp only
  rw [shapeCast_self]
  rfl

theorem coords_val (t : Fin cfg0.N) : ((grid0.coords t) 0).val = t.val := by
  have h : (grid0.coords t 0).val = t.val / 1 % 50 := Pipeline.Grid.coords_val t 0 (by decide) rfl
  have := lt_of_lt_of_eq t.isLt (show cfg0.N = 50 from N_0)
  omega

/-- A tile's row numbers. -/
theorem pay6_apply (t : Fin cfg0.N) (r : Fin 2000) (c : Fin 1024) :
    k0_pay6 (grid0.coords t) (ix2 r c) = BitVec.ofNat 32 (2000 * t.val + r.val) := by
  unfold k0_pay6
  dsimp only
  rw [coords_val]
  show iota .tc S2000x1024 32 [0] iota_S2000x1024_d0_w32 (ix2 r c) + BitVec.ofNat 32 t.val * 2000#32 = _
  rw [iota_single_apply]
  show BitVec.ofNat 32 r.val + BitVec.ofNat 32 t.val * BitVec.ofNat 32 2000 = _
  rw [← BitVec.ofNat_mul, ← BitVec.ofNat_add]
  congr 1; omega

section Tiles

variable (m : (ℓ : Loc nD τ sig) → Buf (Elt Ideal) ℓ) (c : Dev nD)

/-- The rows' coordinates. -/
def rowsOf (p : Fin 100000) (k : Fin 32) : EReal := m ((c : Thread nD τ).loc main_arg0) (ix2 p k)

/-- Query `x`'s coordinates. -/
def queryOf (x : Fin 1024) (k : Fin 32) : EReal := m ((c : Thread nD τ).loc main_arg1) (ix2 x k)

theorem point_lt (t : Fin cfg0.N) (r : Fin 2000) : 2000 * t.val + r.val < 100000 := by
  have := lt_of_lt_of_eq t.isLt (show cfg0.N = 50 from N_0); omega

theorem block_rows (t : Fin cfg0.N) (r : Fin 2000) (k : Fin 32) :
    (iblk m c 0 t (ix2 r k) : EReal) = rowsOf m c ⟨2000 * t.val + r.val, point_lt t r⟩ k := by
  show V m c main_arg0 (((cfg0.win 0).blk t).view.emb (ix2 r k)) = _
  rw [V_main_arg0]
  refine congrArg (m ((c : Thread nD τ).loc main_arg0)) (funext fun a => Fin.ext ?_)
  refine (Pipeline.Window.rect_emb_val win0_0 t (ix2 r k) a rfl).trans ?_
  fin_cases a
  · show cc0_transform_0 (grid0.coords t) 0 * 2000 + r.val = 2000 * t.val + r.val
    unfold cc0_transform_0
    dsimp only
    rw [coords_val]
    have := lt_of_lt_of_eq t.isLt (show cfg0.N = 50 from N_0)
    show t.val % 4294967296 * 2000 + r.val = _
    omega
  · show cc0_transform_0 (grid0.coords t) 1 * 32 + k.val = k.val
    unfold cc0_transform_0
    simp

theorem block_queries (t : Fin cfg0.N) (k : Fin 32) (x : Fin 1024) :
    (iblk m c 1 t (ix2 k x) : EReal) = queryOf m c x k := by
  show V m c main_v0 (((cfg0.win 1).blk t).view.emb (ix2 k x)) = _
  have e : ((cfg0.win 1).blk t).view.emb (ix2 k x) = ix2 k x := by
    refine funext fun a => Fin.ext ?_
    refine (Pipeline.Window.rect_emb_val win0_1 t (ix2 k x) a rfl).trans ?_
    fin_cases a
    · show cc0_transform_1 (grid0.coords t) 0 * 32 + k.val = k.val
      unfold cc0_transform_1
      simp
    · show cc0_transform_1 (grid0.coords t) 1 * 1024 + x.val = x.val
      unfold cc0_transform_1
      simp
  rw [e]
  show StableHlo.after hostOps0 (fun b => m (c, b)) (main_v0 : Ref sig .tc) (ix2 k x) = _
  rw [show StableHlo.after hostOps0 (fun b => m (c, b)) (main_v0 : Ref sig .tc)
    = transpose S32x1024 [1, 0] (m ((c : Thread nD τ).loc main_arg1)) transposes_S1024x32_S32x1024_1_0 from by
    simp only [hostOps0, StableHlo.after_cons, StableHlo.after_nil]
    rfl]
  exact transpose_apply _ _ _ _ (ix2 x k) (by intro b; fin_cases b <;> rfl)

variable (hX : ∀ p k, ∃ r : ℝ, rowsOf m c p k = r) (hQ : ∀ x k, ∃ r : ℝ, queryOf m c x k = r)

include hX hQ

theorem tile (t : Fin cfg0.N) (ri : IVec S8x1024 32) (rd : FVec Ideal S8x1024 .f32) (x : Fin 1024)
    (hk : Kept (column (rowsOf m c) (queryOf m c x)) t.val (fun j => rd (ix2 j x)) fun j => ri (ix2 j x)) :
    Kept (column (rowsOf m c) (queryOf m c x)) (t.val + 1)
      (fun j => stepD sides (k0_pay6 (grid0.coords t)) ri (k0_pay5 (iblk m c 0 t) (iblk m c 1 t)) rd (ix2 j x))
      fun j => stepI sides (k0_pay6 (grid0.coords t)) ri (k0_pay5 (iblk m c 0 t) (iblk m c 1 t)) rd (ix2 j x) := by
  refine Kept.step sides (lt_of_lt_of_eq t.isLt (show cfg0.N = 50 from N_0)) _ _ _ _ _ hk (fun r => ?_)
    (fun r => pay6_apply t r x) fun p hp => column_ne_top hX (hQ x) p hp
  refine (pay5_apply _ _ r x).trans ?_
  rw [column_of_lt (point_lt t r)]
  exact congrArg₂ distOf (funext fun k => block_rows m c t r k) (funext fun k => block_queries m c t k x)

/-- After each tile the kept arrays hold the nearest rows so far. -/
theorem kept (n : ℕ) (hn : n < cfg0.N) (x : Fin 1024) :
    Kept (column (rowsOf m c) (queryOf m c x)) (n + 1) (fun j => (outsAt0 m c n hn).2.1 (ix2 j x))
      fun j => (outsAt0 m c n hn).2.2 (ix2 j x) := by
  have hN : n < 50 := lt_of_lt_of_eq hn (show cfg0.N = 50 from N_0)
  induction n with
  | zero =>
    have e := outsAt0_A m c ⟨0, hn⟩ rfl (show ¬ 0 % 50 = 49 by decide)
    dsimp only at e
    rw [e]
    dsimp only
    rw [leaves_A_0, leaves_A_1]
    refine tile m c hX hQ ⟨0, hn⟩ _ _ x fun j => ?_
    rw [pay3, pay4, if_neg (fun h => h.1 rfl)]
    exact ⟨rfl, rfl⟩
  | succ n ih =>
    have ih := ih (Nat.lt_of_succ_lt hn) (by omega)
    by_cases h : n + 1 = 49
    · have e := outsAt0_C m c ⟨n + 1, hn⟩ (show ¬ (n + 1) % 50 = 0 by omega) (show (n + 1) % 50 = 49 by omega)
      dsimp only at e
      rw [e]
      dsimp only
      rw [leaves_C_0, leaves_C_1]
      exact tile m c hX hQ ⟨n + 1, hn⟩ _ _ x ih
    · have e := outsAt0_B m c ⟨n + 1, hn⟩ (show ¬ (n + 1) % 50 = 0 by omega) (show ¬ (n + 1) % 50 = 49 by omega)
      dsimp only at e
      rw [e]
      dsimp only
      rw [leaves_B_0, leaves_B_1]
      exact tile m c hX hQ ⟨n + 1, hn⟩ _ _ x ih

/-- What the last tile stores out: the nearest rows' numbers, then no row. -/
theorem stored (hn : 49 < cfg0.N) (j : Fin 8) (x : Fin 1024) :
    (outsAt0 m c 49 hn).1 (ix2 j x) = word (rowsOf m c) (queryOf m c x) j := by
  have hk := kept m c hX hQ 49 hn x j
  have e := outsAt0_C m c ⟨49, hn⟩ (show ¬ 49 % 50 = 0 by decide) rfl
  dsimp only at e
  have e1 : (outsAt0 m c 49 hn).1 = (outsAt0 m c 49 hn).2.2 := by
    rw [e]
    dsimp only
    rw [leaves_C_2]
  rw [e1]
  unfold word
  split at hk
  · rename_i h
    rw [if_pos h.2]; exact hk.2
  · rename_i h
    rw [if_neg fun h' => h ⟨by decide, h'⟩]; exact hk.2

end Tiles

end Cert.KernelIdeal.Near
-- ==== Proof.NearRange.lean ====
/-
The nearest-rows call inside the whole kernel leaves row numbers of the table, for any points and queries.
-/
module

public import proofs.«01_k».proof.Proof.Ranges
public import proofs.«01_k».proof.Proof.NearTiles

@[expose] public section

noncomputable section

namespace Cert.KernelIdeal.Near

open Idealize.ShloMosaic Idealize.ShloMosaic.TcCoe Idealize.ShloMosaic.ValueIdx Idealize.SL.Sem
open Cert.KernelIdeal Cert.KernelIdeal.Gen Cert.Proof.Near

variable (m : (ℓ : Loc nD τ sig) → Buf (Elt Ideal) ℓ) (c : Dev nD)

/-- A tile's row numbers are rows of the table. -/
theorem numbers_valid (t : Fin cfg0.N) (x : Fin 1024) (r : Fin 2000) :
    Valid (k0_pay6 (grid0.coords t) (ix2 r x)) := by
  have := point_lt t r
  rw [pay6_apply]
  unfold Valid
  rw [BitVec.toNat_ofNat]
  omega

/-- A tile leaves the kept entries sound, and the first five of them rows of the table. -/
theorem tile_sound (t : Fin cfg0.N) (ri : IVec S8x1024 32) (rd : FVec Ideal S8x1024 .f32) (x : Fin 1024)
    (h : ∀ j : Fin 8, Sound (rd (ix2 j x)) (ri (ix2 j x))) (j : Fin 8) :
    Sound (stepD sides (k0_pay6 (grid0.coords t)) ri (k0_pay5 (iblk m c 0 t) (iblk m c 1 t)) rd (ix2 j x))
        (stepI sides (k0_pay6 (grid0.coords t)) ri (k0_pay5 (iblk m c 0 t) (iblk m c 1 t)) rd (ix2 j x))
      ∧ (j.val < 5 → Valid (stepI sides (k0_pay6 (grid0.coords t)) ri (k0_pay5 (iblk m c 0 t) (iblk m c 1 t)) rd (ix2 j x))) :=
  ⟨step_sound sides _ _ _ _ x (numbers_valid t x) h j, step_valid sides _ _ _ _ x (numbers_valid t x) h j⟩

/-- After each tile the kept entries are sound, and the first five of them rows of the table. -/
theorem kept_sound (n : ℕ) (hn : n < cfg0.N) (x : Fin 1024) (j : Fin 8) :
    Sound ((outsAt0 m c n hn).2.1 (ix2 j x)) ((outsAt0 m c n hn).2.2 (ix2 j x))
      ∧ (j.val < 5 → Valid ((outsAt0 m c n hn).2.2 (ix2 j x))) := by
  have hN : n < 50 := lt_of_lt_of_eq hn (show cfg0.N = 50 from N_0)
  induction n generalizing j with
  | zero =>
    have e := outsAt0_A m c ⟨0, hn⟩ rfl (show ¬ 0 % 50 = 49 by decide)
    dsimp only at e
    rw [e]
    dsimp only
    rw [leaves_A_0, leaves_A_1]
    exact tile_sound m c ⟨0, hn⟩ _ _ x (fun r => by rw [pay3, pay4]; exact .inl ⟨rfl, rfl⟩) j
  | succ n ih =>
    have ih := fun j => (ih (Nat.lt_of_succ_lt hn) j (by omega)).1
    by_cases h : n + 1 = 49
    · have e := outsAt0_C m c ⟨n + 1, hn⟩ (show ¬ (n + 1) % 50 = 0 by omega) (show (n + 1) % 50 = 49 by omega)
      dsimp only at e
      rw [e]
      dsimp only
      rw [leaves_C_0, leaves_C_1]
      exact tile_sound m c ⟨n + 1, hn⟩ _ _ x ih j
    · have e := outsAt0_B m c ⟨n + 1, hn⟩ (show ¬ (n + 1) % 50 = 0 by omega) (show ¬ (n + 1) % 50 = 49 by omega)
      dsimp only at e
      rw [e]
      dsimp only
      rw [leaves_B_0, leaves_B_1]
      exact tile_sound m c ⟨n + 1, hn⟩ _ _ x ih j

/-- The first five row numbers the last tile stores out are rows of the table. -/
theorem stored_valid (hn : 49 < cfg0.N) (j : Fin 8) (hj : j.val < 5) (x : Fin 1024) :
    Valid ((outsAt0 m c 49 hn).1 (ix2 j x)) := by
  have hk := (kept_sound m c 49 hn x j).2 hj
  have e := outsAt0_C m c ⟨49, hn⟩ (show ¬ 49 % 50 = 0 by decide) rfl
  dsimp only at e
  have e1 : (outsAt0 m c 49 hn).1 = (outsAt0 m c 49 hn).2.2 := by
    rw [e]
    dsimp only
    rw [leaves_C_2]
  rw [e1]
  exact hk

end Cert.KernelIdeal.Near
-- ==== Proof.WholeRefRun.lean ====
/-
  The whole reference as a list of host operations, and its run: the distances, the five nearest rows, their labels, the vote.
-/
module

public import proofs.«01_k».proof.Proof.Gen.ReferenceIdeal
public import proofs.«01_k».proof.Proof.VoteRefRun
public import proofs.«01_k».proof.Proof.NearRef
public import Idealize.ShloMosaic.Lib.StableHlo.Run

@[expose] public section

noncomputable section

namespace Cert.Proof.WholeRef

open Cert.ReferenceIdeal Cert.ReferenceIdeal.Gen Idealize.ShloMosaic Idealize.ShloMosaic.TcCoe Idealize.SL.Sem Idealize.ShloMosaic.StableHlo

variable {F : FTy → Type} [FloatOps F]

/-- The distances and the picks. -/
abbrev headOps : List (HloOp τ sig (Elt F)) :=
  [ binary main_arg1 main_arg1 main_v0 (mulf : (⟨S1024x32, .f32⟩ : BufTy).Contents (Elt F) → (⟨S1024x32, .f32⟩ : BufTy).Contents (Elt F) → (⟨S1024x32, .f32⟩ : BufTy).Contents (Elt F)),
    nullary main_cst (constant S_ .f32 0x00000000#32),
    binary main_v0 main_cst main_v1 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    binary main_arg0 main_arg0 main_v3 (mulf : (⟨S100000x32, .f32⟩ : BufTy).Contents (Elt F) → (⟨S100000x32, .f32⟩ : BufTy).Contents (Elt F) → (⟨S100000x32, .f32⟩ : BufTy).Contents (Elt F)),
    nullary main_cst_0 (constant S_ .f32 0x00000000#32),
    binary main_v3 main_cst_0 main_v4 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v4 main_v5 (broadcastInDim S1x100000 ![1] bcast_S100000_S1x100000_1 : (⟨S100000, .f32⟩ : BufTy).Contents (Elt F) → (⟨S1x100000, .f32⟩ : BufTy).Contents (Elt F)),
    unary main_v2 main_v6 (broadcastInDim S1024x100000 ![0, 1] bcast_S1024x1_S1024x100000_0_1 : (⟨S1024x1, .f32⟩ : BufTy).Contents (Elt F) → (⟨S1024x100000, .f32⟩ : BufTy).Contents (Elt F)),
    unary main_v5 main_v7 (broadcastInDim S1024x100000 ![0, 1] bcast_S1x100000_S1024x100000_0_1 : (⟨S1x100000, .f32⟩ : BufTy).Contents (Elt F) → (⟨S1024x100000, .f32⟩ : BufTy).Contents (Elt F)),
    binary main_v6 main_v7 main_v8 (addf : (⟨S1024x100000, .f32⟩ : BufTy).Contents (Elt F) → (⟨S1024x100000, .f32⟩ : BufTy).Contents (Elt F) → (⟨S1024x100000, .f32⟩ : BufTy).Contents (Elt F)),
    unary main_arg0 main_v9 ((transpose S32x100000 [1, 0] · transposes_S100000x32_S32x100000_1_0) : (⟨S100000x32, .f32⟩ : BufTy).Contents (Elt F) → (⟨S32x100000, .f32⟩ : BufTy).Contents (Elt F)),
    binary main_arg1 main_v9 main_v10 ((fun l r => Host.dotGeneral dot_S1024x32_S32x100000_S1024x100000_1_0_0_1_n_n none l r) : (⟨S1024x32, .f32⟩ : BufTy).Contents (Elt F) → (⟨S32x100000, .f32⟩ : BufTy).Contents (Elt F) → (⟨S1024x100000, .f32⟩ : BufTy).Contents (Elt F)),
    nullary main_cst_1 (constant S_ .f32 0x40000000#32),
    unary main_cst_1 main_v11 (broadcastInDim S1024x100000 ![] bcast_S_S1024x100000 : (⟨S_, .f32⟩ : BufTy).Contents (Elt F) → (⟨S1024x100000, .f32⟩ : BufTy).Contents (Elt F)),
    binary main_v11 main_v10 main_v12 (mulf : (⟨S1024x100000, .f32⟩ : BufTy).Contents (Elt F) → (⟨S1024x100000, .f32⟩ : BufTy).Contents (Elt F) → (⟨S1024x100000, .f32⟩ : BufTy).Contents (Elt F)),
    binary main_v8 main_v12 main_v13 (subf : (⟨S1024x100000, .f32⟩ : BufTy).Contents (Elt F) → (⟨S1024x100000, .f32⟩ : BufTy).Contents (Elt F) → (⟨S1024x100000, .f32⟩ : BufTy).Contents (Elt F)),
    nullary main_cst_2 (constant S_ .f32 0x00000000#32),
    unary main_cst_2 main_v14 (broadcastInDim S1024x100000 ![] bcast_S_S1024x100000 : (⟨S_, .f32⟩ : BufTy).Contents (Elt F) → (⟨S1024x100000, .f32⟩ : BufTy).Contents (Elt F)),
    binary main_v13 main_v14 main_v15 (maximumf : (⟨S1024x100000, .f32⟩ : BufTy).Contents (Elt F) → (⟨S1024x100000, .f32⟩ : BufTy).Contents (Elt F) → (⟨S1024x100000, .f32⟩ : BufTy).Contents (Elt F)),
    unary main_v15 main_v16 (Host.sqrt : (⟨S1024x100000, .f32⟩ : BufTy).Contents (Elt F) → (⟨S1024x100000, .f32⟩ : BufTy).Contents (Elt F)),
    unary main_v16 main_v17 (Host.negf : (⟨S1024x100000, .f32⟩ : BufTy).Contents (Elt F) → (⟨S1024x100000, .f32⟩ : BufTy).Contents (Elt F)),
    unary main_v17 main_values ((fun x => (Host.topK S1024x5 1 (FloatOps.cmpfTotal .gt) x sliceFits_S1024x100000_S1024x5).1) : (⟨S1024x100000, .f32⟩ : BufTy).Contents (Elt F) → (⟨S1024x5, .f32⟩ : BufTy).Contents (Elt F)),
    unary main_v17 main_indices ((fun x => (Host.topK S1024x5 1 (FloatOps.cmpfTotal .gt) x sliceFits_S1024x100000_S1024x5).2) : (⟨S1024x100000, .f32⟩ : BufTy).Contents (Elt F) → (⟨S1024x5, .i32⟩ : BufTy).Contents (Elt F)) ]

/-- Each pick's label. -/
abbrev takeOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S1024x5, .i32⟩) main_call0_v0) (broadcastInDim S1024x5 ![] bcast_S_S1024x5),
    TRef.binary (TRef.of (T := ⟨S1024x5, .i32⟩) main_indices) (TRef.of (T := ⟨S1024x5, .i32⟩) main_call0_v0) (TRef.of (T := ⟨S1024x5, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x5, .i32⟩) main_call0_v2) (broadcastInDim S1024x5 ![] bcast_S_S1024x5),
    TRef.binary (TRef.of (T := ⟨S1024x5, .i32⟩) main_indices) (TRef.of (T := ⟨S1024x5, .i32⟩) main_call0_v2) (TRef.of (T := ⟨S1024x5, .i32⟩) main_call0_v3) addi,
    TRef.ternary (TRef.of (T := ⟨S1024x5, .i1⟩) main_call0_v1) (TRef.of (T := ⟨S1024x5, .i32⟩) main_call0_v3) (TRef.of (T := ⟨S1024x5, .i32⟩) main_indices) (TRef.of (T := ⟨S1024x5, .i32⟩) main_call0_v4) select,
    TRef.unary (TRef.of (T := ⟨S1024x5, .i32⟩) main_call0_v4) (TRef.of (T := ⟨S1024x5x1, .i32⟩) main_call0_v5) (broadcastInDim S1024x5x1 ![0, 1] bcast_S1024x5_S1024x5x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x5x1, .i32⟩) main_call0_v6) (broadcastInDim S1024x5x1 ![] bcast_S_S1024x5x1),
    TRef.binary (TRef.of (T := ⟨S1024x5x1, .i32⟩) main_call0_v5) (TRef.of (T := ⟨S1024x5x1, .i32⟩) main_call0_v6) (TRef.of (T := ⟨S1024x5x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x5x1, .i32⟩) main_call0_v9) (broadcastInDim S1024x5x1 ![0, 1, 2] bcast_S1x1x1_S1024x5x1_0_1_2),
    TRef.binary (TRef.of (T := ⟨S1024x5x1, .i32⟩) main_call0_v5) (TRef.of (T := ⟨S1024x5x1, .i32⟩) main_call0_v9) (TRef.of (T := ⟨S1024x5x1, .i1⟩) main_call0_v10) (cmpi .sle),
    TRef.binary (TRef.of (T := ⟨S1024x5x1, .i1⟩) main_call0_v7) (TRef.of (T := ⟨S1024x5x1, .i1⟩) main_call0_v10) (TRef.of (T := ⟨S1024x5x1, .i1⟩) main_call0_v11) andi,
    TRef.nullary (TRef.of (T := ⟨S_, .i1⟩) main_call0_c_3) (constantI S_ 1 1#1),
    TRef.binary (TRef.of (T := ⟨S1024x5x1, .i1⟩) main_call0_v11) (TRef.of (T := ⟨S_, .i1⟩) main_call0_c_3) (TRef.of (T := ⟨S1024x5, .i1⟩) main_call0_v12) (fun x v => Host.reduce IntOp.andi x v reducesTo_S1024x5x1_S1024x5_d2 h_S_),
    TRef.binary (TRef.of (T := ⟨S100000, .i32⟩) main_arg2) (TRef.of (T := ⟨S1024x5x1, .i32⟩) main_call0_v5) (TRef.of (T := ⟨S1024x5, .i32⟩) main_call0_v13) (fun x i => Host.gather gather_S100000_S1024x5x1_S1024x5_n_0_n_n_0_2_1 x i),
    TRef.nullary (TRef.of (T := ⟨S_, .i32⟩) main_call0_c_4) (constantI S_ 32 2147483648#32),
    TRef.unary (TRef.of (T := ⟨S_, .i32⟩) main_call0_c_4) (TRef.of (T := ⟨S1024x5, .i32⟩) main_call0_v14) (broadcastInDim S1024x5 ![] bcast_S_S1024x5),
    TRef.ternary (TRef.of (T := ⟨S1024x5, .i1⟩) main_call0_v12) (TRef.of (T := ⟨S1024x5, .i32⟩) main_call0_v13) (TRef.of (T := ⟨S1024x5, .i32⟩) main_call0_v14) (TRef.of (T := ⟨S1024x5, .i32⟩) main_v18) select ]

/-- Each label's score. -/
abbrev scoreOps : List (HloOp τ sig (Elt F)) :=
  [ unary main_v18 main_v19 (broadcastInDim S1024x5x1 ![0, 1] bcast_S1024x5_S1024x5x1_0_1 : (⟨S1024x5, .i32⟩ : BufTy).Contents (Elt F) → (⟨S1024x5x1, .i32⟩ : BufTy).Contents (Elt F)),
    unary main_v18 main_v20 (broadcastInDim S1024x1x5 ![0, 2] bcast_S1024x5_S1024x1x5_0_2 : (⟨S1024x5, .i32⟩ : BufTy).Contents (Elt F) → (⟨S1024x1x5, .i32⟩ : BufTy).Contents (Elt F)),
    unary main_v19 main_v21 (broadcastInDim S1024x5x5 ![0, 1, 2] bcast_S1024x5x1_S1024x5x5_0_1_2 : (⟨S1024x5x1, .i32⟩ : BufTy).Contents (Elt F) → (⟨S1024x5x5, .i32⟩ : BufTy).Contents (Elt F)),
    unary main_v20 main_v22 (broadcastInDim S1024x5x5 ![0, 1, 2] bcast_S1024x1x5_S1024x5x5_0_1_2 : (⟨S1024x1x5, .i32⟩ : BufTy).Contents (Elt F) → (⟨S1024x5x5, .i32⟩ : BufTy).Contents (Elt F)),
    binary main_v21 main_v22 main_v23 (cmpi .eq : (⟨S1024x5x5, .i32⟩ : BufTy).Contents (Elt F) → (⟨S1024x5x5, .i32⟩ : BufTy).Contents (Elt F) → (⟨S1024x5x5, .i1⟩ : BufTy).Contents (Elt F)),
    unary main_v23 main_v24 ((extui 32 · natLt_1_32) : (⟨S1024x5x5, .i1⟩ : BufTy).Contents (Elt F) → (⟨S1024x5x5, .i32⟩ : BufTy).Contents (Elt F)),
    nullary main_c (constantI S_ 32 0#32),
    binary main_v24 main_c main_v25 ((fun x v => Host.reduce IntOp.addi x v reducesTo_S1024x5x5_S1024x5_d2 h_S_) : (⟨S1024x5x5, .i32⟩ : BufTy).Contents (Elt F) → (⟨S_, .i32⟩ : BufTy).Contents (Elt F) → (⟨S1024x5, .i32⟩ : BufTy).Contents (Elt F)),
    nullary main_c_3 (constantI S_ 32 1000#32),
    unary main_c_3 main_v26 (broadcastInDim S1024x5 ![] bcast_S_S1024x5 : (⟨S_, .i32⟩ : BufTy).Contents (Elt F) → (⟨S1024x5, .i32⟩ : BufTy).Contents (Elt F)),
    binary main_v25 main_v26 main_v27 (muli : (⟨S1024x5, .i32⟩ : BufTy).Contents (Elt F) → (⟨S1024x5, .i32⟩ : BufTy).Contents (Elt F) → (⟨S1024x5, .i32⟩ : BufTy).Contents (Elt F)),
    binary main_v27 main_v18 main_v28 (subi : (⟨S1024x5, .i32⟩ : BufTy).Contents (Elt F) → (⟨S1024x5, .i32⟩ : BufTy).Contents (Elt F) → (⟨S1024x5, .i32⟩ : BufTy).Contents (Elt F)) ]

/-- The position of the greatest score. -/
abbrev argOps : List (HloOp τ sig (Elt F)) :=
  [ TRef.nullary (TRef.of (T := ⟨S1024x5, .i32⟩) main_call1_v0) (iotaInDim S1024x5 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S1024x5, .i32⟩) main_v28) (TRef.of (T := ⟨S1024x5, .i32⟩) main_call1_v0) (TRef.of (T := ⟨S_, .i32⟩) main_call1_c) (TRef.of (T := ⟨S_, .i32⟩) main_call1_c_0) (TRef.of (T := ⟨S1024, .i32⟩) main_call1_v1_0) (fun x y u v j => (Host.reduce2 reducer_argmax_i32_i32 x y u v reducesTo_S1024x5_S1024_d1 h_S_ j).1),
    TRef.quaternary (TRef.of (T := ⟨S1024x5, .i32⟩) main_v28) (TRef.of (T := ⟨S1024x5, .i32⟩) main_call1_v0) (TRef.of (T := ⟨S_, .i32⟩) main_call1_c) (TRef.of (T := ⟨S_, .i32⟩) main_call1_c_0) (TRef.of (T := ⟨S1024, .i32⟩) main_v29) (fun x y u v j => (Host.reduce2 reducer_argmax_i32_i32 x y u v reducesTo_S1024x5_S1024_d1 h_S_ j).2),
    unary main_v29 main_v30 (broadcastInDim S1024x1 ![0] bcast_S1024_S1024x1_0 : (⟨S1024, .i32⟩ : BufTy).Contents (Elt F) → (⟨S1024x1, .i32⟩ : BufTy).Contents (Elt F)) ]

/-- The label at that position. -/
abbrev pickOps : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v30) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 5#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v30) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v30) (TRef.of (T := ⟨S1024x1, .i32⟩) main_call2_v4) select,
    TRef.reshape (TRef.of (T := ⟨S1024x1, .i32⟩) main_call2_v4) (TRef.of (T := ⟨S1024x1x1, .i32⟩) main_call2_v5) (rfl : (.i32 : EltTy) = .i32) shapeCasts_S1024x1_S1024x1x1,
    TRef.nullary (TRef.of (T := ⟨S1, .i32⟩) main_call2_c_1) (constantI S1 32 4#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x5, .i32⟩) main_v18) (TRef.of (T := ⟨S1024x1x1, .i32⟩) main_call2_v5) (TRef.of (T := ⟨S1024x1, .i32⟩) main_call2_v13) (fun x i => Host.gather gather_S1024x5_S1024x1x1_S1024x1_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S1024x1, .i32⟩) main_call2_v14) (broadcastInDim S1024x1 ![] bcast_S_S1024x1),
    TRef.ternary (TRef.of (T := ⟨S1024x1, .i1⟩) main_call2_v12) (TRef.of (T := ⟨S1024x1, .i32⟩) main_call2_v13) (TRef.of (T := ⟨S1024x1, .i32⟩) main_call2_v14) (TRef.of (T := ⟨S1024x1, .i32⟩) main_v31) select,
    reshape main_v31 main_v32 (rfl : (.i32 : EltTy) = .i32) shapeCasts_S1024x1_S1024 ]

/-- All of them, in order. -/
abbrev ops : List (HloOp τ sig (Elt F)) :=
  [ binary main_arg1 main_arg1 main_v0 (mulf : (⟨S1024x32, .f32⟩ : BufTy).Contents (Elt F) → (⟨S1024x32, .f32⟩ : BufTy).Contents (Elt F) → (⟨S1024x32, .f32⟩ : BufTy).Contents (Elt F)),
    nullary main_cst (constant S_ .f32 0x00000000#32),
    binary main_v0 main_cst main_v1 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    binary main_arg0 main_arg0 main_v3 (mulf : (⟨S100000x32, .f32⟩ : BufTy).Contents (Elt F) → (⟨S100000x32, .f32⟩ : BufTy).Contents (Elt F) → (⟨S100000x32, .f32⟩ : BufTy).Contents (Elt F)),
    nullary main_cst_0 (constant S_ .f32 0x00000000#32),
    binary main_v3 main_cst_0 main_v4 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v4 main_v5 (broadcastInDim S1x100000 ![1] bcast_S100000_S1x100000_1 : (⟨S100000, .f32⟩ : BufTy).Contents (Elt F) → (⟨S1x100000, .f32⟩ : BufTy).Contents (Elt F)),
    unary main_v2 main_v6 (broadcastInDim S1024x100000 ![0, 1] bcast_S1024x1_S1024x100000_0_1 : (⟨S1024x1, .f32⟩ : BufTy).Contents (Elt F) → (⟨S1024x100000, .f32⟩ : BufTy).Contents (Elt F)),
    unary main_v5 main_v7 (broadcastInDim S1024x100000 ![0, 1] bcast_S1x100000_S1024x100000_0_1 : (⟨S1x100000, .f32⟩ : BufTy).Contents (Elt F) → (⟨S1024x100000, .f32⟩ : BufTy).Contents (Elt F)),
    binary main_v6 main_v7 main_v8 (addf : (⟨S1024x100000, .f32⟩ : BufTy).Contents (Elt F) → (⟨S1024x100000, .f32⟩ : BufTy).Contents (Elt F) → (⟨S1024x100000, .f32⟩ : BufTy).Contents (Elt F)),
    unary main_arg0 main_v9 ((transpose S32x100000 [1, 0] · transposes_S100000x32_S32x100000_1_0) : (⟨S100000x32, .f32⟩ : BufTy).Contents (Elt F) → (⟨S32x100000, .f32⟩ : BufTy).Contents (Elt F)),
    binary main_arg1 main_v9 main_v10 ((fun l r => Host.dotGeneral dot_S1024x32_S32x100000_S1024x100000_1_0_0_1_n_n none l r) : (⟨S1024x32, .f32⟩ : BufTy).Contents (Elt F) → (⟨S32x100000, .f32⟩ : BufTy).Contents (Elt F) → (⟨S1024x100000, .f32⟩ : BufTy).Contents (Elt F)),
    nullary main_cst_1 (constant S_ .f32 0x40000000#32),
    unary main_cst_1 main_v11 (broadcastInDim S1024x100000 ![] bcast_S_S1024x100000 : (⟨S_, .f32⟩ : BufTy).Contents (Elt F) → (⟨S1024x100000, .f32⟩ : BufTy).Contents (Elt F)),
    binary main_v11 main_v10 main_v12 (mulf : (⟨S1024x100000, .f32⟩ : BufTy).Contents (Elt F) → (⟨S1024x100000, .f32⟩ : BufTy).Contents (Elt F) → (⟨S1024x100000, .f32⟩ : BufTy).Contents (Elt F)),
    binary main_v8 main_v12 main_v13 (subf : (⟨S1024x100000, .f32⟩ : BufTy).Contents (Elt F) → (⟨S1024x100000, .f32⟩ : BufTy).Contents (Elt F) → (⟨S1024x100000, .f32⟩ : BufTy).Contents (Elt F)),
    nullary main_cst_2 (constant S_ .f32 0x00000000#32),
    unary main_cst_2 main_v14 (broadcastInDim S1024x100000 ![] bcast_S_S1024x100000 : (⟨S_, .f32⟩ : BufTy).Contents (Elt F) → (⟨S1024x100000, .f32⟩ : BufTy).Contents (Elt F)),
    binary main_v13 main_v14 main_v15 (maximumf : (⟨S1024x100000, .f32⟩ : BufTy).Contents (Elt F) → (⟨S1024x100000, .f32⟩ : BufTy).Contents (Elt F) → (⟨S1024x100000, .f32⟩ : BufTy).Contents (Elt F)),
    unary main_v15 main_v16 (Host.sqrt : (⟨S1024x100000, .f32⟩ : BufTy).Contents (Elt F) → (⟨S1024x100000, .f32⟩ : BufTy).Contents (Elt F)),
    unary main_v16 main_v17 (Host.negf : (⟨S1024x100000, .f32⟩ : BufTy).Contents (Elt F) → (⟨S1024x100000, .f32⟩ : BufTy).Contents (Elt F)),
    unary main_v17 main_values ((fun x => (Host.topK S1024x5 1 (FloatOps.cmpfTotal .gt) x sliceFits_S1024x100000_S1024x5).1) : (⟨S1024x100000, .f32⟩ : BufTy).Contents (Elt F) → (⟨S1024x5, .f32⟩ : BufTy).Contents (Elt F)),
    unary main_v17 main_indices ((fun x => (Host.topK S1024x5 1 (FloatOps.cmpfTotal .gt) x sliceFits_S1024x100000_S1024x5).2) : (⟨S1024x100000, .f32⟩ : BufTy).Contents (Elt F) → (⟨S1024x5, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x5, .i32⟩) main_call0_v0) (broadcastInDim S1024x5 ![] bcast_S_S1024x5),
    TRef.binary (TRef.of (T := ⟨S1024x5, .i32⟩) main_indices) (TRef.of (T := ⟨S1024x5, .i32⟩) main_call0_v0) (TRef.of (T := ⟨S1024x5, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x5, .i32⟩) main_call0_v2) (broadcastInDim S1024x5 ![] bcast_S_S1024x5),
    TRef.binary (TRef.of (T := ⟨S1024x5, .i32⟩) main_indices) (TRef.of (T := ⟨S1024x5, .i32⟩) main_call0_v2) (TRef.of (T := ⟨S1024x5, .i32⟩) main_call0_v3) addi,
    TRef.ternary (TRef.of (T := ⟨S1024x5, .i1⟩) main_call0_v1) (TRef.of (T := ⟨S1024x5, .i32⟩) main_call0_v3) (TRef.of (T := ⟨S1024x5, .i32⟩) main_indices) (TRef.of (T := ⟨S1024x5, .i32⟩) main_call0_v4) select,
    TRef.unary (TRef.of (T := ⟨S1024x5, .i32⟩) main_call0_v4) (TRef.of (T := ⟨S1024x5x1, .i32⟩) main_call0_v5) (broadcastInDim S1024x5x1 ![0, 1] bcast_S1024x5_S1024x5x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x5x1, .i32⟩) main_call0_v6) (broadcastInDim S1024x5x1 ![] bcast_S_S1024x5x1),
    TRef.binary (TRef.of (T := ⟨S1024x5x1, .i32⟩) main_call0_v5) (TRef.of (T := ⟨S1024x5x1, .i32⟩) main_call0_v6) (TRef.of (T := ⟨S1024x5x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x5x1, .i32⟩) main_call0_v9) (broadcastInDim S1024x5x1 ![0, 1, 2] bcast_S1x1x1_S1024x5x1_0_1_2),
    TRef.binary (TRef.of (T := ⟨S1024x5x1, .i32⟩) main_call0_v5) (TRef.of (T := ⟨S1024x5x1, .i32⟩) main_call0_v9) (TRef.of (T := ⟨S1024x5x1, .i1⟩) main_call0_v10) (cmpi .sle),
    TRef.binary (TRef.of (T := ⟨S1024x5x1, .i1⟩) main_call0_v7) (TRef.of (T := ⟨S1024x5x1, .i1⟩) main_call0_v10) (TRef.of (T := ⟨S1024x5x1, .i1⟩) main_call0_v11) andi,
    TRef.nullary (TRef.of (T := ⟨S_, .i1⟩) main_call0_c_3) (constantI S_ 1 1#1),
    TRef.binary (TRef.of (T := ⟨S1024x5x1, .i1⟩) main_call0_v11) (TRef.of (T := ⟨S_, .i1⟩) main_call0_c_3) (TRef.of (T := ⟨S1024x5, .i1⟩) main_call0_v12) (fun x v => Host.reduce IntOp.andi x v reducesTo_S1024x5x1_S1024x5_d2 h_S_),
    TRef.binary (TRef.of (T := ⟨S100000, .i32⟩) main_arg2) (TRef.of (T := ⟨S1024x5x1, .i32⟩) main_call0_v5) (TRef.of (T := ⟨S1024x5, .i32⟩) main_call0_v13) (fun x i => Host.gather gather_S100000_S1024x5x1_S1024x5_n_0_n_n_0_2_1 x i),
    TRef.nullary (TRef.of (T := ⟨S_, .i32⟩) main_call0_c_4) (constantI S_ 32 2147483648#32),
    TRef.unary (TRef.of (T := ⟨S_, .i32⟩) main_call0_c_4) (TRef.of (T := ⟨S1024x5, .i32⟩) main_call0_v14) (broadcastInDim S1024x5 ![] bcast_S_S1024x5),
    TRef.ternary (TRef.of (T := ⟨S1024x5, .i1⟩) main_call0_v12) (TRef.of (T := ⟨S1024x5, .i32⟩) main_call0_v13) (TRef.of (T := ⟨S1024x5, .i32⟩) main_call0_v14) (TRef.of (T := ⟨S1024x5, .i32⟩) main_v18) select,
    unary main_v18 main_v19 (broadcastInDim S1024x5x1 ![0, 1] bcast_S1024x5_S1024x5x1_0_1 : (⟨S1024x5, .i32⟩ : BufTy).Contents (Elt F) → (⟨S1024x5x1, .i32⟩ : BufTy).Contents (Elt F)),
    unary main_v18 main_v20 (broadcastInDim S1024x1x5 ![0, 2] bcast_S1024x5_S1024x1x5_0_2 : (⟨S1024x5, .i32⟩ : BufTy).Contents (Elt F) → (⟨S1024x1x5, .i32⟩ : BufTy).Contents (Elt F)),
    unary main_v19 main_v21 (broadcastInDim S1024x5x5 ![0, 1, 2] bcast_S1024x5x1_S1024x5x5_0_1_2 : (⟨S1024x5x1, .i32⟩ : BufTy).Contents (Elt F) → (⟨S1024x5x5, .i32⟩ : BufTy).Contents (Elt F)),
    unary main_v20 main_v22 (broadcastInDim S1024x5x5 ![0, 1, 2] bcast_S1024x1x5_S1024x5x5_0_1_2 : (⟨S1024x1x5, .i32⟩ : BufTy).Contents (Elt F) → (⟨S1024x5x5, .i32⟩ : BufTy).Contents (Elt F)),
    binary main_v21 main_v22 main_v23 (cmpi .eq : (⟨S1024x5x5, .i32⟩ : BufTy).Contents (Elt F) → (⟨S1024x5x5, .i32⟩ : BufTy).Contents (Elt F) → (⟨S1024x5x5, .i1⟩ : BufTy).Contents (Elt F)),
    unary main_v23 main_v24 ((extui 32 · natLt_1_32) : (⟨S1024x5x5, .i1⟩ : BufTy).Contents (Elt F) → (⟨S1024x5x5, .i32⟩ : BufTy).Contents (Elt F)),
    nullary main_c (constantI S_ 32 0#32),
    binary main_v24 main_c main_v25 ((fun x v => Host.reduce IntOp.addi x v reducesTo_S1024x5x5_S1024x5_d2 h_S_) : (⟨S1024x5x5, .i32⟩ : BufTy).Contents (Elt F) → (⟨S_, .i32⟩ : BufTy).Contents (Elt F) → (⟨S1024x5, .i32⟩ : BufTy).Contents (Elt F)),
    nullary main_c_3 (constantI S_ 32 1000#32),
    unary main_c_3 main_v26 (broadcastInDim S1024x5 ![] bcast_S_S1024x5 : (⟨S_, .i32⟩ : BufTy).Contents (Elt F) → (⟨S1024x5, .i32⟩ : BufTy).Contents (Elt F)),
    binary main_v25 main_v26 main_v27 (muli : (⟨S1024x5, .i32⟩ : BufTy).Contents (Elt F) → (⟨S1024x5, .i32⟩ : BufTy).Contents (Elt F) → (⟨S1024x5, .i32⟩ : BufTy).Contents (Elt F)),
    binary main_v27 main_v18 main_v28 (subi : (⟨S1024x5, .i32⟩ : BufTy).Contents (Elt F) → (⟨S1024x5, .i32⟩ : BufTy).Contents (Elt F) → (⟨S1024x5, .i32⟩ : BufTy).Contents (Elt F)),
    TRef.nullary (TRef.of (T := ⟨S1024x5, .i32⟩) main_call1_v0) (iotaInDim S1024x5 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S1024x5, .i32⟩) main_v28) (TRef.of (T := ⟨S1024x5, .i32⟩) main_call1_v0) (TRef.of (T := ⟨S_, .i32⟩) main_call1_c) (TRef.of (T := ⟨S_, .i32⟩) main_call1_c_0) (TRef.of (T := ⟨S1024, .i32⟩) main_call1_v1_0) (fun x y u v j => (Host.reduce2 reducer_argmax_i32_i32 x y u v reducesTo_S1024x5_S1024_d1 h_S_ j).1),
    TRef.quaternary (TRef.of (T := ⟨S1024x5, .i32⟩) main_v28) (TRef.of (T := ⟨S1024x5, .i32⟩) main_call1_v0) (TRef.of (T := ⟨S_, .i32⟩) main_call1_c) (TRef.of (T := ⟨S_, .i32⟩) main_call1_c_0) (TRef.of (T := ⟨S1024, .i32⟩) main_v29) (fun x y u v j => (Host.reduce2 reducer_argmax_i32_i32 x y u v reducesTo_S1024x5_S1024_d1 h_S_ j).2),
    unary main_v29 main_v30 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v30) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 5#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v30) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v30) (TRef.of (T := ⟨S1024x1, .i32⟩) main_call2_v4) select,
    TRef.reshape (TRef.of (T := ⟨S1024x1, .i32⟩) main_call2_v4) (TRef.of (T := ⟨S1024x1x1, .i32⟩) main_call2_v5) (rfl : (.i32 : EltTy) = .i32) shapeCasts_S1024x1_S1024x1x1,
    TRef.nullary (TRef.of (T := ⟨S1, .i32⟩) main_call2_c_1) (constantI S1 32 4#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x5, .i32⟩) main_v18) (TRef.of (T := ⟨S1024x1x1, .i32⟩) main_call2_v5) (TRef.of (T := ⟨S1024x1, .i32⟩) main_call2_v13) (fun x i => Host.gather gather_S1024x5_S1024x1x1_S1024x1_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S1024x1, .i32⟩) main_call2_v14) (broadcastInDim S1024x1 ![] bcast_S_S1024x1),
    TRef.ternary (TRef.of (T := ⟨S1024x1, .i1⟩) main_call2_v12) (TRef.of (T := ⟨S1024x1, .i32⟩) main_call2_v13) (TRef.of (T := ⟨S1024x1, .i32⟩) main_call2_v14) (TRef.of (T := ⟨S1024x1, .i32⟩) main_v31) select,
    reshape main_v31 main_v32 (rfl : (.i32 : EltTy) = .i32) shapeCasts_S1024x1_S1024 ]

theorem ops_split : (ops : List (HloOp τ sig (Elt F))) = headOps ++ (takeOps ++ (scoreOps ++ (argOps ++ pickOps))) := rfl

set_option maxHeartbeats 4000000 in
theorem main_eq (c : Dev nD) : main (F := F) c = seq ops := rfl

theorem no_scoped_refs : (Finset.univ.filter fun b : Ref sig .tc => b.isScoped) = ∅ := by decide

theorem no_scoped_sems : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub .., unary_bufs_sub ..,
    unary_bufs_sub .., unary_bufs_sub .., binary_bufs_sub .., unary_bufs_sub .., nullary_bufs_sub .., binary_bufs_sub ..,
    nullary_bufs_sub .., unary_bufs_sub .., binary_bufs_sub .., binary_bufs_sub .., nullary_bufs_sub .., nullary_bufs_sub ..,
    nullary_bufs_sub .., quaternary_bufs_sub .., quaternary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub ..⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih _

set_option maxHeartbeats 2000000 in
theorem take_res (V : Valuation τ sig (Elt F)) :
    after (takeOps (F := F)) V (Proc.devRef .tc main_v18)
      = Cert.Proof.VoteRef.takeT (V (Proc.devRef .tc main_arg2)) (V (Proc.devRef .tc main_indices)) := by
  unfold Cert.Proof.VoteRef.takeT Cert.Proof.VoteRef.fixed
  simp only [takeOps, TRef.nullary, TRef.ternary, TRef.binary, TRef.unary, TRef.toBuf, TRef.ofBuf, cast_eq]
  after_results
  rfl

set_option maxHeartbeats 2000000 in
theorem score_res (V : Valuation τ sig (Elt F)) :
    after (scoreOps (F := F)) V (Proc.devRef .tc main_v28) = Cert.Proof.VoteRef.scoreT (V (Proc.devRef .tc main_v18)) := by
  unfold Cert.Proof.VoteRef.scoreT
  simp only [scoreOps]
  after_results

set_option maxHeartbeats 2000000 in
theorem score_lab (V : Valuation τ sig (Elt F)) :
    after (scoreOps (F := F)) V (Proc.devRef .tc main_v18) = V (Proc.devRef .tc main_v18) := by
  simp only [scoreOps]
  after_results

set_option maxHeartbeats 2000000 in
theorem arg_res (V : Valuation τ sig (Elt F)) :
    after (argOps (F := F)) V (Proc.devRef .tc main_v30) = Cert.Proof.VoteRef.argT (V (Proc.devRef .tc main_v28)) := by
  unfold Cert.Proof.VoteRef.argT
  simp only [argOps, TRef.nullary, TRef.quaternary, TRef.toBuf, TRef.ofBuf, cast_eq]
  after_results
  rfl

set_option maxHeartbeats 2000000 in
theorem arg_lab (V : Valuation τ sig (Elt F)) :
    after (argOps (F := F)) V (Proc.devRef .tc main_v18) = V (Proc.devRef .tc main_v18) := by
  simp only [argOps, TRef.nullary, TRef.quaternary, TRef.toBuf, TRef.ofBuf, cast_eq]
  after_results

set_option maxHeartbeats 2000000 in
theorem pick_res (V : Valuation τ sig (Elt F)) :
    after (pickOps (F := F)) V (Proc.devRef .tc main_v32)
      = Cert.Proof.VoteRef.pickT (V (Proc.devRef .tc main_v18)) (V (Proc.devRef .tc main_v30)) := by
  unfold Cert.Proof.VoteRef.pickT Cert.Proof.VoteRef.fixed5
  simp only [pickOps, TRef.nullary, TRef.ternary, TRef.binary, TRef.unary, TRef.reshape, TRef.toBuf, TRef.ofBuf, cast_eq]
  after_results
  rfl

set_option maxHeartbeats 2000000 in
theorem head_res (V : Valuation τ sig (Elt Ideal)) :
    after (headOps (F := Ideal)) V (Proc.devRef .tc main_indices)
      = Cert.TopKReferenceIdeal.Near.five (V (Proc.devRef .tc main_arg0)) (V (Proc.devRef .tc main_arg1)) := by
  unfold Cert.TopKReferenceIdeal.Near.five Cert.TopKReferenceIdeal.Near.dists
  simp only [headOps]
  after_results
  rfl

set_option maxHeartbeats 2000000 in
theorem head_y (V : Valuation τ sig (Elt F)) :
    after (headOps (F := F)) V (Proc.devRef .tc main_arg2) = V (Proc.devRef .tc main_arg2) := by
  simp only [headOps]
  after_results

theorem ops_res (V : Valuation τ sig (Elt Ideal)) :
    after (ops (F := Ideal)) V (Proc.devRef .tc main_v32)
      = Cert.Proof.VoteRef.winT (Cert.Proof.VoteRef.takeT (V (Proc.devRef .tc main_arg2))
          (Cert.TopKReferenceIdeal.Near.five (V (Proc.devRef .tc main_arg0)) (V (Proc.devRef .tc main_arg1)))) := by
  unfold Cert.Proof.VoteRef.winT
  rw [ops_split, after_app, after_app, after_app, after_app, pick_res, arg_res, arg_lab, score_res, score_lab, take_res, head_y, head_res]

set_option maxHeartbeats 4000000 in
theorem ops_arg0 (V : Valuation τ sig (Elt F)) :
    after (ops (F := F)) V (Proc.devRef .tc main_arg0) = V (Proc.devRef .tc main_arg0) := by
  simp only [ops, TRef.nullary, TRef.ternary,
    TRef.quaternary, TRef.binary, TRef.unary, TRef.reshape, TRef.toBuf, TRef.ofBuf, cast_eq]
  after_results

set_option maxHeartbeats 4000000 in
theorem ops_arg1 (V : Valuation τ sig (Elt F)) :
    after (ops (F := F)) V (Proc.devRef .tc main_arg1) = V (Proc.devRef .tc main_arg1) := by
  simp only [ops, TRef.nullary, TRef.ternary,
    TRef.quaternary, TRef.binary, TRef.unary, TRef.reshape, TRef.toBuf, TRef.ofBuf, cast_eq]
  after_results

set_option maxHeartbeats 4000000 in
theorem ops_arg2 (V : Valuation τ sig (Elt F)) :
    after (ops (F := F)) V (Proc.devRef .tc main_arg2) = V (Proc.devRef .tc main_arg2) := by
  simp only [ops, TRef.nullary, TRef.ternary,
    TRef.quaternary, TRef.binary, TRef.unary, TRef.reshape, TRef.toBuf, TRef.ofBuf, cast_eq]
  after_results

set_option maxHeartbeats 4000000 in
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq no_scoped_refs no_scoped_sems defs main (fun _ => ops) main_eq (fun _ => ops_sub) m ρ

end Cert.Proof.WholeRef

end
-- ==== Proof.WholeClaims.lean ====
/-
  The claims about the whole kernel: that it ends, and that for finite points and queries it leaves what its reference
  leaves.
-/
module

public import proofs.«01_k».proof.Defs
public import proofs.«01_k».proof.Proof.WholeRun
public import proofs.«01_k».proof.Proof.NearRange
public import proofs.«01_k».proof.Proof.NearClaims
public import proofs.«01_k».proof.Proof.VoteClaims
public import proofs.«01_k».proof.Proof.WholeRefRun
public import proofs.«01_k».proof.Proof.Gen.Pre_finite_points
public import Idealize.ShloMosaic.Lib.Pipeline.Value

@[expose] public section

noncomputable section

namespace Cert.KernelIdeal.Near

open Cert.KernelIdeal Cert.KernelIdeal.Gen Idealize.ShloMosaic Idealize.ShloMosaic.TcCoe Idealize.SL.Sem Idealize.ShloMosaic.ValueIdx

variable {F : FTy → Type} [FloatOps F] [Named F] (m : (ℓ : Loc nD τ sig) → Buf (Elt F) ℓ)

theorem last_point : 49 < cfg0.N := lt_of_lt_of_eq (by decide) N_0.symm

/-- The result's block is the whole array at every point. -/
theorem index_zero : ∀ t : Fin cfg0.N, win0_2.index t (0 : Fin 2) = 0 ∧ win0_2.index t (1 : Fin 2) = 0 :=
  (by decide +kernel : ∀ t : Fin grid0.N, _)

theorem block_at (t : Fin cfg0.N) (y : S8x1024.Idx) : ((cfg0.win 2).blk t).view.emb y = y := by
  obtain ⟨e0, e1⟩ := index_zero t
  funext a
  refine Fin.ext ?_
  match a with
  | ⟨0, _⟩ => show win0_2.index t (0 : Fin 2) * 8 + 1 * (y 0).val = (y 0).val; omega
  | ⟨1, _⟩ => show win0_2.index t (1 : Fin 2) * 1024 + 1 * (y 1).val = (y 1).val; omega

theorem read_block (t : Fin cfg0.N) (G : S8x1024.Idx → Elt F .i32) :
    (cfg0.win 2).cut (grid0.coords t) G = ((cfg0.win 2).blk t).view.read (Elt F) G := by
  funext y
  show G ((cfg0.win 2).xinj (grid0.coords t) y) = G (((cfg0.win 2).blk t).view.emb y)
  exact congrArg G (block_at t y).symm

theorem flushed_at (c : Dev nD) (t : Fin cfg0.N) (h : t.val < cfg0.N) :
    (dats m 0 c).flushed 2 t = ((cfg0.win 2).blk t).view.read (Elt F) (outsAt0 m c t.val h).1 := by
  show (cfg0.win 2).cut (grid0.coords t) ((dats m 0 c).after 2 t) = _
  rw [after0_2]
  exact read_block t _

theorem point_last (t : Fin cfg0.N) (hf : (cfg0.win 2).flush t = true) : t.val = 49 := by
  have h1 := (flush0_2 t).mp hf
  have h2 := lt_of_lt_of_eq t.isLt (show cfg0.N = 50 from N_0)
  omega

theorem flushed_last (c : Dev nD) (G : S8x1024.Idx → Elt F .i32) (hG : (outsAt0 m c 49 last_point).1 = G)
    (t : Fin cfg0.N) (ht : t.val = 49) : (dats m 0 c).flushed 2 t = ((cfg0.win 2).blk t).view.read (Elt F) G := by
  obtain ⟨n, h⟩ := t
  dsimp only at ht
  subst ht
  rw [flushed_at m c ⟨49, h⟩ h, hG]

theorem block_all (t : Fin cfg0.N) (i : S8x1024.Idx) : i ∈ ((cfg0.win 2).blk t).view.set := by
  obtain ⟨e0, e1⟩ := index_zero t
  have h0 : (i 0).val < 8 := (i 0).isLt
  have h1 : (i 1).val < 1024 := (i 1).isLt
  show i ∈ ((View.whole main_v1).slice (win0_2.rect t)).set
  rw [View.set_slice_whole, Rect.mem_set_unit]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1024 ≤ (i 1).val ∧ (i 1).val < win0_2.index t (1 : Fin 2) * 1024 + 1024; omega

theorem covered (G : S8x1024.Idx → Elt F .i32) (c : Dev nD)
    (h : ∀ t : Fin cfg0.N, (cfg0.win 2).flush t = true → (dats m 0 c).flushed 2 t = ((cfg0.win 2).blk t).view.read (Elt F) G) :
    (dats m 0 c).arrAt 2 cfg0.N = G :=
  (dats m 0 c).arrAt_eq_of_cover 2 G h fun i =>
    ⟨⟨49, last_point⟩, (flush0_2 _).mpr rfl, block_all _ i⟩

/-- After the call its result's array is what the last point left. -/
theorem final (c : Dev nD) : (dats m 0 c).arrAt 2 cfg0.N = (outsAt0 m c 49 last_point).1 := by
  generalize hG : (outsAt0 m c 49 last_point).1 = G
  exact covered m G c fun t hf => flushed_last m c G hG t (point_last t hf)

end Cert.KernelIdeal.Near

namespace Cert.Proof.Whole

open Cert.KernelIdeal Cert.KernelIdeal.Gen Idealize.ShloMosaic Idealize.ShloMosaic.TcCoe Idealize.SL.Sem Idealize.ShloMosaic.ValueIdx
open Cert.Proof.Near (word column pick_mem finite_of_all)

variable (m : (ℓ : Loc nD τ sig) → Buf (Elt Ideal) ℓ)

theorem rows_finite (hm : Cert.Pre_KernelIdeal_finite_points m) (c : Dev nD) (p : Fin 100000) (k : Fin 32) :
    ∃ r : ℝ, Cert.KernelIdeal.Near.rowsOf m c p k = r := by
  have h := (hm c).1
  unfold Cert.Pre_finite_points.fn at h
  dsimp only at h
  exact finite_of_all _ _ _ _ _ h ix0 (ix2 p k)

theorem queries_finite (hm : Cert.Pre_KernelIdeal_finite_points m) (c : Dev nD) (x : Fin 1024) (k : Fin 32) :
    ∃ r : ℝ, Cert.KernelIdeal.Near.queryOf m c x k = r := by
  have h := (hm c).2
  unfold Cert.Pre_finite_points.fn at h
  dsimp only at h
  exact finite_of_all _ _ _ _ _ h ix0 (ix2 x k)

/-- The numbers the first call keeps: each query's nearest rows, then no row. -/
theorem kept_apply (hm : Cert.Pre_KernelIdeal_finite_points m) (c : Dev nD) (j : Fin 8) (x : Fin 1024) :
    kept m c (ix2 j x) = word (Cert.KernelIdeal.Near.rowsOf m c) (Cert.KernelIdeal.Near.queryOf m c x) j := by
  unfold kept
  rw [Cert.KernelIdeal.Near.final]
  exact Cert.KernelIdeal.Near.stored m c (rows_finite m hm c) (queries_finite m hm c) _ j x

/-- A nearest row's number is a row number. -/
theorem pick_lt (X : Fin 100000 → Fin 32 → EReal) (q : Fin 32 → EReal) (j : Fin 5) :
    Cert.Proof.Near.pick (column X q) (Finset.range 100000) j < 100000 :=
  Finset.mem_range.mp (Finset.mem_sdiff.mp (pick_mem (by rw [Finset.card_range]; omega))).1

/-- The first five numbers the first call keeps, as the reference's. -/
theorem kept_five (hm : Cert.Pre_KernelIdeal_finite_points m) (c : Dev nD) (j : Fin 5) (x : Fin 1024) :
    kept m c (ix2 (Fin.castLE (by decide) j) x)
      = Cert.TopKReferenceIdeal.Near.five (m ((c : Thread nD τ).loc main_arg0)) (m ((c : Thread nD τ).loc main_arg1)) (ix2 x j) := by
  rw [kept_apply m hm, Cert.TopKReferenceIdeal.Near.five_apply]
  unfold word
  exact if_pos j.isLt

theorem five_lt (X : FVec Ideal S100000x32 .f32) (Q : FVec Ideal S1024x32 .f32) (x : Fin 1024) (j : Fin 5) :
    (Cert.TopKReferenceIdeal.Near.five X Q (ix2 x j)).toNat < 100000 := by
  rw [Cert.TopKReferenceIdeal.Near.five_apply, BitVec.toNat_ofNat]
  exact lt_of_le_of_lt (Nat.mod_le _ _) (pick_lt _ _ j)

/-- The first five numbers the first call keeps are rows of the table, for any points and queries. -/
theorem ok : (B₀ m).Ok := fun d j x => by
  show (kept m d (ix2 (Fin.castLE (by decide) j) x)).toNat < 100000
  unfold kept
  rw [Cert.KernelIdeal.Near.final]
  exact Cert.KernelIdeal.Near.stored_valid m d _ _ j.isLt x

theorem ends (ρ : Dev nD → PrngReg) :
    θ_run defs (threads (F := Ideal)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run Cert.KernelIdeal.defs _ _).mono (fun _ h => ⟨fun c => ⟨(h.1 c).1, (h.1 c).2.1, (h.1 c).2.2.1⟩, h.2⟩)
    (run_main (F := Ideal) m ρ (ok m))

/-- The whole kernel ends, its arguments as they were and every counter at zero. -/
theorem frame : Cert.quiescent_KernelIdeal := fun m ρ _ => ends m ρ

theorem frame_finite : Cert.quiescent_KernelIdeal_pre_finite_points := fun m ρ _ => ends m ρ

end Cert.Proof.Whole

namespace Cert.Proof.WholeRef

open Cert.ReferenceIdeal Cert.ReferenceIdeal.Gen Idealize.ShloMosaic Idealize.ShloMosaic.TcCoe Idealize.SL.Sem Idealize.ShloMosaic.ValueIdx

/-- The reference has no semaphores, so its counters are zero in any state. -/
theorem sems_zero (s : MemSt nD τ sig (Elt Ideal)) : s.sem = fun _ => 0 := by
  funext g
  match g with
  | (_, .reg k) => exact k.elim0
  | (_, .dma k) => exact k.elim0

/-- The reference ends, leaves its arguments as they were and no counter raised. -/
theorem ends (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_arg0).trans (ops_arg0 _), (h c main_arg1).trans (ops_arg1 _),
    (h c main_arg2).trans (ops_arg2 _)⟩, sems_zero r.2⟩) (run_all m ρ)

theorem frame : Cert.quiescent_ReferenceIdeal := fun m ρ _ => ends m ρ

theorem frame_finite : Cert.quiescent_ReferenceIdeal_pre_finite_points := fun m ρ _ => ends m ρ

/-- The reference's winner at a query: the vote of the labels of its five nearest rows. -/
theorem winner (X : FVec Ideal S100000x32 .f32) (Q : FVec Ideal S1024x32 .f32) (y : IVec S100000 32) (x : Fin 1024) :
    Cert.Proof.VoteRef.winT (Cert.Proof.VoteRef.takeT y (Cert.TopKReferenceIdeal.Near.five X Q)) (ix1 x)
      = vote5 fun j => y (ix1 (Fin.ofNat 100000 (Cert.TopKReferenceIdeal.Near.five X Q (ix2 x j)).toNat)) := by
  rw [Cert.Proof.VoteRef.winT_apply]
  exact congrArg vote5 (funext fun j => Cert.Proof.VoteRef.takeT_apply _ _ _ _ (Cert.Proof.Whole.five_lt X Q x j))

end Cert.Proof.WholeRef

namespace Cert.Proof.Whole

open Idealize.ShloMosaic Idealize.ShloMosaic.TcCoe Idealize.SL.Sem Idealize.ShloMosaic.ValueIdx

/-- What both leave: at each query the vote of the labels of its five nearest rows. -/
def winners (m : (ℓ : Loc Cert.KernelIdeal.nD Cert.KernelIdeal.τ Cert.KernelIdeal.sig) → Buf (Elt Ideal) ℓ) (c : Dev Cert.KernelIdeal.nD) : IVec Cert.KernelIdeal.S1024 32 :=
  fun x => vote5 fun j => m (yLoc c) (ix1 (Fin.ofNat 100000 (Cert.TopKReferenceIdeal.Near.five
    (m ((c : Thread Cert.KernelIdeal.nD Cert.KernelIdeal.τ).loc Cert.KernelIdeal.main_arg0))
    (m ((c : Thread Cert.KernelIdeal.nD Cert.KernelIdeal.τ).loc Cert.KernelIdeal.main_arg1)) (ix2 (x 0) j)).toNat))

theorem ans_eq (m : (ℓ : Loc Cert.KernelIdeal.nD Cert.KernelIdeal.τ Cert.KernelIdeal.sig) → Buf (Elt Ideal) ℓ) (hm : Cert.Pre_KernelIdeal_finite_points m)
    (c : Dev Cert.KernelIdeal.nD) : (B₀ m).ans c = winners m c := by
  funext x
  refine congrArg vote5 (funext fun j => ?_)
  exact congrArg (fun w : BitVec 32 => m (yLoc c) (ix1 (Fin.ofNat 100000 w.toNat))) (kept_five m hm c j (x 0))

theorem agree : Cert.algebraic_KernelIdeal_ReferenceIdeal_pre_finite_points := fun m ρ m' ρ' hpre hargs =>
  ⟨winners m,
    (θ_run Cert.KernelIdeal.defs _ _).mono (fun _ h c => ⟨(h.1 c).2.2.2.trans (ans_eq m hpre c), (h.1 c).1, (h.1 c).2.1, (h.1 c).2.2.1⟩)
      (run_main (F := Ideal) m ρ (ok m)),
    (θ_run Cert.ReferenceIdeal.defs _ _).mono (fun r h c => ⟨by
        refine (h c Cert.ReferenceIdeal.main_v32).trans ((Cert.Proof.WholeRef.ops_res _).trans ?_)
        funext x
        obtain ⟨e0, e1, e2⟩ := hargs c
        obtain ⟨x, rfl⟩ : ∃ k : Fin 1024, x = ix1 k := ⟨x 0, by funext a; match a with | ⟨0, _⟩ => rfl⟩
        refine (Cert.Proof.WholeRef.winner _ _ _ x).trans ?_
        have h3 : ∀ {X X' : FVec Ideal Cert.KernelIdeal.S100000x32 .f32} {Q Q' : FVec Ideal Cert.KernelIdeal.S1024x32 .f32}
            {y y' : IVec Cert.KernelIdeal.S100000 32}, X = X' → Q = Q' → y = y' →
            (vote5 fun j => y (ix1 (Fin.ofNat 100000 (Cert.TopKReferenceIdeal.Near.five X Q (ix2 x j)).toNat)))
              = vote5 fun j => y' (ix1 (Fin.ofNat 100000 (Cert.TopKReferenceIdeal.Near.five X' Q' (ix2 x j)).toNat)) := by
          rintro _ _ _ _ _ _ rfl rfl rfl; rfl
        exact h3 e0 e1 e2,
      (h c Cert.ReferenceIdeal.main_arg0).trans (Cert.Proof.WholeRef.ops_arg0 _),
      (h c Cert.ReferenceIdeal.main_arg1).trans (Cert.Proof.WholeRef.ops_arg1 _),
      (h c Cert.ReferenceIdeal.main_arg2).trans (Cert.Proof.WholeRef.ops_arg2 _)⟩) (Cert.Proof.WholeRef.run_all m' ρ')⟩

end Cert.Proof.Whole

end
-- ==== Proof.lean ====
/-
  The certificate of the claims stated in Defs.lean.
-/
module

public import proofs.«01_k».proof.Defs
public import proofs.«01_k».proof.Proof.TopKFrames
public import proofs.«01_k».proof.Proof.NearClaims
public import proofs.«01_k».proof.Proof.VoteClaims
public import proofs.«01_k».proof.Proof.WholeClaims

@[expose] public section

noncomputable section

namespace Cert.Proof

open Idealize.ShloMosaic Idealize.SL.Sem

theorem claim : Cert.Claim :=
  ⟨Cert.KernelIdeal.Gen.facts, Cert.ReferenceIdeal.Gen.facts, Cert.TopK.Gen.facts, Cert.TopKIdeal.Gen.facts,
    Cert.TopKReferenceIdeal.Gen.facts, Cert.Vote.Gen.facts, Cert.VoteReference.Gen.facts, Cert.Pre_finite_points.Gen.facts,
    Cert.Pre_finite_rows.Gen.facts, Cert.Pre_rows_in_range.Gen.facts,
    Whole.frame, Whole.frame_finite, WholeRef.frame, WholeRef.frame_finite, Near.frame, Near.frame_ideal, Near.frame_ideal_finite,
    Near.frame_reference, Near.frame_reference_finite, Vote.frame, VoteRef.frame, VoteRef.frame_in_range, Whole.agree,
    Near.preserves, Near.agree, VoteRef.agree⟩

end Cert.Proof

end
